-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x64 : Shape := ⟨2, ![4096, 64]⟩
abbrev S2x128x4096 : Shape := ⟨3, ![2, 128, 4096]⟩
abbrev S2x4 : Shape := ⟨2, ![2, 4]⟩
abbrev S_ : Shape := ⟨0, ![]⟩
abbrev S5x8x128 : Shape := ⟨3, ![5, 8, 128]⟩
abbrev S5 : Shape := ⟨1, ![5]⟩
abbrev S128x64 : Shape := ⟨2, ![128, 64]⟩
abbrev S1x128x64 : Shape := ⟨3, ![1, 128, 64]⟩
abbrev S1 : Shape := ⟨1, ![1]⟩
abbrev S1x1x1 : Shape := ⟨3, ![1, 1, 1]⟩
abbrev S1x1 : Shape := ⟨2, ![1, 1]⟩
abbrev S1x32x4096 : Shape := ⟨3, ![1, 32, 4096]⟩
abbrev S32x4096 : Shape := ⟨2, ![32, 4096]⟩
abbrev S1x128x4096 : Shape := ⟨3, ![1, 128, 4096]⟩
abbrev S1x64x4096 : Shape := ⟨3, ![1, 64, 4096]⟩
abbrev S64x4096 : Shape := ⟨2, ![64, 4096]⟩
abbrev S64x64 : Shape := ⟨2, ![64, 64]⟩
abbrev S1x64x64 : Shape := ⟨3, ![1, 64, 64]⟩
abbrev S8x128 : Shape := ⟨2, ![8, 128]⟩
abbrev S1x8x128 : Shape := ⟨3, ![1, 8, 128]⟩

abbrev nBuf : Space → Nat
  | .hbm => 3
  | .vmem => 7
  | .smem => 0
  | _ => 0

abbrev bufTy : (tb : Table) → Fin (tcTables nBuf tb) → BufTy
  | .hbm, ⟨0, _⟩ => ⟨S128x4096, .f32⟩
  | .hbm, ⟨1, _⟩ => ⟨S4096x64, .f32⟩
  | .hbm, ⟨2, _⟩ => ⟨S4096x64, .f32⟩
  | .local _ .vmem, ⟨0, _⟩ => ⟨S128x4096, .f32⟩
  | .local _ .vmem, ⟨1, _⟩ => ⟨S4096x64, .f32⟩
  | .local _ .vmem, ⟨2, _⟩ => ⟨S4096x64, .f32⟩
  | .local _ .vmem, ⟨3, _⟩ => ⟨S2x128x4096, .f32⟩
  | .local _ .vmem, ⟨4, _⟩ => ⟨S2x128x4096, .f32⟩
  | .local _ .vmem, ⟨5, _⟩ => ⟨S5x8x128, .f32⟩
  | .local _ .vmem, ⟨6, _⟩ => ⟨S5x8x128, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 3 45 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch8 : Ref sig .tc := ⟨.vmem, 5, rfl⟩
abbrev cc0_scratch9 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_164 : BitVec 32 := 1#32
  let v195 : BitVec 32 := Scalar.muli v193 c1_i32_164
  let v196 : BitVec 32 := Scalar.addi c0_i32_165 v195
  v196.toNat
def k0_dev2 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_167 : BitVec 32 := 1#32
  let v197 : BitVec 32 := Scalar.muli v128 c1_i32_167
  let v198 : BitVec 32 := Scalar.addi c0_i32_168 v197
  v198.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v206 : BitVec 32 := Scalar.muli v2 c128_i32
  let v207 : Index := Scalar.indexCast v206
  let c0_174 : Index := 0#32
  ![v207.toNat, 0]
def k0_dev3 (d0 : Dev nD) : Nat :=
  let c0_i32_182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_181 : BitVec 32 := 1#32
  let v213 : BitVec 32 := Scalar.muli v128 c1_i32_181
  let v214 : BitVec 32 := Scalar.addi c0_i32_182 v213
  v214.toNat
def k0_dev4 (d0 : Dev nD) : Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_192 : BitVec 32 := 1#32
  let v222 : BitVec 32 := Scalar.muli v193 c1_i32_192
  let v223 : BitVec 32 := Scalar.addi c0_i32_193 v222
  v223.toNat
def k0_dev5 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_203 : BitVec 32 := 1#32
  let v231 : BitVec 32 := Scalar.muli v128 c1_i32_203
  let v232 : BitVec 32 := Scalar.addi c0_i32_204 v231
  v232.toNat
def k0_dev6 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_214 : BitVec 32 := 1#32
  let v240 : BitVec 32 := Scalar.muli v193 c1_i32_214
  let v241 : BitVec 32 := Scalar.addi c0_i32_215 v240
  v241.toNat
def k0_dev7 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_225 : BitVec 32 := 1#32
  let v249 : BitVec 32 := Scalar.muli v128 c1_i32_225
  let v250 : BitVec 32 := Scalar.addi c0_i32_226 v249
  v250.toNat
def k0_dev8 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_235 : BitVec 32 := 1#32
  let v258 : BitVec 32 := Scalar.muli v193 c1_i32_235
  let v259 : BitVec 32 := Scalar.addi c0_i32_236 v258
  v259.toNat
def k0_dev9 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_246 : BitVec 32 := 1#32
  let v267 : BitVec 32 := Scalar.muli v128 c1_i32_246
  let v268 : BitVec 32 := Scalar.addi c0_i32_247 v267
  v268.toNat
def k0_dev10 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_256 : BitVec 32 := 1#32
  let v276 : BitVec 32 := Scalar.muli v193 c1_i32_256
  let v277 : BitVec 32 := Scalar.addi c0_i32_257 v276
  v277.toNat
def k0_dev11 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_289 : BitVec 32 := 1#32
  let v297 : BitVec 32 := Scalar.muli v128 c1_i32_289
  let v298 : BitVec 32 := Scalar.addi c0_i32_290 v297
  v298.toNat
def k0_dev12 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_322 : BitVec 32 := 1#32
  let v319 : BitVec 32 := Scalar.muli v128 c1_i32_322
  let v320 : BitVec 32 := Scalar.addi c0_i32_323 v319
  v320.toNat
def k0_dev13 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_355 : BitVec 32 := 1#32
  let v341 : BitVec 32 := Scalar.muli v128 c1_i32_355
  let v342 : BitVec 32 := Scalar.addi c0_i32_356 v341
  v342.toNat
def k0_dev14 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_388 : BitVec 32 := 1#32
  let v363 : BitVec 32 := Scalar.muli v128 c1_i32_388
  let v364 : BitVec 32 := Scalar.addi c0_i32_389 v363
  v364.toNat
def k0_dev15 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_421 : BitVec 32 := 1#32
  let v385 : BitVec 32 := Scalar.muli v193 c1_i32_421
  let v386 : BitVec 32 := Scalar.addi c0_i32_422 v385
  v386.toNat
def k0_dev16 (d0 : Dev nD) : Nat :=
  let c0_i32_455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_454 : BitVec 32 := 1#32
  let v407 : BitVec 32 := Scalar.muli v193 c1_i32_454
  let v408 : BitVec 32 := Scalar.addi c0_i32_455 v407
  v408.toNat
def k0_dev17 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_487 : BitVec 32 := 1#32
  let v429 : BitVec 32 := Scalar.muli v193 c1_i32_487
  let v430 : BitVec 32 := Scalar.addi c0_i32_488 v429
  v430.toNat
def k0_dev18 (d0 : Dev nD) : Nat :=
  let c0_i32_521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_520 : BitVec 32 := 1#32
  let v451 : BitVec 32 := Scalar.muli v193 c1_i32_520
  let v452 : BitVec 32 := Scalar.addi c0_i32_521 v451
  v452.toNat
def k0_off2 (d0 : Dev nD) (c0_i32_527 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_526 : BitVec 32 := 1#32
  let v461 : BitVec 32 := Scalar.subi v64 c1_i32_526
  let v462 : BitVec 32 := Scalar.subi v461 c0_i32_527
  let c32_i32_528 : BitVec 32 := 32#32
  let v463 : BitVec 32 := Scalar.addi v462 c32_i32_528
  let c32_i32_529 : BitVec 32 := 32#32
  let v464 : BitVec 32 := Scalar.remsi v463 c32_i32_529
  let c31_i32_591 : BitVec 32 := 31#32
  let v525 : BitVec 1 := Scalar.cmpi .eq v464 c31_i32_591
  let c3_i32_592 : BitVec 32 := 3#32
  let c30_i32_589 : BitVec 32 := 30#32
  let v523 : BitVec 1 := Scalar.cmpi .eq v464 c30_i32_589
  let c11_i32_590 : BitVec 32 := 11#32
  let c29_i32_587 : BitVec 32 := 29#32
  let v521 : BitVec 1 := Scalar.cmpi .eq v464 c29_i32_587
  let c19_i32_588 : BitVec 32 := 19#32
  let c28_i32_585 : BitVec 32 := 28#32
  let v519 : BitVec 1 := Scalar.cmpi .eq v464 c28_i32_585
  let c27_i32_586 : BitVec 32 := 27#32
  let c27_i32_583 : BitVec 32 := 27#32
  let v517 : BitVec 1 := Scalar.cmpi .eq v464 c27_i32_583
  let c28_i32_584 : BitVec 32 := 28#32
  let c26_i32_581 : BitVec 32 := 26#32
  let v515 : BitVec 1 := Scalar.cmpi .eq v464 c26_i32_581
  let c20_i32_582 : BitVec 32 := 20#32
  let c25_i32_579 : BitVec 32 := 25#32
  let v513 : BitVec 1 := Scalar.cmpi .eq v464 c25_i32_579
  let c12_i32_580 : BitVec 32 := 12#32
  let c24_i32_577 : BitVec 32 := 24#32
  let v511 : BitVec 1 := Scalar.cmpi .eq v464 c24_i32_577
  let c4_i32_578 : BitVec 32 := 4#32
  let c23_i32_575 : BitVec 32 := 23#32
  let v509 : BitVec 1 := Scalar.cmpi .eq v464 c23_i32_575
  let c7_i32_576 : BitVec 32 := 7#32
  let c22_i32_573 : BitVec 32 := 22#32
  let v507 : BitVec 1 := Scalar.cmpi .eq v464 c22_i32_573
  let c15_i32_574 : BitVec 32 := 15#32
  let c21_i32_571 : BitVec 32 := 21#32
  let v505 : BitVec 1 := Scalar.cmpi .eq v464 c21_i32_571
  let c23_i32_572 : BitVec 32 := 23#32
  let c20_i32_569 : BitVec 32 := 20#32
  let v503 : BitVec 1 := Scalar.cmpi .eq v464 c20_i32_569
  let c31_i32_570 : BitVec 32 := 31#32
  let c19_i32_567 : BitVec 32 := 19#32
  let v501 : BitVec 1 := Scalar.cmpi .eq v464 c19_i32_567
  let c30_i32_568 : BitVec 32 := 30#32
  let c18_i32_565 : BitVec 32 := 18#32
  let v499 : BitVec 1 := Scalar.cmpi .eq v464 c18_i32_565
  let c22_i32_566 : BitVec 32 := 22#32
  let c17_i32_563 : BitVec 32 := 17#32
  let v497 : BitVec 1 := Scalar.cmpi .eq v464 c17_i32_563
  let c14_i32_564 : BitVec 32 := 14#32
  let c16_i32_561 : BitVec 32 := 16#32
  let v495 : BitVec 1 := Scalar.cmpi .eq v464 c16_i32_561
  let c6_i32_562 : BitVec 32 := 6#32
  let c15_i32_559 : BitVec 32 := 15#32
  let v493 : BitVec 1 := Scalar.cmpi .eq v464 c15_i32_559
  let c5_i32_560 : BitVec 32 := 5#32
  let c14_i32_557 : BitVec 32 := 14#32
  let v491 : BitVec 1 := Scalar.cmpi .eq v464 c14_i32_557
  let c13_i32_558 : BitVec 32 := 13#32
  let c13_i32_555 : BitVec 32 := 13#32
  let v489 : BitVec 1 := Scalar.cmpi .eq v464 c13_i32_555
  let c21_i32_556 : BitVec 32 := 21#32
  let c12_i32_553 : BitVec 32 := 12#32
  let v487 : BitVec 1 := Scalar.cmpi .eq v464 c12_i32_553
  let c29_i32_554 : BitVec 32 := 29#32
  let c11_i32_551 : BitVec 32 := 11#32
  let v485 : BitVec 1 := Scalar.cmpi .eq v464 c11_i32_551
  let c26_i32_552 : BitVec 32 := 26#32
  let c10_i32_549 : BitVec 32 := 10#32
  let v483 : BitVec 1 := Scalar.cmpi .eq v464 c10_i32_549
  let c18_i32_550 : BitVec 32 := 18#32
  let c9_i32_547 : BitVec 32 := 9#32
  let v481 : BitVec 1 := Scalar.cmpi .eq v464 c9_i32_547
  let c10_i32_548 : BitVec 32 := 10#32
  let c8_i32_545 : BitVec 32 := 8#32
  let v479 : BitVec 1 := Scalar.cmpi .eq v464 c8_i32_545
  let c2_i32_546 : BitVec 32 := 2#32
  let c7_i32_543 : BitVec 32 := 7#32
  let v477 : BitVec 1 := Scalar.cmpi .eq v464 c7_i32_543
  let c1_i32_544 : BitVec 32 := 1#32
  let c6_i32_541 : BitVec 32 := 6#32
  let v475 : BitVec 1 := Scalar.cmpi .eq v464 c6_i32_541
  let c9_i32_542 : BitVec 32 := 9#32
  let c5_i32_539 : BitVec 32 := 5#32
  let v473 : BitVec 1 := Scalar.cmpi .eq v464 c5_i32_539
  let c17_i32_540 : BitVec 32 := 17#32
  let c4_i32_537 : BitVec 32 := 4#32
  let v471 : BitVec 1 := Scalar.cmpi .eq v464 c4_i32_537
  let c25_i32_538 : BitVec 32 := 25#32
  let c3_i32_535 : BitVec 32 := 3#32
  let v469 : BitVec 1 := Scalar.cmpi .eq v464 c3_i32_535
  let c24_i32_536 : BitVec 32 := 24#32
  let c2_i32_533 : BitVec 32 := 2#32
  let v467 : BitVec 1 := Scalar.cmpi .eq v464 c2_i32_533
  let c16_i32_534 : BitVec 32 := 16#32
  let c1_i32_530 : BitVec 32 := 1#32
  let v465 : BitVec 1 := Scalar.cmpi .eq v464 c1_i32_530
  let c8_i32_531 : BitVec 32 := 8#32
  let c0_i32_532 : BitVec 32 := 0#32
  let v466 : BitVec 32 := Scalar.select v465 c8_i32_531 c0_i32_532
  let v468 : BitVec 32 := Scalar.select v467 c16_i32_534 v466
  let v470 : BitVec 32 := Scalar.select v469 c24_i32_536 v468
  let v472 : BitVec 32 := Scalar.select v471 c25_i32_538 v470
  let v474 : BitVec 32 := Scalar.select v473 c17_i32_540 v472
  let v476 : BitVec 32 := Scalar.select v475 c9_i32_542 v474
  let v478 : BitVec 32 := Scalar.select v477 c1_i32_544 v476
  let v480 : BitVec 32 := Scalar.select v479 c2_i32_546 v478
  let v482 : BitVec 32 := Scalar.select v481 c10_i32_548 v480
  let v484 : BitVec 32 := Scalar.select v483 c18_i32_550 v482
  let v486 : BitVec 32 := Scalar.select v485 c26_i32_552 v484
  let v488 : BitVec 32 := Scalar.select v487 c29_i32_554 v486
  let v490 : BitVec 32 := Scalar.select v489 c21_i32_556 v488
  let v492 : BitVec 32 := Scalar.select v491 c13_i32_558 v490
  let v494 : BitVec 32 := Scalar.select v493 c5_i32_560 v492
  let v496 : BitVec 32 := Scalar.select v495 c6_i32_562 v494
  let v498 : BitVec 32 := Scalar.select v497 c14_i32_564 v496
  let v500 : BitVec 32 := Scalar.select v499 c22_i32_566 v498
  let v502 : BitVec 32 := Scalar.select v501 c30_i32_568 v500
  let v504 : BitVec 32 := Scalar.select v503 c31_i32_570 v502
  let v506 : BitVec 32 := Scalar.select v505 c23_i32_572 v504
  let v508 : BitVec 32 := Scalar.select v507 c15_i32_574 v506
  let v510 : BitVec 32 := Scalar.select v509 c7_i32_576 v508
  let v512 : BitVec 32 := Scalar.select v511 c4_i32_578 v510
  let v514 : BitVec 32 := Scalar.select v513 c12_i32_580 v512
  let v516 : BitVec 32 := Scalar.select v515 c20_i32_582 v514
  let v518 : BitVec 32 := Scalar.select v517 c28_i32_584 v516
  let v520 : BitVec 32 := Scalar.select v519 c27_i32_586 v518
  let v522 : BitVec 32 := Scalar.select v521 c19_i32_588 v520
  let v524 : BitVec 32 := Scalar.select v523 c11_i32_590 v522
  let v526 : BitVec 32 := Scalar.select v525 c3_i32_592 v524
  let c128_i32_664 : BitVec 32 := 128#32
  let v597 : BitVec 32 := Scalar.muli v526 c128_i32_664
  let v598 : Index := Scalar.indexCast v597
  let c0_665 : Index := 0#32
  ![v598.toNat, 0]
def k0_off3 (d0 : Dev nD) (c0_i32_594 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_593 : BitVec 32 := 1#32
  let v527 : BitVec 32 := Scalar.addi v64 c1_i32_593
  let v528 : BitVec 32 := Scalar.addi v527 c0_i32_594
  let c32_i32_595 : BitVec 32 := 32#32
  let v529 : BitVec 32 := Scalar.remsi v528 c32_i32_595
  let c31_i32_657 : BitVec 32 := 31#32
  let v590 : BitVec 1 := Scalar.cmpi .eq v529 c31_i32_657
  let c3_i32_658 : BitVec 32 := 3#32
  let c30_i32_655 : BitVec 32 := 30#32
  let v588 : BitVec 1 := Scalar.cmpi .eq v529 c30_i32_655
  let c11_i32_656 : BitVec 32 := 11#32
  let c29_i32_653 : BitVec 32 := 29#32
  let v586 : BitVec 1 := Scalar.cmpi .eq v529 c29_i32_653
  let c19_i32_654 : BitVec 32 := 19#32
  let c28_i32_651 : BitVec 32 := 28#32
  let v584 : BitVec 1 := Scalar.cmpi .eq v529 c28_i32_651
  let c27_i32_652 : BitVec 32 := 27#32
  let c27_i32_649 : BitVec 32 := 27#32
  let v582 : BitVec 1 := Scalar.cmpi .eq v529 c27_i32_649
  let c28_i32_650 : BitVec 32 := 28#32
  let c26_i32_647 : BitVec 32 := 26#32
  let v580 : BitVec 1 := Scalar.cmpi .eq v529 c26_i32_647
  let c20_i32_648 : BitVec 32 := 20#32
  let c25_i32_645 : BitVec 32 := 25#32
  let v578 : BitVec 1 := Scalar.cmpi .eq v529 c25_i32_645
  let c12_i32_646 : BitVec 32 := 12#32
  let c24_i32_643 : BitVec 32 := 24#32
  let v576 : BitVec 1 := Scalar.cmpi .eq v529 c24_i32_643
  let c4_i32_644 : BitVec 32 := 4#32
  let c23_i32_641 : BitVec 32 := 23#32
  let v574 : BitVec 1 := Scalar.cmpi .eq v529 c23_i32_641
  let c7_i32_642 : BitVec 32 := 7#32
  let c22_i32_639 : BitVec 32 := 22#32
  let v572 : BitVec 1 := Scalar.cmpi .eq v529 c22_i32_639
  let c15_i32_640 : BitVec 32 := 15#32
  let c21_i32_637 : BitVec 32 := 21#32
  let v570 : BitVec 1 := Scalar.cmpi .eq v529 c21_i32_637
  let c23_i32_638 : BitVec 32 := 23#32
  let c20_i32_635 : BitVec 32 := 20#32
  let v568 : BitVec 1 := Scalar.cmpi .eq v529 c20_i32_635
  let c31_i32_636 : BitVec 32 := 31#32
  let c19_i32_633 : BitVec 32 := 19#32
  let v566 : BitVec 1 := Scalar.cmpi .eq v529 c19_i32_633
  let c30_i32_634 : BitVec 32 := 30#32
  let c18_i32_631 : BitVec 32 := 18#32
  let v564 : BitVec 1 := Scalar.cmpi .eq v529 c18_i32_631
  let c22_i32_632 : BitVec 32 := 22#32
  let c17_i32_629 : BitVec 32 := 17#32
  let v562 : BitVec 1 := Scalar.cmpi .eq v529 c17_i32_629
  let c14_i32_630 : BitVec 32 := 14#32
  let c16_i32_627 : BitVec 32 := 16#32
  let v560 : BitVec 1 := Scalar.cmpi .eq v529 c16_i32_627
  let c6_i32_628 : BitVec 32 := 6#32
  let c15_i32_625 : BitVec 32 := 15#32
  let v558 : BitVec 1 := Scalar.cmpi .eq v529 c15_i32_625
  let c5_i32_626 : BitVec 32 := 5#32
  let c14_i32_623 : BitVec 32 := 14#32
  let v556 : BitVec 1 := Scalar.cmpi .eq v529 c14_i32_623
  let c13_i32_624 : BitVec 32 := 13#32
  let c13_i32_621 : BitVec 32 := 13#32
  let v554 : BitVec 1 := Scalar.cmpi .eq v529 c13_i32_621
  let c21_i32_622 : BitVec 32 := 21#32
  let c12_i32_619 : BitVec 32 := 12#32
  let v552 : BitVec 1 := Scalar.cmpi .eq v529 c12_i32_619
  let c29_i32_620 : BitVec 32 := 29#32
  let c11_i32_617 : BitVec 32 := 11#32
  let v550 : BitVec 1 := Scalar.cmpi .eq v529 c11_i32_617
  let c26_i32_618 : BitVec 32 := 26#32
  let c10_i32_615 : BitVec 32 := 10#32
  let v548 : BitVec 1 := Scalar.cmpi .eq v529 c10_i32_615
  let c18_i32_616 : BitVec 32 := 18#32
  let c9_i32_613 : BitVec 32 := 9#32
  let v546 : BitVec 1 := Scalar.cmpi .eq v529 c9_i32_613
  let c10_i32_614 : BitVec 32 := 10#32
  let c8_i32_611 : BitVec 32 := 8#32
  let v544 : BitVec 1 := Scalar.cmpi .eq v529 c8_i32_611
  let c2_i32_612 : BitVec 32 := 2#32
  let c7_i32_609 : BitVec 32 := 7#32
  let v542 : BitVec 1 := Scalar.cmpi .eq v529 c7_i32_609
  let c1_i32_610 : BitVec 32 := 1#32
  let c6_i32_607 : BitVec 32 := 6#32
  let v540 : BitVec 1 := Scalar.cmpi .eq v529 c6_i32_607
  let c9_i32_608 : BitVec 32 := 9#32
  let c5_i32_605 : BitVec 32 := 5#32
  let v538 : BitVec 1 := Scalar.cmpi .eq v529 c5_i32_605
  let c17_i32_606 : BitVec 32 := 17#32
  let c4_i32_603 : BitVec 32 := 4#32
  let v536 : BitVec 1 := Scalar.cmpi .eq v529 c4_i32_603
  let c25_i32_604 : BitVec 32 := 25#32
  let c3_i32_601 : BitVec 32 := 3#32
  let v534 : BitVec 1 := Scalar.cmpi .eq v529 c3_i32_601
  let c24_i32_602 : BitVec 32 := 24#32
  let c2_i32_599 : BitVec 32 := 2#32
  let v532 : BitVec 1 := Scalar.cmpi .eq v529 c2_i32_599
  let c16_i32_600 : BitVec 32 := 16#32
  let c1_i32_596 : BitVec 32 := 1#32
  let v530 : BitVec 1 := Scalar.cmpi .eq v529 c1_i32_596
  let c8_i32_597 : BitVec 32 := 8#32
  let c0_i32_598 : BitVec 32 := 0#32
  let v531 : BitVec 32 := Scalar.select v530 c8_i32_597 c0_i32_598
  let v533 : BitVec 32 := Scalar.select v532 c16_i32_600 v531
  let v535 : BitVec 32 := Scalar.select v534 c24_i32_602 v533
  let v537 : BitVec 32 := Scalar.select v536 c25_i32_604 v535
  let v539 : BitVec 32 := Scalar.select v538 c17_i32_606 v537
  let v541 : BitVec 32 := Scalar.select v540 c9_i32_608 v539
  let v543 : BitVec 32 := Scalar.select v542 c1_i32_610 v541
  let v545 : BitVec 32 := Scalar.select v544 c2_i32_612 v543
  let v547 : BitVec 32 := Scalar.select v546 c10_i32_614 v545
  let v549 : BitVec 32 := Scalar.select v548 c18_i32_616 v547
  let v551 : BitVec 32 := Scalar.select v550 c26_i32_618 v549
  let v553 : BitVec 32 := Scalar.select v552 c29_i32_620 v551
  let v555 : BitVec 32 := Scalar.select v554 c21_i32_622 v553
  let v557 : BitVec 32 := Scalar.select v556 c13_i32_624 v555
  let v559 : BitVec 32 := Scalar.select v558 c5_i32_626 v557
  let v561 : BitVec 32 := Scalar.select v560 c6_i32_628 v559
  let v563 : BitVec 32 := Scalar.select v562 c14_i32_630 v561
  let v565 : BitVec 32 := Scalar.select v564 c22_i32_632 v563
  let v567 : BitVec 32 := Scalar.select v566 c30_i32_634 v565
  let v569 : BitVec 32 := Scalar.select v568 c31_i32_636 v567
  let v571 : BitVec 32 := Scalar.select v570 c23_i32_638 v569
  let v573 : BitVec 32 := Scalar.select v572 c15_i32_640 v571
  let v575 : BitVec 32 := Scalar.select v574 c7_i32_642 v573
  let v577 : BitVec 32 := Scalar.select v576 c4_i32_644 v575
  let v579 : BitVec 32 := Scalar.select v578 c12_i32_646 v577
  let v581 : BitVec 32 := Scalar.select v580 c20_i32_648 v579
  let v583 : BitVec 32 := Scalar.select v582 c28_i32_650 v581
  let v585 : BitVec 32 := Scalar.select v584 c27_i32_652 v583
  let v587 : BitVec 32 := Scalar.select v586 c19_i32_654 v585
  let v589 : BitVec 32 := Scalar.select v588 c11_i32_656 v587
  let v591 : BitVec 32 := Scalar.select v590 c3_i32_658 v589
  let c128_i32_672 : BitVec 32 := 128#32
  let v610 : BitVec 32 := Scalar.muli v591 c128_i32_672
  let v611 : Index := Scalar.indexCast v610
  let c0_673 : Index := 0#32
  ![v611.toNat, 0]
def k0_dev19 (d0 : Dev nD) : Nat :=
  let c0_i32_700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_699 : BitVec 32 := 1#32
  let v632 : BitVec 32 := Scalar.muli v193 c1_i32_699
  let v633 : BitVec 32 := Scalar.addi c0_i32_700 v632
  v633.toNat
def k0_dev20 (d0 : Dev nD) : Nat :=
  let c0_i32_710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_709 : BitVec 32 := 1#32
  let v634 : BitVec 32 := Scalar.muli v128 c1_i32_709
  let v635 : BitVec 32 := Scalar.addi c0_i32_710 v634
  v635.toNat
def k0_dev21 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_739 : BitVec 32 := 1#32
  let v658 : BitVec 32 := Scalar.muli v193 c1_i32_739
  let v659 : BitVec 32 := Scalar.addi c0_i32_740 v658
  v659.toNat
def k0_dev22 (d0 : Dev nD) : Nat :=
  let c0_i32_750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_749 : BitVec 32 := 1#32
  let v660 : BitVec 32 := Scalar.muli v128 c1_i32_749
  let v661 : BitVec 32 := Scalar.addi c0_i32_750 v660
  v661.toNat
def k0_dev23 (d0 : Dev nD) : Nat :=
  let c0_i32_780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_779 : BitVec 32 := 1#32
  let v684 : BitVec 32 := Scalar.muli v193 c1_i32_779
  let v685 : BitVec 32 := Scalar.addi c0_i32_780 v684
  v685.toNat
def k0_dev24 (d0 : Dev nD) : Nat :=
  let c0_i32_790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_789 : BitVec 32 := 1#32
  let v686 : BitVec 32 := Scalar.muli v128 c1_i32_789
  let v687 : BitVec 32 := Scalar.addi c0_i32_790 v686
  v687.toNat
def k0_dev25 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_819 : BitVec 32 := 1#32
  let v710 : BitVec 32 := Scalar.muli v193 c1_i32_819
  let v711 : BitVec 32 := Scalar.addi c0_i32_820 v710
  v711.toNat
def k0_dev26 (d0 : Dev nD) : Nat :=
  let c0_i32_830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_829 : BitVec 32 := 1#32
  let v712 : BitVec 32 := Scalar.muli v128 c1_i32_829
  let v713 : BitVec 32 := Scalar.addi c0_i32_830 v712
  v713.toNat
def k0_dev27 (d0 : Dev nD) : Nat :=
  let c0_i32_860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_859 : BitVec 32 := 1#32
  let v736 : BitVec 32 := Scalar.muli v128 c1_i32_859
  let v737 : BitVec 32 := Scalar.addi c0_i32_860 v736
  v737.toNat
def k0_dev28 (d0 : Dev nD) : Nat :=
  let c0_i32_870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_869 : BitVec 32 := 1#32
  let v738 : BitVec 32 := Scalar.muli v193 c1_i32_869
  let v739 : BitVec 32 := Scalar.addi c0_i32_870 v738
  v739.toNat
def k0_dev29 (d0 : Dev nD) : Nat :=
  let c0_i32_900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_899 : BitVec 32 := 1#32
  let v762 : BitVec 32 := Scalar.muli v128 c1_i32_899
  let v763 : BitVec 32 := Scalar.addi c0_i32_900 v762
  v763.toNat
def k0_dev30 (d0 : Dev nD) : Nat :=
  let c0_i32_910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_909 : BitVec 32 := 1#32
  let v764 : BitVec 32 := Scalar.muli v193 c1_i32_909
  let v765 : BitVec 32 := Scalar.addi c0_i32_910 v764
  v765.toNat
def k0_dev31 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_939 : BitVec 32 := 1#32
  let v788 : BitVec 32 := Scalar.muli v128 c1_i32_939
  let v789 : BitVec 32 := Scalar.addi c0_i32_940 v788
  v789.toNat
def k0_dev32 (d0 : Dev nD) : Nat :=
  let c0_i32_950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_949 : BitVec 32 := 1#32
  let v790 : BitVec 32 := Scalar.muli v193 c1_i32_949
  let v791 : BitVec 32 := Scalar.addi c0_i32_950 v790
  v791.toNat
def k0_dev33 (d0 : Dev nD) : Nat :=
  let c0_i32_980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_979 : BitVec 32 := 1#32
  let v814 : BitVec 32 := Scalar.muli v128 c1_i32_979
  let v815 : BitVec 32 := Scalar.addi c0_i32_980 v814
  v815.toNat
def k0_dev34 (d0 : Dev nD) : Nat :=
  let c0_i32_990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_989 : BitVec 32 := 1#32
  let v816 : BitVec 32 := Scalar.muli v193 c1_i32_989
  let v817 : BitVec 32 := Scalar.addi c0_i32_990 v816
  v817.toNat
def k0_dev35 (d0 : Dev nD) : Nat :=
  let c0_i32_1168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_1167 : BitVec 32 := 1#32
  let v997 : BitVec 32 := Scalar.muli v193 c1_i32_1167
  let v998 : BitVec 32 := Scalar.addi c0_i32_1168 v997
  v998.toNat
def k0_dev36 (d0 : Dev nD) : Nat :=
  let c0_i32_1178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_1177 : BitVec 32 := 1#32
  let v999 : BitVec 32 := Scalar.muli v128 c1_i32_1177
  let v1000 : BitVec 32 := Scalar.addi c0_i32_1178 v999
  v1000.toNat
def k0_dev37 (d0 : Dev nD) : Nat :=
  let c0_i32_1208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_1207 : BitVec 32 := 1#32
  let v1023 : BitVec 32 := Scalar.muli v193 c1_i32_1207
  let v1024 : BitVec 32 := Scalar.addi c0_i32_1208 v1023
  v1024.toNat
def k0_dev38 (d0 : Dev nD) : Nat :=
  let c0_i32_1218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_1217 : BitVec 32 := 1#32
  let v1025 : BitVec 32 := Scalar.muli v128 c1_i32_1217
  let v1026 : BitVec 32 := Scalar.addi c0_i32_1218 v1025
  v1026.toNat
def k0_dev39 (d0 : Dev nD) : Nat :=
  let c0_i32_1248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_1247 : BitVec 32 := 1#32
  let v1049 : BitVec 32 := Scalar.muli v193 c1_i32_1247
  let v1050 : BitVec 32 := Scalar.addi c0_i32_1248 v1049
  v1050.toNat
def k0_dev40 (d0 : Dev nD) : Nat :=
  let c0_i32_1258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_1257 : BitVec 32 := 1#32
  let v1051 : BitVec 32 := Scalar.muli v128 c1_i32_1257
  let v1052 : BitVec 32 := Scalar.addi c0_i32_1258 v1051
  v1052.toNat
def k0_dev41 (d0 : Dev nD) : Nat :=
  let c0_i32_1288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_1287 : BitVec 32 := 1#32
  let v1075 : BitVec 32 := Scalar.muli v193 c1_i32_1287
  let v1076 : BitVec 32 := Scalar.addi c0_i32_1288 v1075
  v1076.toNat
def k0_dev42 (d0 : Dev nD) : Nat :=
  let c0_i32_1298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_1297 : BitVec 32 := 1#32
  let v1077 : BitVec 32 := Scalar.muli v128 c1_i32_1297
  let v1078 : BitVec 32 := Scalar.addi c0_i32_1298 v1077
  v1078.toNat
def k0_dev43 (d0 : Dev nD) : Nat :=
  let c0_i32_1328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_1327 : BitVec 32 := 1#32
  let v1101 : BitVec 32 := Scalar.muli v128 c1_i32_1327
  let v1102 : BitVec 32 := Scalar.addi c0_i32_1328 v1101
  v1102.toNat
def k0_dev44 (d0 : Dev nD) : Nat :=
  let c0_i32_1338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_1337 : BitVec 32 := 1#32
  let v1103 : BitVec 32 := Scalar.muli v193 c1_i32_1337
  let v1104 : BitVec 32 := Scalar.addi c0_i32_1338 v1103
  v1104.toNat
def k0_dev45 (d0 : Dev nD) : Nat :=
  let c0_i32_1368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_1367 : BitVec 32 := 1#32
  let v1127 : BitVec 32 := Scalar.muli v128 c1_i32_1367
  let v1128 : BitVec 32 := Scalar.addi c0_i32_1368 v1127
  v1128.toNat
def k0_dev46 (d0 : Dev nD) : Nat :=
  let c0_i32_1378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_1377 : BitVec 32 := 1#32
  let v1129 : BitVec 32 := Scalar.muli v193 c1_i32_1377
  let v1130 : BitVec 32 := Scalar.addi c0_i32_1378 v1129
  v1130.toNat
def k0_dev47 (d0 : Dev nD) : Nat :=
  let c0_i32_1408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_1407 : BitVec 32 := 1#32
  let v1153 : BitVec 32 := Scalar.muli v128 c1_i32_1407
  let v1154 : BitVec 32 := Scalar.addi c0_i32_1408 v1153
  v1154.toNat
def k0_dev48 (d0 : Dev nD) : Nat :=
  let c0_i32_1418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_1417 : BitVec 32 := 1#32
  let v1155 : BitVec 32 := Scalar.muli v193 c1_i32_1417
  let v1156 : BitVec 32 := Scalar.addi c0_i32_1418 v1155
  v1156.toNat
def k0_dev49 (d0 : Dev nD) : Nat :=
  let c0_i32_1448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_1447 : BitVec 32 := 1#32
  let v1179 : BitVec 32 := Scalar.muli v128 c1_i32_1447
  let v1180 : BitVec 32 := Scalar.addi c0_i32_1448 v1179
  v1180.toNat
def k0_dev50 (d0 : Dev nD) : Nat :=
  let c0_i32_1458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_1457 : BitVec 32 := 1#32
  let v1181 : BitVec 32 := Scalar.muli v193 c1_i32_1457
  let v1182 : BitVec 32 := Scalar.addi c0_i32_1458 v1181
  v1182.toNat
def k0_dev51 (d0 : Dev nD) : Nat :=
  let c0_i32_1637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_1636 : BitVec 32 := 1#32
  let v1362 : BitVec 32 := Scalar.muli v193 c1_i32_1636
  let v1363 : BitVec 32 := Scalar.addi c0_i32_1637 v1362
  v1363.toNat
def k0_dev52 (d0 : Dev nD) : Nat :=
  let c0_i32_1647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_1646 : BitVec 32 := 1#32
  let v1364 : BitVec 32 := Scalar.muli v128 c1_i32_1646
  let v1365 : BitVec 32 := Scalar.addi c0_i32_1647 v1364
  v1365.toNat
def k0_dev53 (d0 : Dev nD) : Nat :=
  let c0_i32_1677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_1676 : BitVec 32 := 1#32
  let v1388 : BitVec 32 := Scalar.muli v193 c1_i32_1676
  let v1389 : BitVec 32 := Scalar.addi c0_i32_1677 v1388
  v1389.toNat
def k0_dev54 (d0 : Dev nD) : Nat :=
  let c0_i32_1687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_1686 : BitVec 32 := 1#32
  let v1390 : BitVec 32 := Scalar.muli v128 c1_i32_1686
  let v1391 : BitVec 32 := Scalar.addi c0_i32_1687 v1390
  v1391.toNat
def k0_dev55 (d0 : Dev nD) : Nat :=
  let c0_i32_1717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_1716 : BitVec 32 := 1#32
  let v1414 : BitVec 32 := Scalar.muli v193 c1_i32_1716
  let v1415 : BitVec 32 := Scalar.addi c0_i32_1717 v1414
  v1415.toNat
def k0_dev56 (d0 : Dev nD) : Nat :=
  let c0_i32_1727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_1726 : BitVec 32 := 1#32
  let v1416 : BitVec 32 := Scalar.muli v128 c1_i32_1726
  let v1417 : BitVec 32 := Scalar.addi c0_i32_1727 v1416
  v1417.toNat
def k0_dev57 (d0 : Dev nD) : Nat :=
  let c0_i32_1757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_1756 : BitVec 32 := 1#32
  let v1440 : BitVec 32 := Scalar.muli v193 c1_i32_1756
  let v1441 : BitVec 32 := Scalar.addi c0_i32_1757 v1440
  v1441.toNat
def k0_dev58 (d0 : Dev nD) : Nat :=
  let c0_i32_1767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_1766 : BitVec 32 := 1#32
  let v1442 : BitVec 32 := Scalar.muli v128 c1_i32_1766
  let v1443 : BitVec 32 := Scalar.addi c0_i32_1767 v1442
  v1443.toNat
def k0_dev59 (d0 : Dev nD) : Nat :=
  let c0_i32_1797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_1796 : BitVec 32 := 1#32
  let v1466 : BitVec 32 := Scalar.muli v128 c1_i32_1796
  let v1467 : BitVec 32 := Scalar.addi c0_i32_1797 v1466
  v1467.toNat
def k0_dev60 (d0 : Dev nD) : Nat :=
  let c0_i32_1807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_1806 : BitVec 32 := 1#32
  let v1468 : BitVec 32 := Scalar.muli v193 c1_i32_1806
  let v1469 : BitVec 32 := Scalar.addi c0_i32_1807 v1468
  v1469.toNat
def k0_dev61 (d0 : Dev nD) : Nat :=
  let c0_i32_1837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_1836 : BitVec 32 := 1#32
  let v1492 : BitVec 32 := Scalar.muli v128 c1_i32_1836
  let v1493 : BitVec 32 := Scalar.addi c0_i32_1837 v1492
  v1493.toNat
def k0_dev62 (d0 : Dev nD) : Nat :=
  let c0_i32_1847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_1846 : BitVec 32 := 1#32
  let v1494 : BitVec 32 := Scalar.muli v193 c1_i32_1846
  let v1495 : BitVec 32 := Scalar.addi c0_i32_1847 v1494
  v1495.toNat
def k0_dev63 (d0 : Dev nD) : Nat :=
  let c0_i32_1877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_1876 : BitVec 32 := 1#32
  let v1518 : BitVec 32 := Scalar.muli v128 c1_i32_1876
  let v1519 : BitVec 32 := Scalar.addi c0_i32_1877 v1518
  v1519.toNat
def k0_dev64 (d0 : Dev nD) : Nat :=
  let c0_i32_1887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_1886 : BitVec 32 := 1#32
  let v1520 : BitVec 32 := Scalar.muli v193 c1_i32_1886
  let v1521 : BitVec 32 := Scalar.addi c0_i32_1887 v1520
  v1521.toNat
def k0_dev65 (d0 : Dev nD) : Nat :=
  let c0_i32_1917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_1916 : BitVec 32 := 1#32
  let v1544 : BitVec 32 := Scalar.muli v128 c1_i32_1916
  let v1545 : BitVec 32 := Scalar.addi c0_i32_1917 v1544
  v1545.toNat
def k0_dev66 (d0 : Dev nD) : Nat :=
  let c0_i32_1927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_1926 : BitVec 32 := 1#32
  let v1546 : BitVec 32 := Scalar.muli v193 c1_i32_1926
  let v1547 : BitVec 32 := Scalar.addi c0_i32_1927 v1546
  v1547.toNat
def k0_dev67 (d0 : Dev nD) : Nat :=
  let c0_i32_2106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_2105 : BitVec 32 := 1#32
  let v1727 : BitVec 32 := Scalar.muli v193 c1_i32_2105
  let v1728 : BitVec 32 := Scalar.addi c0_i32_2106 v1727
  v1728.toNat
def k0_dev68 (d0 : Dev nD) : Nat :=
  let c0_i32_2116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_2115 : BitVec 32 := 1#32
  let v1729 : BitVec 32 := Scalar.muli v128 c1_i32_2115
  let v1730 : BitVec 32 := Scalar.addi c0_i32_2116 v1729
  v1730.toNat
def k0_dev69 (d0 : Dev nD) : Nat :=
  let c0_i32_2146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_2145 : BitVec 32 := 1#32
  let v1753 : BitVec 32 := Scalar.muli v193 c1_i32_2145
  let v1754 : BitVec 32 := Scalar.addi c0_i32_2146 v1753
  v1754.toNat
def k0_dev70 (d0 : Dev nD) : Nat :=
  let c0_i32_2156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_2155 : BitVec 32 := 1#32
  let v1755 : BitVec 32 := Scalar.muli v128 c1_i32_2155
  let v1756 : BitVec 32 := Scalar.addi c0_i32_2156 v1755
  v1756.toNat
def k0_dev71 (d0 : Dev nD) : Nat :=
  let c0_i32_2186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_2185 : BitVec 32 := 1#32
  let v1779 : BitVec 32 := Scalar.muli v193 c1_i32_2185
  let v1780 : BitVec 32 := Scalar.addi c0_i32_2186 v1779
  v1780.toNat
def k0_dev72 (d0 : Dev nD) : Nat :=
  let c0_i32_2196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_2195 : BitVec 32 := 1#32
  let v1781 : BitVec 32 := Scalar.muli v128 c1_i32_2195
  let v1782 : BitVec 32 := Scalar.addi c0_i32_2196 v1781
  v1782.toNat
def k0_dev73 (d0 : Dev nD) : Nat :=
  let c0_i32_2226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_2225 : BitVec 32 := 1#32
  let v1805 : BitVec 32 := Scalar.muli v193 c1_i32_2225
  let v1806 : BitVec 32 := Scalar.addi c0_i32_2226 v1805
  v1806.toNat
def k0_dev74 (d0 : Dev nD) : Nat :=
  let c0_i32_2236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_2235 : BitVec 32 := 1#32
  let v1807 : BitVec 32 := Scalar.muli v128 c1_i32_2235
  let v1808 : BitVec 32 := Scalar.addi c0_i32_2236 v1807
  v1808.toNat
def k0_dev75 (d0 : Dev nD) : Nat :=
  let c0_i32_2266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_2265 : BitVec 32 := 1#32
  let v1831 : BitVec 32 := Scalar.muli v128 c1_i32_2265
  let v1832 : BitVec 32 := Scalar.addi c0_i32_2266 v1831
  v1832.toNat
def k0_dev76 (d0 : Dev nD) : Nat :=
  let c0_i32_2276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_2275 : BitVec 32 := 1#32
  let v1833 : BitVec 32 := Scalar.muli v193 c1_i32_2275
  let v1834 : BitVec 32 := Scalar.addi c0_i32_2276 v1833
  v1834.toNat
def k0_dev77 (d0 : Dev nD) : Nat :=
  let c0_i32_2306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_2305 : BitVec 32 := 1#32
  let v1857 : BitVec 32 := Scalar.muli v128 c1_i32_2305
  let v1858 : BitVec 32 := Scalar.addi c0_i32_2306 v1857
  v1858.toNat
def k0_dev78 (d0 : Dev nD) : Nat :=
  let c0_i32_2316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_2315 : BitVec 32 := 1#32
  let v1859 : BitVec 32 := Scalar.muli v193 c1_i32_2315
  let v1860 : BitVec 32 := Scalar.addi c0_i32_2316 v1859
  v1860.toNat
def k0_dev79 (d0 : Dev nD) : Nat :=
  let c0_i32_2346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_2345 : BitVec 32 := 1#32
  let v1883 : BitVec 32 := Scalar.muli v128 c1_i32_2345
  let v1884 : BitVec 32 := Scalar.addi c0_i32_2346 v1883
  v1884.toNat
def k0_dev80 (d0 : Dev nD) : Nat :=
  let c0_i32_2356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_2355 : BitVec 32 := 1#32
  let v1885 : BitVec 32 := Scalar.muli v193 c1_i32_2355
  let v1886 : BitVec 32 := Scalar.addi c0_i32_2356 v1885
  v1886.toNat
def k0_dev81 (d0 : Dev nD) : Nat :=
  let c0_i32_2386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_2385 : BitVec 32 := 1#32
  let v1909 : BitVec 32 := Scalar.muli v128 c1_i32_2385
  let v1910 : BitVec 32 := Scalar.addi c0_i32_2386 v1909
  v1910.toNat
def k0_dev82 (d0 : Dev nD) : Nat :=
  let c0_i32_2396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_2395 : BitVec 32 := 1#32
  let v1911 : BitVec 32 := Scalar.muli v193 c1_i32_2395
  let v1912 : BitVec 32 := Scalar.addi c0_i32_2396 v1911
  v1912.toNat
def k0_dev83 (d0 : Dev nD) : Nat :=
  let c0_i32_2575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_2574 : BitVec 32 := 1#32
  let v2092 : BitVec 32 := Scalar.muli v193 c1_i32_2574
  let v2093 : BitVec 32 := Scalar.addi c0_i32_2575 v2092
  v2093.toNat
def k0_dev84 (d0 : Dev nD) : Nat :=
  let c0_i32_2585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_2584 : BitVec 32 := 1#32
  let v2094 : BitVec 32 := Scalar.muli v128 c1_i32_2584
  let v2095 : BitVec 32 := Scalar.addi c0_i32_2585 v2094
  v2095.toNat
def k0_dev85 (d0 : Dev nD) : Nat :=
  let c0_i32_2615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_2614 : BitVec 32 := 1#32
  let v2118 : BitVec 32 := Scalar.muli v193 c1_i32_2614
  let v2119 : BitVec 32 := Scalar.addi c0_i32_2615 v2118
  v2119.toNat
def k0_dev86 (d0 : Dev nD) : Nat :=
  let c0_i32_2625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_2624 : BitVec 32 := 1#32
  let v2120 : BitVec 32 := Scalar.muli v128 c1_i32_2624
  let v2121 : BitVec 32 := Scalar.addi c0_i32_2625 v2120
  v2121.toNat
def k0_dev87 (d0 : Dev nD) : Nat :=
  let c0_i32_2655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_2654 : BitVec 32 := 1#32
  let v2144 : BitVec 32 := Scalar.muli v193 c1_i32_2654
  let v2145 : BitVec 32 := Scalar.addi c0_i32_2655 v2144
  v2145.toNat
def k0_dev88 (d0 : Dev nD) : Nat :=
  let c0_i32_2665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_2664 : BitVec 32 := 1#32
  let v2146 : BitVec 32 := Scalar.muli v128 c1_i32_2664
  let v2147 : BitVec 32 := Scalar.addi c0_i32_2665 v2146
  v2147.toNat
def k0_dev89 (d0 : Dev nD) : Nat :=
  let c0_i32_2695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_2694 : BitVec 32 := 1#32
  let v2170 : BitVec 32 := Scalar.muli v193 c1_i32_2694
  let v2171 : BitVec 32 := Scalar.addi c0_i32_2695 v2170
  v2171.toNat
def k0_dev90 (d0 : Dev nD) : Nat :=
  let c0_i32_2705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_2704 : BitVec 32 := 1#32
  let v2172 : BitVec 32 := Scalar.muli v128 c1_i32_2704
  let v2173 : BitVec 32 := Scalar.addi c0_i32_2705 v2172
  v2173.toNat
def k0_dev91 (d0 : Dev nD) : Nat :=
  let c0_i32_2735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_2734 : BitVec 32 := 1#32
  let v2196 : BitVec 32 := Scalar.muli v128 c1_i32_2734
  let v2197 : BitVec 32 := Scalar.addi c0_i32_2735 v2196
  v2197.toNat
def k0_dev92 (d0 : Dev nD) : Nat :=
  let c0_i32_2745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_2744 : BitVec 32 := 1#32
  let v2198 : BitVec 32 := Scalar.muli v193 c1_i32_2744
  let v2199 : BitVec 32 := Scalar.addi c0_i32_2745 v2198
  v2199.toNat
def k0_dev93 (d0 : Dev nD) : Nat :=
  let c0_i32_2775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_2774 : BitVec 32 := 1#32
  let v2222 : BitVec 32 := Scalar.muli v128 c1_i32_2774
  let v2223 : BitVec 32 := Scalar.addi c0_i32_2775 v2222
  v2223.toNat
def k0_dev94 (d0 : Dev nD) : Nat :=
  let c0_i32_2785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_2784 : BitVec 32 := 1#32
  let v2224 : BitVec 32 := Scalar.muli v193 c1_i32_2784
  let v2225 : BitVec 32 := Scalar.addi c0_i32_2785 v2224
  v2225.toNat
def k0_dev95 (d0 : Dev nD) : Nat :=
  let c0_i32_2815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_2814 : BitVec 32 := 1#32
  let v2248 : BitVec 32 := Scalar.muli v128 c1_i32_2814
  let v2249 : BitVec 32 := Scalar.addi c0_i32_2815 v2248
  v2249.toNat
def k0_dev96 (d0 : Dev nD) : Nat :=
  let c0_i32_2825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_2824 : BitVec 32 := 1#32
  let v2250 : BitVec 32 := Scalar.muli v193 c1_i32_2824
  let v2251 : BitVec 32 := Scalar.addi c0_i32_2825 v2250
  v2251.toNat
def k0_dev97 (d0 : Dev nD) : Nat :=
  let c0_i32_2855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_2854 : BitVec 32 := 1#32
  let v2274 : BitVec 32 := Scalar.muli v128 c1_i32_2854
  let v2275 : BitVec 32 := Scalar.addi c0_i32_2855 v2274
  v2275.toNat
def k0_dev98 (d0 : Dev nD) : Nat :=
  let c0_i32_2865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_2864 : BitVec 32 := 1#32
  let v2276 : BitVec 32 := Scalar.muli v193 c1_i32_2864
  let v2277 : BitVec 32 := Scalar.addi c0_i32_2865 v2276
  v2277.toNat
def k0_dev99 (d0 : Dev nD) : Nat :=
  let c0_i32_3044 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_3043 : BitVec 32 := 1#32
  let v2457 : BitVec 32 := Scalar.muli v193 c1_i32_3043
  let v2458 : BitVec 32 := Scalar.addi c0_i32_3044 v2457
  v2458.toNat
def k0_dev100 (d0 : Dev nD) : Nat :=
  let c0_i32_3054 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_3053 : BitVec 32 := 1#32
  let v2459 : BitVec 32 := Scalar.muli v128 c1_i32_3053
  let v2460 : BitVec 32 := Scalar.addi c0_i32_3054 v2459
  v2460.toNat
def k0_dev101 (d0 : Dev nD) : Nat :=
  let c0_i32_3084 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_3083 : BitVec 32 := 1#32
  let v2483 : BitVec 32 := Scalar.muli v193 c1_i32_3083
  let v2484 : BitVec 32 := Scalar.addi c0_i32_3084 v2483
  v2484.toNat
def k0_dev102 (d0 : Dev nD) : Nat :=
  let c0_i32_3094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_3093 : BitVec 32 := 1#32
  let v2485 : BitVec 32 := Scalar.muli v128 c1_i32_3093
  let v2486 : BitVec 32 := Scalar.addi c0_i32_3094 v2485
  v2486.toNat
def k0_dev103 (d0 : Dev nD) : Nat :=
  let c0_i32_3124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_3123 : BitVec 32 := 1#32
  let v2509 : BitVec 32 := Scalar.muli v193 c1_i32_3123
  let v2510 : BitVec 32 := Scalar.addi c0_i32_3124 v2509
  v2510.toNat
def k0_dev104 (d0 : Dev nD) : Nat :=
  let c0_i32_3134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_3133 : BitVec 32 := 1#32
  let v2511 : BitVec 32 := Scalar.muli v128 c1_i32_3133
  let v2512 : BitVec 32 := Scalar.addi c0_i32_3134 v2511
  v2512.toNat
def k0_dev105 (d0 : Dev nD) : Nat :=
  let c0_i32_3164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_3163 : BitVec 32 := 1#32
  let v2535 : BitVec 32 := Scalar.muli v193 c1_i32_3163
  let v2536 : BitVec 32 := Scalar.addi c0_i32_3164 v2535
  v2536.toNat
def k0_dev106 (d0 : Dev nD) : Nat :=
  let c0_i32_3174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_3173 : BitVec 32 := 1#32
  let v2537 : BitVec 32 := Scalar.muli v128 c1_i32_3173
  let v2538 : BitVec 32 := Scalar.addi c0_i32_3174 v2537
  v2538.toNat
def k0_dev107 (d0 : Dev nD) : Nat :=
  let c0_i32_3204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_3203 : BitVec 32 := 1#32
  let v2561 : BitVec 32 := Scalar.muli v128 c1_i32_3203
  let v2562 : BitVec 32 := Scalar.addi c0_i32_3204 v2561
  v2562.toNat
def k0_dev108 (d0 : Dev nD) : Nat :=
  let c0_i32_3214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_3213 : BitVec 32 := 1#32
  let v2563 : BitVec 32 := Scalar.muli v193 c1_i32_3213
  let v2564 : BitVec 32 := Scalar.addi c0_i32_3214 v2563
  v2564.toNat
def k0_dev109 (d0 : Dev nD) : Nat :=
  let c0_i32_3244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_3243 : BitVec 32 := 1#32
  let v2587 : BitVec 32 := Scalar.muli v128 c1_i32_3243
  let v2588 : BitVec 32 := Scalar.addi c0_i32_3244 v2587
  v2588.toNat
def k0_dev110 (d0 : Dev nD) : Nat :=
  let c0_i32_3254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_3253 : BitVec 32 := 1#32
  let v2589 : BitVec 32 := Scalar.muli v193 c1_i32_3253
  let v2590 : BitVec 32 := Scalar.addi c0_i32_3254 v2589
  v2590.toNat
def k0_dev111 (d0 : Dev nD) : Nat :=
  let c0_i32_3284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_3283 : BitVec 32 := 1#32
  let v2613 : BitVec 32 := Scalar.muli v128 c1_i32_3283
  let v2614 : BitVec 32 := Scalar.addi c0_i32_3284 v2613
  v2614.toNat
def k0_dev112 (d0 : Dev nD) : Nat :=
  let c0_i32_3294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_3293 : BitVec 32 := 1#32
  let v2615 : BitVec 32 := Scalar.muli v193 c1_i32_3293
  let v2616 : BitVec 32 := Scalar.addi c0_i32_3294 v2615
  v2616.toNat
def k0_dev113 (d0 : Dev nD) : Nat :=
  let c0_i32_3324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_3323 : BitVec 32 := 1#32
  let v2639 : BitVec 32 := Scalar.muli v128 c1_i32_3323
  let v2640 : BitVec 32 := Scalar.addi c0_i32_3324 v2639
  v2640.toNat
def k0_dev114 (d0 : Dev nD) : Nat :=
  let c0_i32_3334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_3333 : BitVec 32 := 1#32
  let v2641 : BitVec 32 := Scalar.muli v193 c1_i32_3333
  let v2642 : BitVec 32 := Scalar.addi c0_i32_3334 v2641
  v2642.toNat
def k0_dev115 (d0 : Dev nD) : Nat :=
  let c0_i32_3513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_3512 : BitVec 32 := 1#32
  let v2822 : BitVec 32 := Scalar.muli v193 c1_i32_3512
  let v2823 : BitVec 32 := Scalar.addi c0_i32_3513 v2822
  v2823.toNat
def k0_dev116 (d0 : Dev nD) : Nat :=
  let c0_i32_3523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_3522 : BitVec 32 := 1#32
  let v2824 : BitVec 32 := Scalar.muli v128 c1_i32_3522
  let v2825 : BitVec 32 := Scalar.addi c0_i32_3523 v2824
  v2825.toNat
def k0_dev117 (d0 : Dev nD) : Nat :=
  let c0_i32_3553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_3552 : BitVec 32 := 1#32
  let v2848 : BitVec 32 := Scalar.muli v193 c1_i32_3552
  let v2849 : BitVec 32 := Scalar.addi c0_i32_3553 v2848
  v2849.toNat
def k0_dev118 (d0 : Dev nD) : Nat :=
  let c0_i32_3563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_3562 : BitVec 32 := 1#32
  let v2850 : BitVec 32 := Scalar.muli v128 c1_i32_3562
  let v2851 : BitVec 32 := Scalar.addi c0_i32_3563 v2850
  v2851.toNat
def k0_dev119 (d0 : Dev nD) : Nat :=
  let c0_i32_3593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_3592 : BitVec 32 := 1#32
  let v2874 : BitVec 32 := Scalar.muli v193 c1_i32_3592
  let v2875 : BitVec 32 := Scalar.addi c0_i32_3593 v2874
  v2875.toNat
def k0_dev120 (d0 : Dev nD) : Nat :=
  let c0_i32_3603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_3602 : BitVec 32 := 1#32
  let v2876 : BitVec 32 := Scalar.muli v128 c1_i32_3602
  let v2877 : BitVec 32 := Scalar.addi c0_i32_3603 v2876
  v2877.toNat
def k0_dev121 (d0 : Dev nD) : Nat :=
  let c0_i32_3633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_3632 : BitVec 32 := 1#32
  let v2900 : BitVec 32 := Scalar.muli v193 c1_i32_3632
  let v2901 : BitVec 32 := Scalar.addi c0_i32_3633 v2900
  v2901.toNat
def k0_dev122 (d0 : Dev nD) : Nat :=
  let c0_i32_3643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_3642 : BitVec 32 := 1#32
  let v2902 : BitVec 32 := Scalar.muli v128 c1_i32_3642
  let v2903 : BitVec 32 := Scalar.addi c0_i32_3643 v2902
  v2903.toNat
def k0_dev123 (d0 : Dev nD) : Nat :=
  let c0_i32_3673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_3672 : BitVec 32 := 1#32
  let v2926 : BitVec 32 := Scalar.muli v128 c1_i32_3672
  let v2927 : BitVec 32 := Scalar.addi c0_i32_3673 v2926
  v2927.toNat
def k0_dev124 (d0 : Dev nD) : Nat :=
  let c0_i32_3683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_3682 : BitVec 32 := 1#32
  let v2928 : BitVec 32 := Scalar.muli v193 c1_i32_3682
  let v2929 : BitVec 32 := Scalar.addi c0_i32_3683 v2928
  v2929.toNat
def k0_dev125 (d0 : Dev nD) : Nat :=
  let c0_i32_3713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_3712 : BitVec 32 := 1#32
  let v2952 : BitVec 32 := Scalar.muli v128 c1_i32_3712
  let v2953 : BitVec 32 := Scalar.addi c0_i32_3713 v2952
  v2953.toNat
def k0_dev126 (d0 : Dev nD) : Nat :=
  let c0_i32_3723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_3722 : BitVec 32 := 1#32
  let v2954 : BitVec 32 := Scalar.muli v193 c1_i32_3722
  let v2955 : BitVec 32 := Scalar.addi c0_i32_3723 v2954
  v2955.toNat
def k0_dev127 (d0 : Dev nD) : Nat :=
  let c0_i32_3753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_3752 : BitVec 32 := 1#32
  let v2978 : BitVec 32 := Scalar.muli v128 c1_i32_3752
  let v2979 : BitVec 32 := Scalar.addi c0_i32_3753 v2978
  v2979.toNat
def k0_dev128 (d0 : Dev nD) : Nat :=
  let c0_i32_3763 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_3762 : BitVec 32 := 1#32
  let v2980 : BitVec 32 := Scalar.muli v193 c1_i32_3762
  let v2981 : BitVec 32 := Scalar.addi c0_i32_3763 v2980
  v2981.toNat
def k0_dev129 (d0 : Dev nD) : Nat :=
  let c0_i32_3793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_3792 : BitVec 32 := 1#32
  let v3004 : BitVec 32 := Scalar.muli v128 c1_i32_3792
  let v3005 : BitVec 32 := Scalar.addi c0_i32_3793 v3004
  v3005.toNat
def k0_dev130 (d0 : Dev nD) : Nat :=
  let c0_i32_3803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_3802 : BitVec 32 := 1#32
  let v3006 : BitVec 32 := Scalar.muli v193 c1_i32_3802
  let v3007 : BitVec 32 := Scalar.addi c0_i32_3803 v3006
  v3007.toNat
def k0_dev131 (d0 : Dev nD) : Nat :=
  let c0_i32_3982 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_3981 : BitVec 32 := 1#32
  let v3187 : BitVec 32 := Scalar.muli v193 c1_i32_3981
  let v3188 : BitVec 32 := Scalar.addi c0_i32_3982 v3187
  v3188.toNat
def k0_dev132 (d0 : Dev nD) : Nat :=
  let c0_i32_3992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_3991 : BitVec 32 := 1#32
  let v3189 : BitVec 32 := Scalar.muli v128 c1_i32_3991
  let v3190 : BitVec 32 := Scalar.addi c0_i32_3992 v3189
  v3190.toNat
def k0_dev133 (d0 : Dev nD) : Nat :=
  let c0_i32_4022 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4021 : BitVec 32 := 1#32
  let v3213 : BitVec 32 := Scalar.muli v193 c1_i32_4021
  let v3214 : BitVec 32 := Scalar.addi c0_i32_4022 v3213
  v3214.toNat
def k0_dev134 (d0 : Dev nD) : Nat :=
  let c0_i32_4032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_4031 : BitVec 32 := 1#32
  let v3215 : BitVec 32 := Scalar.muli v128 c1_i32_4031
  let v3216 : BitVec 32 := Scalar.addi c0_i32_4032 v3215
  v3216.toNat
def k0_dev135 (d0 : Dev nD) : Nat :=
  let c0_i32_4062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4061 : BitVec 32 := 1#32
  let v3239 : BitVec 32 := Scalar.muli v193 c1_i32_4061
  let v3240 : BitVec 32 := Scalar.addi c0_i32_4062 v3239
  v3240.toNat
def k0_dev136 (d0 : Dev nD) : Nat :=
  let c0_i32_4072 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_4071 : BitVec 32 := 1#32
  let v3241 : BitVec 32 := Scalar.muli v128 c1_i32_4071
  let v3242 : BitVec 32 := Scalar.addi c0_i32_4072 v3241
  v3242.toNat
def k0_dev137 (d0 : Dev nD) : Nat :=
  let c0_i32_4102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4101 : BitVec 32 := 1#32
  let v3265 : BitVec 32 := Scalar.muli v193 c1_i32_4101
  let v3266 : BitVec 32 := Scalar.addi c0_i32_4102 v3265
  v3266.toNat
def k0_dev138 (d0 : Dev nD) : Nat :=
  let c0_i32_4112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_4111 : BitVec 32 := 1#32
  let v3267 : BitVec 32 := Scalar.muli v128 c1_i32_4111
  let v3268 : BitVec 32 := Scalar.addi c0_i32_4112 v3267
  v3268.toNat
def k0_dev139 (d0 : Dev nD) : Nat :=
  let c0_i32_4142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_4141 : BitVec 32 := 1#32
  let v3291 : BitVec 32 := Scalar.muli v128 c1_i32_4141
  let v3292 : BitVec 32 := Scalar.addi c0_i32_4142 v3291
  v3292.toNat
def k0_dev140 (d0 : Dev nD) : Nat :=
  let c0_i32_4152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4151 : BitVec 32 := 1#32
  let v3293 : BitVec 32 := Scalar.muli v193 c1_i32_4151
  let v3294 : BitVec 32 := Scalar.addi c0_i32_4152 v3293
  v3294.toNat
def k0_dev141 (d0 : Dev nD) : Nat :=
  let c0_i32_4182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_4181 : BitVec 32 := 1#32
  let v3317 : BitVec 32 := Scalar.muli v128 c1_i32_4181
  let v3318 : BitVec 32 := Scalar.addi c0_i32_4182 v3317
  v3318.toNat
def k0_dev142 (d0 : Dev nD) : Nat :=
  let c0_i32_4192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4191 : BitVec 32 := 1#32
  let v3319 : BitVec 32 := Scalar.muli v193 c1_i32_4191
  let v3320 : BitVec 32 := Scalar.addi c0_i32_4192 v3319
  v3320.toNat
def k0_dev143 (d0 : Dev nD) : Nat :=
  let c0_i32_4222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_4221 : BitVec 32 := 1#32
  let v3343 : BitVec 32 := Scalar.muli v128 c1_i32_4221
  let v3344 : BitVec 32 := Scalar.addi c0_i32_4222 v3343
  v3344.toNat
def k0_dev144 (d0 : Dev nD) : Nat :=
  let c0_i32_4232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4231 : BitVec 32 := 1#32
  let v3345 : BitVec 32 := Scalar.muli v193 c1_i32_4231
  let v3346 : BitVec 32 := Scalar.addi c0_i32_4232 v3345
  v3346.toNat
def k0_dev145 (d0 : Dev nD) : Nat :=
  let c0_i32_4262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_4261 : BitVec 32 := 1#32
  let v3369 : BitVec 32 := Scalar.muli v128 c1_i32_4261
  let v3370 : BitVec 32 := Scalar.addi c0_i32_4262 v3369
  v3370.toNat
def k0_dev146 (d0 : Dev nD) : Nat :=
  let c0_i32_4272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4271 : BitVec 32 := 1#32
  let v3371 : BitVec 32 := Scalar.muli v193 c1_i32_4271
  let v3372 : BitVec 32 := Scalar.addi c0_i32_4272 v3371
  v3372.toNat
def k0_dev147 (d0 : Dev nD) : Nat :=
  let c0_i32_4451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4450 : BitVec 32 := 1#32
  let v3552 : BitVec 32 := Scalar.muli v193 c1_i32_4450
  let v3553 : BitVec 32 := Scalar.addi c0_i32_4451 v3552
  v3553.toNat
def k0_dev148 (d0 : Dev nD) : Nat :=
  let c0_i32_4461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_4460 : BitVec 32 := 1#32
  let v3554 : BitVec 32 := Scalar.muli v128 c1_i32_4460
  let v3555 : BitVec 32 := Scalar.addi c0_i32_4461 v3554
  v3555.toNat
def k0_dev149 (d0 : Dev nD) : Nat :=
  let c0_i32_4491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4490 : BitVec 32 := 1#32
  let v3578 : BitVec 32 := Scalar.muli v193 c1_i32_4490
  let v3579 : BitVec 32 := Scalar.addi c0_i32_4491 v3578
  v3579.toNat
def k0_dev150 (d0 : Dev nD) : Nat :=
  let c0_i32_4501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_4500 : BitVec 32 := 1#32
  let v3580 : BitVec 32 := Scalar.muli v128 c1_i32_4500
  let v3581 : BitVec 32 := Scalar.addi c0_i32_4501 v3580
  v3581.toNat
def k0_dev151 (d0 : Dev nD) : Nat :=
  let c0_i32_4531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4530 : BitVec 32 := 1#32
  let v3604 : BitVec 32 := Scalar.muli v193 c1_i32_4530
  let v3605 : BitVec 32 := Scalar.addi c0_i32_4531 v3604
  v3605.toNat
def k0_dev152 (d0 : Dev nD) : Nat :=
  let c0_i32_4541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_4540 : BitVec 32 := 1#32
  let v3606 : BitVec 32 := Scalar.muli v128 c1_i32_4540
  let v3607 : BitVec 32 := Scalar.addi c0_i32_4541 v3606
  v3607.toNat
def k0_dev153 (d0 : Dev nD) : Nat :=
  let c0_i32_4571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4570 : BitVec 32 := 1#32
  let v3630 : BitVec 32 := Scalar.muli v193 c1_i32_4570
  let v3631 : BitVec 32 := Scalar.addi c0_i32_4571 v3630
  v3631.toNat
def k0_dev154 (d0 : Dev nD) : Nat :=
  let c0_i32_4581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_4580 : BitVec 32 := 1#32
  let v3632 : BitVec 32 := Scalar.muli v128 c1_i32_4580
  let v3633 : BitVec 32 := Scalar.addi c0_i32_4581 v3632
  v3633.toNat
def k0_dev155 (d0 : Dev nD) : Nat :=
  let c0_i32_4611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_4610 : BitVec 32 := 1#32
  let v3656 : BitVec 32 := Scalar.muli v128 c1_i32_4610
  let v3657 : BitVec 32 := Scalar.addi c0_i32_4611 v3656
  v3657.toNat
def k0_dev156 (d0 : Dev nD) : Nat :=
  let c0_i32_4621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4620 : BitVec 32 := 1#32
  let v3658 : BitVec 32 := Scalar.muli v193 c1_i32_4620
  let v3659 : BitVec 32 := Scalar.addi c0_i32_4621 v3658
  v3659.toNat
def k0_dev157 (d0 : Dev nD) : Nat :=
  let c0_i32_4651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_4650 : BitVec 32 := 1#32
  let v3682 : BitVec 32 := Scalar.muli v128 c1_i32_4650
  let v3683 : BitVec 32 := Scalar.addi c0_i32_4651 v3682
  v3683.toNat
def k0_dev158 (d0 : Dev nD) : Nat :=
  let c0_i32_4661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4660 : BitVec 32 := 1#32
  let v3684 : BitVec 32 := Scalar.muli v193 c1_i32_4660
  let v3685 : BitVec 32 := Scalar.addi c0_i32_4661 v3684
  v3685.toNat
def k0_dev159 (d0 : Dev nD) : Nat :=
  let c0_i32_4691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_4690 : BitVec 32 := 1#32
  let v3708 : BitVec 32 := Scalar.muli v128 c1_i32_4690
  let v3709 : BitVec 32 := Scalar.addi c0_i32_4691 v3708
  v3709.toNat
def k0_dev160 (d0 : Dev nD) : Nat :=
  let c0_i32_4701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4700 : BitVec 32 := 1#32
  let v3710 : BitVec 32 := Scalar.muli v193 c1_i32_4700
  let v3711 : BitVec 32 := Scalar.addi c0_i32_4701 v3710
  v3711.toNat
def k0_dev161 (d0 : Dev nD) : Nat :=
  let c0_i32_4731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_4730 : BitVec 32 := 1#32
  let v3734 : BitVec 32 := Scalar.muli v128 c1_i32_4730
  let v3735 : BitVec 32 := Scalar.addi c0_i32_4731 v3734
  v3735.toNat

variable {F : FTy → Type} [FloatOps F]

def k0_dev162 (d0 : Dev nD) : Nat :=
  let c0_i32_4741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4740 : BitVec 32 := 1#32
  let v3736 : BitVec 32 := Scalar.muli v193 c1_i32_4740
  let v3737 : BitVec 32 := Scalar.addi c0_i32_4741 v3736
  v3737.toNat
def k0_dev163 (d0 : Dev nD) : Nat :=
  let c0_i32_4920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4919 : BitVec 32 := 1#32
  let v3917 : BitVec 32 := Scalar.muli v193 c1_i32_4919
  let v3918 : BitVec 32 := Scalar.addi c0_i32_4920 v3917
  v3918.toNat
def k0_dev164 (d0 : Dev nD) : Nat :=
  let c0_i32_4930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_4929 : BitVec 32 := 1#32
  let v3919 : BitVec 32 := Scalar.muli v128 c1_i32_4929
  let v3920 : BitVec 32 := Scalar.addi c0_i32_4930 v3919
  v3920.toNat
def k0_dev165 (d0 : Dev nD) : Nat :=
  let c0_i32_4960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4959 : BitVec 32 := 1#32
  let v3943 : BitVec 32 := Scalar.muli v193 c1_i32_4959
  let v3944 : BitVec 32 := Scalar.addi c0_i32_4960 v3943
  v3944.toNat
def k0_dev166 (d0 : Dev nD) : Nat :=
  let c0_i32_4970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_4969 : BitVec 32 := 1#32
  let v3945 : BitVec 32 := Scalar.muli v128 c1_i32_4969
  let v3946 : BitVec 32 := Scalar.addi c0_i32_4970 v3945
  v3946.toNat
def k0_dev167 (d0 : Dev nD) : Nat :=
  let c0_i32_5000 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_4999 : BitVec 32 := 1#32
  let v3969 : BitVec 32 := Scalar.muli v193 c1_i32_4999
  let v3970 : BitVec 32 := Scalar.addi c0_i32_5000 v3969
  v3970.toNat
def k0_dev168 (d0 : Dev nD) : Nat :=
  let c0_i32_5010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5009 : BitVec 32 := 1#32
  let v3971 : BitVec 32 := Scalar.muli v128 c1_i32_5009
  let v3972 : BitVec 32 := Scalar.addi c0_i32_5010 v3971
  v3972.toNat
def k0_dev169 (d0 : Dev nD) : Nat :=
  let c0_i32_5040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_5039 : BitVec 32 := 1#32
  let v3995 : BitVec 32 := Scalar.muli v193 c1_i32_5039
  let v3996 : BitVec 32 := Scalar.addi c0_i32_5040 v3995
  v3996.toNat
def k0_dev170 (d0 : Dev nD) : Nat :=
  let c0_i32_5050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5049 : BitVec 32 := 1#32
  let v3997 : BitVec 32 := Scalar.muli v128 c1_i32_5049
  let v3998 : BitVec 32 := Scalar.addi c0_i32_5050 v3997
  v3998.toNat
def k0_dev171 (d0 : Dev nD) : Nat :=
  let c0_i32_5080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5079 : BitVec 32 := 1#32
  let v4021 : BitVec 32 := Scalar.muli v128 c1_i32_5079
  let v4022 : BitVec 32 := Scalar.addi c0_i32_5080 v4021
  v4022.toNat
def k0_dev172 (d0 : Dev nD) : Nat :=
  let c0_i32_5090 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_5089 : BitVec 32 := 1#32
  let v4023 : BitVec 32 := Scalar.muli v193 c1_i32_5089
  let v4024 : BitVec 32 := Scalar.addi c0_i32_5090 v4023
  v4024.toNat
def k0_dev173 (d0 : Dev nD) : Nat :=
  let c0_i32_5120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5119 : BitVec 32 := 1#32
  let v4047 : BitVec 32 := Scalar.muli v128 c1_i32_5119
  let v4048 : BitVec 32 := Scalar.addi c0_i32_5120 v4047
  v4048.toNat
def k0_dev174 (d0 : Dev nD) : Nat :=
  let c0_i32_5130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_5129 : BitVec 32 := 1#32
  let v4049 : BitVec 32 := Scalar.muli v193 c1_i32_5129
  let v4050 : BitVec 32 := Scalar.addi c0_i32_5130 v4049
  v4050.toNat
def k0_dev175 (d0 : Dev nD) : Nat :=
  let c0_i32_5160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5159 : BitVec 32 := 1#32
  let v4073 : BitVec 32 := Scalar.muli v128 c1_i32_5159
  let v4074 : BitVec 32 := Scalar.addi c0_i32_5160 v4073
  v4074.toNat
def k0_dev176 (d0 : Dev nD) : Nat :=
  let c0_i32_5170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_5169 : BitVec 32 := 1#32
  let v4075 : BitVec 32 := Scalar.muli v193 c1_i32_5169
  let v4076 : BitVec 32 := Scalar.addi c0_i32_5170 v4075
  v4076.toNat
def k0_dev177 (d0 : Dev nD) : Nat :=
  let c0_i32_5200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5199 : BitVec 32 := 1#32
  let v4099 : BitVec 32 := Scalar.muli v128 c1_i32_5199
  let v4100 : BitVec 32 := Scalar.addi c0_i32_5200 v4099
  v4100.toNat
def k0_dev178 (d0 : Dev nD) : Nat :=
  let c0_i32_5210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_5209 : BitVec 32 := 1#32
  let v4101 : BitVec 32 := Scalar.muli v193 c1_i32_5209
  let v4102 : BitVec 32 := Scalar.addi c0_i32_5210 v4101
  v4102.toNat
def k0_dev179 (d0 : Dev nD) : Nat :=
  let c0_i32_5389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_5388 : BitVec 32 := 1#32
  let v4282 : BitVec 32 := Scalar.muli v193 c1_i32_5388
  let v4283 : BitVec 32 := Scalar.addi c0_i32_5389 v4282
  v4283.toNat
def k0_dev180 (d0 : Dev nD) : Nat :=
  let c0_i32_5399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5398 : BitVec 32 := 1#32
  let v4284 : BitVec 32 := Scalar.muli v128 c1_i32_5398
  let v4285 : BitVec 32 := Scalar.addi c0_i32_5399 v4284
  v4285.toNat
def k0_dev181 (d0 : Dev nD) : Nat :=
  let c0_i32_5429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_5428 : BitVec 32 := 1#32
  let v4308 : BitVec 32 := Scalar.muli v193 c1_i32_5428
  let v4309 : BitVec 32 := Scalar.addi c0_i32_5429 v4308
  v4309.toNat
def k0_dev182 (d0 : Dev nD) : Nat :=
  let c0_i32_5439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5438 : BitVec 32 := 1#32
  let v4310 : BitVec 32 := Scalar.muli v128 c1_i32_5438
  let v4311 : BitVec 32 := Scalar.addi c0_i32_5439 v4310
  v4311.toNat
def k0_dev183 (d0 : Dev nD) : Nat :=
  let c0_i32_5469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_5468 : BitVec 32 := 1#32
  let v4334 : BitVec 32 := Scalar.muli v193 c1_i32_5468
  let v4335 : BitVec 32 := Scalar.addi c0_i32_5469 v4334
  v4335.toNat
def k0_dev184 (d0 : Dev nD) : Nat :=
  let c0_i32_5479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5478 : BitVec 32 := 1#32
  let v4336 : BitVec 32 := Scalar.muli v128 c1_i32_5478
  let v4337 : BitVec 32 := Scalar.addi c0_i32_5479 v4336
  v4337.toNat
def k0_dev185 (d0 : Dev nD) : Nat :=
  let c0_i32_5509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_5508 : BitVec 32 := 1#32
  let v4360 : BitVec 32 := Scalar.muli v193 c1_i32_5508
  let v4361 : BitVec 32 := Scalar.addi c0_i32_5509 v4360
  v4361.toNat
def k0_dev186 (d0 : Dev nD) : Nat :=
  let c0_i32_5519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5518 : BitVec 32 := 1#32
  let v4362 : BitVec 32 := Scalar.muli v128 c1_i32_5518
  let v4363 : BitVec 32 := Scalar.addi c0_i32_5519 v4362
  v4363.toNat
def k0_dev187 (d0 : Dev nD) : Nat :=
  let c0_i32_5549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5548 : BitVec 32 := 1#32
  let v4386 : BitVec 32 := Scalar.muli v128 c1_i32_5548
  let v4387 : BitVec 32 := Scalar.addi c0_i32_5549 v4386
  v4387.toNat
def k0_dev188 (d0 : Dev nD) : Nat :=
  let c0_i32_5559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_5558 : BitVec 32 := 1#32
  let v4388 : BitVec 32 := Scalar.muli v193 c1_i32_5558
  let v4389 : BitVec 32 := Scalar.addi c0_i32_5559 v4388
  v4389.toNat
def k0_dev189 (d0 : Dev nD) : Nat :=
  let c0_i32_5589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5588 : BitVec 32 := 1#32
  let v4412 : BitVec 32 := Scalar.muli v128 c1_i32_5588
  let v4413 : BitVec 32 := Scalar.addi c0_i32_5589 v4412
  v4413.toNat
def k0_dev190 (d0 : Dev nD) : Nat :=
  let c0_i32_5599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_5598 : BitVec 32 := 1#32
  let v4414 : BitVec 32 := Scalar.muli v193 c1_i32_5598
  let v4415 : BitVec 32 := Scalar.addi c0_i32_5599 v4414
  v4415.toNat
def k0_dev191 (d0 : Dev nD) : Nat :=
  let c0_i32_5629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5628 : BitVec 32 := 1#32
  let v4438 : BitVec 32 := Scalar.muli v128 c1_i32_5628
  let v4439 : BitVec 32 := Scalar.addi c0_i32_5629 v4438
  v4439.toNat
def k0_dev192 (d0 : Dev nD) : Nat :=
  let c0_i32_5639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_5638 : BitVec 32 := 1#32
  let v4440 : BitVec 32 := Scalar.muli v193 c1_i32_5638
  let v4441 : BitVec 32 := Scalar.addi c0_i32_5639 v4440
  v4441.toNat
def k0_dev193 (d0 : Dev nD) : Nat :=
  let c0_i32_5669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5668 : BitVec 32 := 1#32
  let v4464 : BitVec 32 := Scalar.muli v128 c1_i32_5668
  let v4465 : BitVec 32 := Scalar.addi c0_i32_5669 v4464
  v4465.toNat
def k0_dev194 (d0 : Dev nD) : Nat :=
  let c0_i32_5679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_5678 : BitVec 32 := 1#32
  let v4466 : BitVec 32 := Scalar.muli v193 c1_i32_5678
  let v4467 : BitVec 32 := Scalar.addi c0_i32_5679 v4466
  v4467.toNat
def k0_dev195 (d0 : Dev nD) : Nat :=
  let c0_i32_5858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_5857 : BitVec 32 := 1#32
  let v4647 : BitVec 32 := Scalar.muli v193 c1_i32_5857
  let v4648 : BitVec 32 := Scalar.addi c0_i32_5858 v4647
  v4648.toNat
def k0_dev196 (d0 : Dev nD) : Nat :=
  let c0_i32_5868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5867 : BitVec 32 := 1#32
  let v4649 : BitVec 32 := Scalar.muli v128 c1_i32_5867
  let v4650 : BitVec 32 := Scalar.addi c0_i32_5868 v4649
  v4650.toNat
def k0_dev197 (d0 : Dev nD) : Nat :=
  let c0_i32_5898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_5897 : BitVec 32 := 1#32
  let v4673 : BitVec 32 := Scalar.muli v193 c1_i32_5897
  let v4674 : BitVec 32 := Scalar.addi c0_i32_5898 v4673
  v4674.toNat
def k0_dev198 (d0 : Dev nD) : Nat :=
  let c0_i32_5908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5907 : BitVec 32 := 1#32
  let v4675 : BitVec 32 := Scalar.muli v128 c1_i32_5907
  let v4676 : BitVec 32 := Scalar.addi c0_i32_5908 v4675
  v4676.toNat
def k0_dev199 (d0 : Dev nD) : Nat :=
  let c0_i32_5938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_5937 : BitVec 32 := 1#32
  let v4699 : BitVec 32 := Scalar.muli v193 c1_i32_5937
  let v4700 : BitVec 32 := Scalar.addi c0_i32_5938 v4699
  v4700.toNat
def k0_dev200 (d0 : Dev nD) : Nat :=
  let c0_i32_5948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5947 : BitVec 32 := 1#32
  let v4701 : BitVec 32 := Scalar.muli v128 c1_i32_5947
  let v4702 : BitVec 32 := Scalar.addi c0_i32_5948 v4701
  v4702.toNat
def k0_dev201 (d0 : Dev nD) : Nat :=
  let c0_i32_5978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_5977 : BitVec 32 := 1#32
  let v4725 : BitVec 32 := Scalar.muli v193 c1_i32_5977
  let v4726 : BitVec 32 := Scalar.addi c0_i32_5978 v4725
  v4726.toNat
def k0_dev202 (d0 : Dev nD) : Nat :=
  let c0_i32_5988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_5987 : BitVec 32 := 1#32
  let v4727 : BitVec 32 := Scalar.muli v128 c1_i32_5987
  let v4728 : BitVec 32 := Scalar.addi c0_i32_5988 v4727
  v4728.toNat
def k0_dev203 (d0 : Dev nD) : Nat :=
  let c0_i32_6018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_6017 : BitVec 32 := 1#32
  let v4751 : BitVec 32 := Scalar.muli v128 c1_i32_6017
  let v4752 : BitVec 32 := Scalar.addi c0_i32_6018 v4751
  v4752.toNat
def k0_dev204 (d0 : Dev nD) : Nat :=
  let c0_i32_6028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_6027 : BitVec 32 := 1#32
  let v4753 : BitVec 32 := Scalar.muli v193 c1_i32_6027
  let v4754 : BitVec 32 := Scalar.addi c0_i32_6028 v4753
  v4754.toNat
def k0_dev205 (d0 : Dev nD) : Nat :=
  let c0_i32_6058 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_6057 : BitVec 32 := 1#32
  let v4777 : BitVec 32 := Scalar.muli v128 c1_i32_6057
  let v4778 : BitVec 32 := Scalar.addi c0_i32_6058 v4777
  v4778.toNat
def k0_dev206 (d0 : Dev nD) : Nat :=
  let c0_i32_6068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_6067 : BitVec 32 := 1#32
  let v4779 : BitVec 32 := Scalar.muli v193 c1_i32_6067
  let v4780 : BitVec 32 := Scalar.addi c0_i32_6068 v4779
  v4780.toNat
def k0_dev207 (d0 : Dev nD) : Nat :=
  let c0_i32_6098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_6097 : BitVec 32 := 1#32
  let v4803 : BitVec 32 := Scalar.muli v128 c1_i32_6097
  let v4804 : BitVec 32 := Scalar.addi c0_i32_6098 v4803
  v4804.toNat
def k0_dev208 (d0 : Dev nD) : Nat :=
  let c0_i32_6108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_6107 : BitVec 32 := 1#32
  let v4805 : BitVec 32 := Scalar.muli v193 c1_i32_6107
  let v4806 : BitVec 32 := Scalar.addi c0_i32_6108 v4805
  v4806.toNat
def k0_dev209 (d0 : Dev nD) : Nat :=
  let c0_i32_6138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_6137 : BitVec 32 := 1#32
  let v4829 : BitVec 32 := Scalar.muli v128 c1_i32_6137
  let v4830 : BitVec 32 := Scalar.addi c0_i32_6138 v4829
  v4830.toNat
def k0_dev210 (d0 : Dev nD) : Nat :=
  let c0_i32_6148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_6147 : BitVec 32 := 1#32
  let v4831 : BitVec 32 := Scalar.muli v193 c1_i32_6147
  let v4832 : BitVec 32 := Scalar.addi c0_i32_6148 v4831
  v4832.toNat
def k0_dev211 (d0 : Dev nD) : Nat :=
  let c0_i32_6327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_6326 : BitVec 32 := 1#32
  let v5012 : BitVec 32 := Scalar.muli v193 c1_i32_6326
  let v5013 : BitVec 32 := Scalar.addi c0_i32_6327 v5012
  v5013.toNat
def k0_dev212 (d0 : Dev nD) : Nat :=
  let c0_i32_6337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_6336 : BitVec 32 := 1#32
  let v5014 : BitVec 32 := Scalar.muli v128 c1_i32_6336
  let v5015 : BitVec 32 := Scalar.addi c0_i32_6337 v5014
  v5015.toNat
def k0_dev213 (d0 : Dev nD) : Nat :=
  let c0_i32_6367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_6366 : BitVec 32 := 1#32
  let v5038 : BitVec 32 := Scalar.muli v193 c1_i32_6366
  let v5039 : BitVec 32 := Scalar.addi c0_i32_6367 v5038
  v5039.toNat
def k0_dev214 (d0 : Dev nD) : Nat :=
  let c0_i32_6377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_6376 : BitVec 32 := 1#32
  let v5040 : BitVec 32 := Scalar.muli v128 c1_i32_6376
  let v5041 : BitVec 32 := Scalar.addi c0_i32_6377 v5040
  v5041.toNat
def k0_dev215 (d0 : Dev nD) : Nat :=
  let c0_i32_6407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_6406 : BitVec 32 := 1#32
  let v5064 : BitVec 32 := Scalar.muli v193 c1_i32_6406
  let v5065 : BitVec 32 := Scalar.addi c0_i32_6407 v5064
  v5065.toNat
def k0_dev216 (d0 : Dev nD) : Nat :=
  let c0_i32_6417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_6416 : BitVec 32 := 1#32
  let v5066 : BitVec 32 := Scalar.muli v128 c1_i32_6416
  let v5067 : BitVec 32 := Scalar.addi c0_i32_6417 v5066
  v5067.toNat
def k0_dev217 (d0 : Dev nD) : Nat :=
  let c0_i32_6447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_6446 : BitVec 32 := 1#32
  let v5090 : BitVec 32 := Scalar.muli v193 c1_i32_6446
  let v5091 : BitVec 32 := Scalar.addi c0_i32_6447 v5090
  v5091.toNat
def k0_dev218 (d0 : Dev nD) : Nat :=
  let c0_i32_6457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_6456 : BitVec 32 := 1#32
  let v5092 : BitVec 32 := Scalar.muli v128 c1_i32_6456
  let v5093 : BitVec 32 := Scalar.addi c0_i32_6457 v5092
  v5093.toNat
def k0_dev219 (d0 : Dev nD) : Nat :=
  let c0_i32_6487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_6486 : BitVec 32 := 1#32
  let v5116 : BitVec 32 := Scalar.muli v128 c1_i32_6486
  let v5117 : BitVec 32 := Scalar.addi c0_i32_6487 v5116
  v5117.toNat
def k0_dev220 (d0 : Dev nD) : Nat :=
  let c0_i32_6497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_6496 : BitVec 32 := 1#32
  let v5118 : BitVec 32 := Scalar.muli v193 c1_i32_6496
  let v5119 : BitVec 32 := Scalar.addi c0_i32_6497 v5118
  v5119.toNat
def k0_dev221 (d0 : Dev nD) : Nat :=
  let c0_i32_6527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_6526 : BitVec 32 := 1#32
  let v5142 : BitVec 32 := Scalar.muli v128 c1_i32_6526
  let v5143 : BitVec 32 := Scalar.addi c0_i32_6527 v5142
  v5143.toNat
def k0_dev222 (d0 : Dev nD) : Nat :=
  let c0_i32_6537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_6536 : BitVec 32 := 1#32
  let v5144 : BitVec 32 := Scalar.muli v193 c1_i32_6536
  let v5145 : BitVec 32 := Scalar.addi c0_i32_6537 v5144
  v5145.toNat
def k0_dev223 (d0 : Dev nD) : Nat :=
  let c0_i32_6567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_6566 : BitVec 32 := 1#32
  let v5168 : BitVec 32 := Scalar.muli v128 c1_i32_6566
  let v5169 : BitVec 32 := Scalar.addi c0_i32_6567 v5168
  v5169.toNat
def k0_dev224 (d0 : Dev nD) : Nat :=
  let c0_i32_6577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_6576 : BitVec 32 := 1#32
  let v5170 : BitVec 32 := Scalar.muli v193 c1_i32_6576
  let v5171 : BitVec 32 := Scalar.addi c0_i32_6577 v5170
  v5171.toNat
def k0_dev225 (d0 : Dev nD) : Nat :=
  let c0_i32_6607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_6606 : BitVec 32 := 1#32
  let v5194 : BitVec 32 := Scalar.muli v128 c1_i32_6606
  let v5195 : BitVec 32 := Scalar.addi c0_i32_6607 v5194
  v5195.toNat
def k0_dev226 (d0 : Dev nD) : Nat :=
  let c0_i32_6617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_6616 : BitVec 32 := 1#32
  let v5196 : BitVec 32 := Scalar.muli v193 c1_i32_6616
  let v5197 : BitVec 32 := Scalar.addi c0_i32_6617 v5196
  v5197.toNat
def k0_dev227 (d0 : Dev nD) : Nat :=
  let c0_i32_6796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_6795 : BitVec 32 := 1#32
  let v5377 : BitVec 32 := Scalar.muli v193 c1_i32_6795
  let v5378 : BitVec 32 := Scalar.addi c0_i32_6796 v5377
  v5378.toNat
def k0_dev228 (d0 : Dev nD) : Nat :=
  let c0_i32_6806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_6805 : BitVec 32 := 1#32
  let v5379 : BitVec 32 := Scalar.muli v128 c1_i32_6805
  let v5380 : BitVec 32 := Scalar.addi c0_i32_6806 v5379
  v5380.toNat
def k0_dev229 (d0 : Dev nD) : Nat :=
  let c0_i32_6836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_6835 : BitVec 32 := 1#32
  let v5403 : BitVec 32 := Scalar.muli v193 c1_i32_6835
  let v5404 : BitVec 32 := Scalar.addi c0_i32_6836 v5403
  v5404.toNat
def k0_dev230 (d0 : Dev nD) : Nat :=
  let c0_i32_6846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_6845 : BitVec 32 := 1#32
  let v5405 : BitVec 32 := Scalar.muli v128 c1_i32_6845
  let v5406 : BitVec 32 := Scalar.addi c0_i32_6846 v5405
  v5406.toNat
def k0_dev231 (d0 : Dev nD) : Nat :=
  let c0_i32_6968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_6967 : BitVec 32 := 1#32
  let v5485 : BitVec 32 := Scalar.muli v128 c1_i32_6967
  let v5486 : BitVec 32 := Scalar.addi c0_i32_6968 v5485
  v5486.toNat
def k0_dev232 (d0 : Dev nD) : Nat :=
  let c0_i32_6978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_6977 : BitVec 32 := 1#32
  let v5487 : BitVec 32 := Scalar.muli v193 c1_i32_6977
  let v5488 : BitVec 32 := Scalar.addi c0_i32_6978 v5487
  v5488.toNat
def k0_dev233 (d0 : Dev nD) : Nat :=
  let c0_i32_7008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_32 : BitVec 32 := 1#32
  let v65 : BitVec 32 := Scalar.addi v64 c1_i32_32
  let c32_i32_33 : BitVec 32 := 32#32
  let v66 : BitVec 32 := Scalar.remsi v65 c32_i32_33
  let c31_i32_95 : BitVec 32 := 31#32
  let v127 : BitVec 1 := Scalar.cmpi .eq v66 c31_i32_95
  let c3_i32_96 : BitVec 32 := 3#32
  let c30_i32_93 : BitVec 32 := 30#32
  let v125 : BitVec 1 := Scalar.cmpi .eq v66 c30_i32_93
  let c11_i32_94 : BitVec 32 := 11#32
  let c29_i32_91 : BitVec 32 := 29#32
  let v123 : BitVec 1 := Scalar.cmpi .eq v66 c29_i32_91
  let c19_i32_92 : BitVec 32 := 19#32
  let c28_i32_89 : BitVec 32 := 28#32
  let v121 : BitVec 1 := Scalar.cmpi .eq v66 c28_i32_89
  let c27_i32_90 : BitVec 32 := 27#32
  let c27_i32_87 : BitVec 32 := 27#32
  let v119 : BitVec 1 := Scalar.cmpi .eq v66 c27_i32_87
  let c28_i32_88 : BitVec 32 := 28#32
  let c26_i32_85 : BitVec 32 := 26#32
  let v117 : BitVec 1 := Scalar.cmpi .eq v66 c26_i32_85
  let c20_i32_86 : BitVec 32 := 20#32
  let c25_i32_83 : BitVec 32 := 25#32
  let v115 : BitVec 1 := Scalar.cmpi .eq v66 c25_i32_83
  let c12_i32_84 : BitVec 32 := 12#32
  let c24_i32_81 : BitVec 32 := 24#32
  let v113 : BitVec 1 := Scalar.cmpi .eq v66 c24_i32_81
  let c4_i32_82 : BitVec 32 := 4#32
  let c23_i32_79 : BitVec 32 := 23#32
  let v111 : BitVec 1 := Scalar.cmpi .eq v66 c23_i32_79
  let c7_i32_80 : BitVec 32 := 7#32
  let c22_i32_77 : BitVec 32 := 22#32
  let v109 : BitVec 1 := Scalar.cmpi .eq v66 c22_i32_77
  let c15_i32_78 : BitVec 32 := 15#32
  let c21_i32_75 : BitVec 32 := 21#32
  let v107 : BitVec 1 := Scalar.cmpi .eq v66 c21_i32_75
  let c23_i32_76 : BitVec 32 := 23#32
  let c20_i32_73 : BitVec 32 := 20#32
  let v105 : BitVec 1 := Scalar.cmpi .eq v66 c20_i32_73
  let c31_i32_74 : BitVec 32 := 31#32
  let c19_i32_71 : BitVec 32 := 19#32
  let v103 : BitVec 1 := Scalar.cmpi .eq v66 c19_i32_71
  let c30_i32_72 : BitVec 32 := 30#32
  let c18_i32_69 : BitVec 32 := 18#32
  let v101 : BitVec 1 := Scalar.cmpi .eq v66 c18_i32_69
  let c22_i32_70 : BitVec 32 := 22#32
  let c17_i32_67 : BitVec 32 := 17#32
  let v99 : BitVec 1 := Scalar.cmpi .eq v66 c17_i32_67
  let c14_i32_68 : BitVec 32 := 14#32
  let c16_i32_65 : BitVec 32 := 16#32
  let v97 : BitVec 1 := Scalar.cmpi .eq v66 c16_i32_65
  let c6_i32_66 : BitVec 32 := 6#32
  let c15_i32_63 : BitVec 32 := 15#32
  let v95 : BitVec 1 := Scalar.cmpi .eq v66 c15_i32_63
  let c5_i32_64 : BitVec 32 := 5#32
  let c14_i32_61 : BitVec 32 := 14#32
  let v93 : BitVec 1 := Scalar.cmpi .eq v66 c14_i32_61
  let c13_i32_62 : BitVec 32 := 13#32
  let c13_i32_59 : BitVec 32 := 13#32
  let v91 : BitVec 1 := Scalar.cmpi .eq v66 c13_i32_59
  let c21_i32_60 : BitVec 32 := 21#32
  let c12_i32_57 : BitVec 32 := 12#32
  let v89 : BitVec 1 := Scalar.cmpi .eq v66 c12_i32_57
  let c29_i32_58 : BitVec 32 := 29#32
  let c11_i32_55 : BitVec 32 := 11#32
  let v87 : BitVec 1 := Scalar.cmpi .eq v66 c11_i32_55
  let c26_i32_56 : BitVec 32 := 26#32
  let c10_i32_53 : BitVec 32 := 10#32
  let v85 : BitVec 1 := Scalar.cmpi .eq v66 c10_i32_53
  let c18_i32_54 : BitVec 32 := 18#32
  let c9_i32_51 : BitVec 32 := 9#32
  let v83 : BitVec 1 := Scalar.cmpi .eq v66 c9_i32_51
  let c10_i32_52 : BitVec 32 := 10#32
  let c8_i32_49 : BitVec 32 := 8#32
  let v81 : BitVec 1 := Scalar.cmpi .eq v66 c8_i32_49
  let c2_i32_50 : BitVec 32 := 2#32
  let c7_i32_47 : BitVec 32 := 7#32
  let v79 : BitVec 1 := Scalar.cmpi .eq v66 c7_i32_47
  let c1_i32_48 : BitVec 32 := 1#32
  let c6_i32_45 : BitVec 32 := 6#32
  let v77 : BitVec 1 := Scalar.cmpi .eq v66 c6_i32_45
  let c9_i32_46 : BitVec 32 := 9#32
  let c5_i32_43 : BitVec 32 := 5#32
  let v75 : BitVec 1 := Scalar.cmpi .eq v66 c5_i32_43
  let c17_i32_44 : BitVec 32 := 17#32
  let c4_i32_41 : BitVec 32 := 4#32
  let v73 : BitVec 1 := Scalar.cmpi .eq v66 c4_i32_41
  let c25_i32_42 : BitVec 32 := 25#32
  let c3_i32_39 : BitVec 32 := 3#32
  let v71 : BitVec 1 := Scalar.cmpi .eq v66 c3_i32_39
  let c24_i32_40 : BitVec 32 := 24#32
  let c2_i32_37 : BitVec 32 := 2#32
  let v69 : BitVec 1 := Scalar.cmpi .eq v66 c2_i32_37
  let c16_i32_38 : BitVec 32 := 16#32
  let c1_i32_34 : BitVec 32 := 1#32
  let v67 : BitVec 1 := Scalar.cmpi .eq v66 c1_i32_34
  let c8_i32_35 : BitVec 32 := 8#32
  let c0_i32_36 : BitVec 32 := 0#32
  let v68 : BitVec 32 := Scalar.select v67 c8_i32_35 c0_i32_36
  let v70 : BitVec 32 := Scalar.select v69 c16_i32_38 v68
  let v72 : BitVec 32 := Scalar.select v71 c24_i32_40 v70
  let v74 : BitVec 32 := Scalar.select v73 c25_i32_42 v72
  let v76 : BitVec 32 := Scalar.select v75 c17_i32_44 v74
  let v78 : BitVec 32 := Scalar.select v77 c9_i32_46 v76
  let v80 : BitVec 32 := Scalar.select v79 c1_i32_48 v78
  let v82 : BitVec 32 := Scalar.select v81 c2_i32_50 v80
  let v84 : BitVec 32 := Scalar.select v83 c10_i32_52 v82
  let v86 : BitVec 32 := Scalar.select v85 c18_i32_54 v84
  let v88 : BitVec 32 := Scalar.select v87 c26_i32_56 v86
  let v90 : BitVec 32 := Scalar.select v89 c29_i32_58 v88
  let v92 : BitVec 32 := Scalar.select v91 c21_i32_60 v90
  let v94 : BitVec 32 := Scalar.select v93 c13_i32_62 v92
  let v96 : BitVec 32 := Scalar.select v95 c5_i32_64 v94
  let v98 : BitVec 32 := Scalar.select v97 c6_i32_66 v96
  let v100 : BitVec 32 := Scalar.select v99 c14_i32_68 v98
  let v102 : BitVec 32 := Scalar.select v101 c22_i32_70 v100
  let v104 : BitVec 32 := Scalar.select v103 c30_i32_72 v102
  let v106 : BitVec 32 := Scalar.select v105 c31_i32_74 v104
  let v108 : BitVec 32 := Scalar.select v107 c23_i32_76 v106
  let v110 : BitVec 32 := Scalar.select v109 c15_i32_78 v108
  let v112 : BitVec 32 := Scalar.select v111 c7_i32_80 v110
  let v114 : BitVec 32 := Scalar.select v113 c4_i32_82 v112
  let v116 : BitVec 32 := Scalar.select v115 c12_i32_84 v114
  let v118 : BitVec 32 := Scalar.select v117 c20_i32_86 v116
  let v120 : BitVec 32 := Scalar.select v119 c28_i32_88 v118
  let v122 : BitVec 32 := Scalar.select v121 c27_i32_90 v120
  let v124 : BitVec 32 := Scalar.select v123 c19_i32_92 v122
  let v126 : BitVec 32 := Scalar.select v125 c11_i32_94 v124
  let v128 : BitVec 32 := Scalar.select v127 c3_i32_96 v126
  let c1_i32_7007 : BitVec 32 := 1#32
  let v5511 : BitVec 32 := Scalar.muli v128 c1_i32_7007
  let v5512 : BitVec 32 := Scalar.addi c0_i32_7008 v5511
  v5512.toNat
def k0_dev234 (d0 : Dev nD) : Nat :=
  let c0_i32_7018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c32_i32_97 : BitVec 32 := 32#32
  let v129 : BitVec 32 := Scalar.addi v64 c32_i32_97
  let c1_i32_98 : BitVec 32 := 1#32
  let v130 : BitVec 32 := Scalar.subi v129 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c3_i32_162 : BitVec 32 := 3#32
  let c30_i32_159 : BitVec 32 := 30#32
  let v190 : BitVec 1 := Scalar.cmpi .eq v131 c30_i32_159
  let c11_i32_160 : BitVec 32 := 11#32
  let c29_i32_157 : BitVec 32 := 29#32
  let v188 : BitVec 1 := Scalar.cmpi .eq v131 c29_i32_157
  let c19_i32_158 : BitVec 32 := 19#32
  let c28_i32_155 : BitVec 32 := 28#32
  let v186 : BitVec 1 := Scalar.cmpi .eq v131 c28_i32_155
  let c27_i32_156 : BitVec 32 := 27#32
  let c27_i32_153 : BitVec 32 := 27#32
  let v184 : BitVec 1 := Scalar.cmpi .eq v131 c27_i32_153
  let c28_i32_154 : BitVec 32 := 28#32
  let c26_i32_151 : BitVec 32 := 26#32
  let v182 : BitVec 1 := Scalar.cmpi .eq v131 c26_i32_151
  let c20_i32_152 : BitVec 32 := 20#32
  let c25_i32_149 : BitVec 32 := 25#32
  let v180 : BitVec 1 := Scalar.cmpi .eq v131 c25_i32_149
  let c12_i32_150 : BitVec 32 := 12#32
  let c24_i32_147 : BitVec 32 := 24#32
  let v178 : BitVec 1 := Scalar.cmpi .eq v131 c24_i32_147
  let c4_i32_148 : BitVec 32 := 4#32
  let c23_i32_145 : BitVec 32 := 23#32
  let v176 : BitVec 1 := Scalar.cmpi .eq v131 c23_i32_145
  let c7_i32_146 : BitVec 32 := 7#32
  let c22_i32_143 : BitVec 32 := 22#32
  let v174 : BitVec 1 := Scalar.cmpi .eq v131 c22_i32_143
  let c15_i32_144 : BitVec 32 := 15#32
  let c21_i32_141 : BitVec 32 := 21#32
  let v172 : BitVec 1 := Scalar.cmpi .eq v131 c21_i32_141
  let c23_i32_142 : BitVec 32 := 23#32
  let c20_i32_139 : BitVec 32 := 20#32
  let v170 : BitVec 1 := Scalar.cmpi .eq v131 c20_i32_139
  let c31_i32_140 : BitVec 32 := 31#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c22_i32_136 : BitVec 32 := 22#32
  let c17_i32_133 : BitVec 32 := 17#32
  let v164 : BitVec 1 := Scalar.cmpi .eq v131 c17_i32_133
  let c14_i32_134 : BitVec 32 := 14#32
  let c16_i32_131 : BitVec 32 := 16#32
  let v162 : BitVec 1 := Scalar.cmpi .eq v131 c16_i32_131
  let c6_i32_132 : BitVec 32 := 6#32
  let c15_i32_129 : BitVec 32 := 15#32
  let v160 : BitVec 1 := Scalar.cmpi .eq v131 c15_i32_129
  let c5_i32_130 : BitVec 32 := 5#32
  let c14_i32_127 : BitVec 32 := 14#32
  let v158 : BitVec 1 := Scalar.cmpi .eq v131 c14_i32_127
  let c13_i32_128 : BitVec 32 := 13#32
  let c13_i32_125 : BitVec 32 := 13#32
  let v156 : BitVec 1 := Scalar.cmpi .eq v131 c13_i32_125
  let c21_i32_126 : BitVec 32 := 21#32
  let c12_i32_123 : BitVec 32 := 12#32
  let v154 : BitVec 1 := Scalar.cmpi .eq v131 c12_i32_123
  let c29_i32_124 : BitVec 32 := 29#32
  let c11_i32_121 : BitVec 32 := 11#32
  let v152 : BitVec 1 := Scalar.cmpi .eq v131 c11_i32_121
  let c26_i32_122 : BitVec 32 := 26#32
  let c10_i32_119 : BitVec 32 := 10#32
  let v150 : BitVec 1 := Scalar.cmpi .eq v131 c10_i32_119
  let c18_i32_120 : BitVec 32 := 18#32
  let c9_i32_117 : BitVec 32 := 9#32
  let v148 : BitVec 1 := Scalar.cmpi .eq v131 c9_i32_117
  let c10_i32_118 : BitVec 32 := 10#32
  let c8_i32_115 : BitVec 32 := 8#32
  let v146 : BitVec 1 := Scalar.cmpi .eq v131 c8_i32_115
  let c2_i32_116 : BitVec 32 := 2#32
  let c7_i32_113 : BitVec 32 := 7#32
  let v144 : BitVec 1 := Scalar.cmpi .eq v131 c7_i32_113
  let c1_i32_114 : BitVec 32 := 1#32
  let c6_i32_111 : BitVec 32 := 6#32
  let v142 : BitVec 1 := Scalar.cmpi .eq v131 c6_i32_111
  let c9_i32_112 : BitVec 32 := 9#32
  let c5_i32_109 : BitVec 32 := 5#32
  let v140 : BitVec 1 := Scalar.cmpi .eq v131 c5_i32_109
  let c17_i32_110 : BitVec 32 := 17#32
  let c4_i32_107 : BitVec 32 := 4#32
  let v138 : BitVec 1 := Scalar.cmpi .eq v131 c4_i32_107
  let c25_i32_108 : BitVec 32 := 25#32
  let c3_i32_105 : BitVec 32 := 3#32
  let v136 : BitVec 1 := Scalar.cmpi .eq v131 c3_i32_105
  let c24_i32_106 : BitVec 32 := 24#32
  let c2_i32_103 : BitVec 32 := 2#32
  let v134 : BitVec 1 := Scalar.cmpi .eq v131 c2_i32_103
  let c16_i32_104 : BitVec 32 := 16#32
  let c1_i32_100 : BitVec 32 := 1#32
  let v132 : BitVec 1 := Scalar.cmpi .eq v131 c1_i32_100
  let c8_i32_101 : BitVec 32 := 8#32
  let c0_i32_102 : BitVec 32 := 0#32
  let v133 : BitVec 32 := Scalar.select v132 c8_i32_101 c0_i32_102
  let v135 : BitVec 32 := Scalar.select v134 c16_i32_104 v133
  let v137 : BitVec 32 := Scalar.select v136 c24_i32_106 v135
  let v139 : BitVec 32 := Scalar.select v138 c25_i32_108 v137
  let v141 : BitVec 32 := Scalar.select v140 c17_i32_110 v139
  let v143 : BitVec 32 := Scalar.select v142 c9_i32_112 v141
  let v145 : BitVec 32 := Scalar.select v144 c1_i32_114 v143
  let v147 : BitVec 32 := Scalar.select v146 c2_i32_116 v145
  let v149 : BitVec 32 := Scalar.select v148 c10_i32_118 v147
  let v151 : BitVec 32 := Scalar.select v150 c18_i32_120 v149
  let v153 : BitVec 32 := Scalar.select v152 c26_i32_122 v151
  let v155 : BitVec 32 := Scalar.select v154 c29_i32_124 v153
  let v157 : BitVec 32 := Scalar.select v156 c21_i32_126 v155
  let v159 : BitVec 32 := Scalar.select v158 c13_i32_128 v157
  let v161 : BitVec 32 := Scalar.select v160 c5_i32_130 v159
  let v163 : BitVec 32 := Scalar.select v162 c6_i32_132 v161
  let v165 : BitVec 32 := Scalar.select v164 c14_i32_134 v163
  let v167 : BitVec 32 := Scalar.select v166 c22_i32_136 v165
  let v169 : BitVec 32 := Scalar.select v168 c30_i32_138 v167
  let v171 : BitVec 32 := Scalar.select v170 c31_i32_140 v169
  let v173 : BitVec 32 := Scalar.select v172 c23_i32_142 v171
  let v175 : BitVec 32 := Scalar.select v174 c15_i32_144 v173
  let v177 : BitVec 32 := Scalar.select v176 c7_i32_146 v175
  let v179 : BitVec 32 := Scalar.select v178 c4_i32_148 v177
  let v181 : BitVec 32 := Scalar.select v180 c12_i32_150 v179
  let v183 : BitVec 32 := Scalar.select v182 c20_i32_152 v181
  let v185 : BitVec 32 := Scalar.select v184 c28_i32_154 v183
  let v187 : BitVec 32 := Scalar.select v186 c27_i32_156 v185
  let v189 : BitVec 32 := Scalar.select v188 c19_i32_158 v187
  let v191 : BitVec 32 := Scalar.select v190 c11_i32_160 v189
  let v193 : BitVec 32 := Scalar.select v192 c3_i32_162 v191
  let c1_i32_7017 : BitVec 32 := 1#32
  let v5513 : BitVec 32 := Scalar.muli v193 c1_i32_7017
  let v5514 : BitVec 32 := Scalar.addi c0_i32_7018 v5513
  v5514.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_7264 : BitVec 32 := 1#32
  let v5736 : BitVec 32 := Scalar.subi v64 c1_i32_7264
  let c15_i32_7265 : BitVec 32 := 15#32
  let v5737 : BitVec 32 := Scalar.subi v5736 c15_i32_7265
  let c32_i32_7266 : BitVec 32 := 32#32
  let v5738 : BitVec 32 := Scalar.addi v5737 c32_i32_7266
  let c32_i32_7267 : BitVec 32 := 32#32
  let v5739 : BitVec 32 := Scalar.remsi v5738 c32_i32_7267
  let c31_i32_7329 : BitVec 32 := 31#32
  let v5800 : BitVec 1 := Scalar.cmpi .eq v5739 c31_i32_7329
  let c3_i32_7330 : BitVec 32 := 3#32
  let c30_i32_7327 : BitVec 32 := 30#32
  let v5798 : BitVec 1 := Scalar.cmpi .eq v5739 c30_i32_7327
  let c11_i32_7328 : BitVec 32 := 11#32
  let c29_i32_7325 : BitVec 32 := 29#32
  let v5796 : BitVec 1 := Scalar.cmpi .eq v5739 c29_i32_7325
  let c19_i32_7326 : BitVec 32 := 19#32
  let c28_i32_7323 : BitVec 32 := 28#32
  let v5794 : BitVec 1 := Scalar.cmpi .eq v5739 c28_i32_7323
  let c27_i32_7324 : BitVec 32 := 27#32
  let c27_i32_7321 : BitVec 32 := 27#32
  let v5792 : BitVec 1 := Scalar.cmpi .eq v5739 c27_i32_7321
  let c28_i32_7322 : BitVec 32 := 28#32
  let c26_i32_7319 : BitVec 32 := 26#32
  let v5790 : BitVec 1 := Scalar.cmpi .eq v5739 c26_i32_7319
  let c20_i32_7320 : BitVec 32 := 20#32
  let c25_i32_7317 : BitVec 32 := 25#32
  let v5788 : BitVec 1 := Scalar.cmpi .eq v5739 c25_i32_7317
  let c12_i32_7318 : BitVec 32 := 12#32
  let c24_i32_7315 : BitVec 32 := 24#32
  let v5786 : BitVec 1 := Scalar.cmpi .eq v5739 c24_i32_7315
  let c4_i32_7316 : BitVec 32 := 4#32
  let c23_i32_7313 : BitVec 32 := 23#32
  let v5784 : BitVec 1 := Scalar.cmpi .eq v5739 c23_i32_7313
  let c7_i32_7314 : BitVec 32 := 7#32
  let c22_i32_7311 : BitVec 32 := 22#32
  let v5782 : BitVec 1 := Scalar.cmpi .eq v5739 c22_i32_7311
  let c15_i32_7312 : BitVec 32 := 15#32
  let c21_i32_7309 : BitVec 32 := 21#32
  let v5780 : BitVec 1 := Scalar.cmpi .eq v5739 c21_i32_7309
  let c23_i32_7310 : BitVec 32 := 23#32
  let c20_i32_7307 : BitVec 32 := 20#32
  let v5778 : BitVec 1 := Scalar.cmpi .eq v5739 c20_i32_7307
  let c31_i32_7308 : BitVec 32 := 31#32
  let c19_i32_7305 : BitVec 32 := 19#32
  let v5776 : BitVec 1 := Scalar.cmpi .eq v5739 c19_i32_7305
  let c30_i32_7306 : BitVec 32 := 30#32
  let c18_i32_7303 : BitVec 32 := 18#32
  let v5774 : BitVec 1 := Scalar.cmpi .eq v5739 c18_i32_7303
  let c22_i32_7304 : BitVec 32 := 22#32
  let c17_i32_7301 : BitVec 32 := 17#32
  let v5772 : BitVec 1 := Scalar.cmpi .eq v5739 c17_i32_7301
  let c14_i32_7302 : BitVec 32 := 14#32
  let c16_i32_7299 : BitVec 32 := 16#32
  let v5770 : BitVec 1 := Scalar.cmpi .eq v5739 c16_i32_7299
  let c6_i32_7300 : BitVec 32 := 6#32
  let c15_i32_7297 : BitVec 32 := 15#32
  let v5768 : BitVec 1 := Scalar.cmpi .eq v5739 c15_i32_7297
  let c5_i32_7298 : BitVec 32 := 5#32
  let c14_i32_7295 : BitVec 32 := 14#32
  let v5766 : BitVec 1 := Scalar.cmpi .eq v5739 c14_i32_7295
  let c13_i32_7296 : BitVec 32 := 13#32
  let c13_i32_7293 : BitVec 32 := 13#32
  let v5764 : BitVec 1 := Scalar.cmpi .eq v5739 c13_i32_7293
  let c21_i32_7294 : BitVec 32 := 21#32
  let c12_i32_7291 : BitVec 32 := 12#32
  let v5762 : BitVec 1 := Scalar.cmpi .eq v5739 c12_i32_7291
  let c29_i32_7292 : BitVec 32 := 29#32
  let c11_i32_7289 : BitVec 32 := 11#32
  let v5760 : BitVec 1 := Scalar.cmpi .eq v5739 c11_i32_7289
  let c26_i32_7290 : BitVec 32 := 26#32
  let c10_i32_7287 : BitVec 32 := 10#32
  let v5758 : BitVec 1 := Scalar.cmpi .eq v5739 c10_i32_7287
  let c18_i32_7288 : BitVec 32 := 18#32
  let c9_i32_7285 : BitVec 32 := 9#32
  let v5756 : BitVec 1 := Scalar.cmpi .eq v5739 c9_i32_7285
  let c10_i32_7286 : BitVec 32 := 10#32
  let c8_i32_7283 : BitVec 32 := 8#32
  let v5754 : BitVec 1 := Scalar.cmpi .eq v5739 c8_i32_7283
  let c2_i32_7284 : BitVec 32 := 2#32
  let c7_i32_7281 : BitVec 32 := 7#32
  let v5752 : BitVec 1 := Scalar.cmpi .eq v5739 c7_i32_7281
  let c1_i32_7282 : BitVec 32 := 1#32
  let c6_i32_7279 : BitVec 32 := 6#32
  let v5750 : BitVec 1 := Scalar.cmpi .eq v5739 c6_i32_7279
  let c9_i32_7280 : BitVec 32 := 9#32
  let c5_i32_7277 : BitVec 32 := 5#32
  let v5748 : BitVec 1 := Scalar.cmpi .eq v5739 c5_i32_7277
  let c17_i32_7278 : BitVec 32 := 17#32
  let c4_i32_7275 : BitVec 32 := 4#32
  let v5746 : BitVec 1 := Scalar.cmpi .eq v5739 c4_i32_7275
  let c25_i32_7276 : BitVec 32 := 25#32
  let c3_i32_7273 : BitVec 32 := 3#32
  let v5744 : BitVec 1 := Scalar.cmpi .eq v5739 c3_i32_7273
  let c24_i32_7274 : BitVec 32 := 24#32
  let c2_i32_7271 : BitVec 32 := 2#32
  let v5742 : BitVec 1 := Scalar.cmpi .eq v5739 c2_i32_7271
  let c16_i32_7272 : BitVec 32 := 16#32
  let c1_i32_7268 : BitVec 32 := 1#32
  let v5740 : BitVec 1 := Scalar.cmpi .eq v5739 c1_i32_7268
  let c8_i32_7269 : BitVec 32 := 8#32
  let c0_i32_7270 : BitVec 32 := 0#32
  let v5741 : BitVec 32 := Scalar.select v5740 c8_i32_7269 c0_i32_7270
  let v5743 : BitVec 32 := Scalar.select v5742 c16_i32_7272 v5741
  let v5745 : BitVec 32 := Scalar.select v5744 c24_i32_7274 v5743
  let v5747 : BitVec 32 := Scalar.select v5746 c25_i32_7276 v5745
  let v5749 : BitVec 32 := Scalar.select v5748 c17_i32_7278 v5747
  let v5751 : BitVec 32 := Scalar.select v5750 c9_i32_7280 v5749
  let v5753 : BitVec 32 := Scalar.select v5752 c1_i32_7282 v5751
  let v5755 : BitVec 32 := Scalar.select v5754 c2_i32_7284 v5753
  let v5757 : BitVec 32 := Scalar.select v5756 c10_i32_7286 v5755
  let v5759 : BitVec 32 := Scalar.select v5758 c18_i32_7288 v5757
  let v5761 : BitVec 32 := Scalar.select v5760 c26_i32_7290 v5759
  let v5763 : BitVec 32 := Scalar.select v5762 c29_i32_7292 v5761
  let v5765 : BitVec 32 := Scalar.select v5764 c21_i32_7294 v5763
  let v5767 : BitVec 32 := Scalar.select v5766 c13_i32_7296 v5765
  let v5769 : BitVec 32 := Scalar.select v5768 c5_i32_7298 v5767
  let v5771 : BitVec 32 := Scalar.select v5770 c6_i32_7300 v5769
  let v5773 : BitVec 32 := Scalar.select v5772 c14_i32_7302 v5771
  let v5775 : BitVec 32 := Scalar.select v5774 c22_i32_7304 v5773
  let v5777 : BitVec 32 := Scalar.select v5776 c30_i32_7306 v5775
  let v5779 : BitVec 32 := Scalar.select v5778 c31_i32_7308 v5777
  let v5781 : BitVec 32 := Scalar.select v5780 c23_i32_7310 v5779
  let v5783 : BitVec 32 := Scalar.select v5782 c15_i32_7312 v5781
  let v5785 : BitVec 32 := Scalar.select v5784 c7_i32_7314 v5783
  let v5787 : BitVec 32 := Scalar.select v5786 c4_i32_7316 v5785
  let v5789 : BitVec 32 := Scalar.select v5788 c12_i32_7318 v5787
  let v5791 : BitVec 32 := Scalar.select v5790 c20_i32_7320 v5789
  let v5793 : BitVec 32 := Scalar.select v5792 c28_i32_7322 v5791
  let v5795 : BitVec 32 := Scalar.select v5794 c27_i32_7324 v5793
  let v5797 : BitVec 32 := Scalar.select v5796 c19_i32_7326 v5795
  let v5799 : BitVec 32 := Scalar.select v5798 c11_i32_7328 v5797
  let v5801 : BitVec 32 := Scalar.select v5800 c3_i32_7330 v5799
  let c128_i32_7402 : BitVec 32 := 128#32
  let v5872 : BitVec 32 := Scalar.muli v5801 c128_i32_7402
  let v5873 : Index := Scalar.indexCast v5872
  let c0_7403 : Index := 0#32
  ![v5873.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_30 : BitVec 32 := 3#32
  let v63 : BitVec 1 := Scalar.cmpi .eq v2 c3_i32_30
  let c31_i32_31 : BitVec 32 := 31#32
  let c11_i32_28 : BitVec 32 := 11#32
  let v61 : BitVec 1 := Scalar.cmpi .eq v2 c11_i32_28
  let c30_i32_29 : BitVec 32 := 30#32
  let c19_i32_26 : BitVec 32 := 19#32
  let v59 : BitVec 1 := Scalar.cmpi .eq v2 c19_i32_26
  let c29_i32_27 : BitVec 32 := 29#32
  let c27_i32_24 : BitVec 32 := 27#32
  let v57 : BitVec 1 := Scalar.cmpi .eq v2 c27_i32_24
  let c28_i32_25 : BitVec 32 := 28#32
  let c28_i32 : BitVec 32 := 28#32
  let v55 : BitVec 1 := Scalar.cmpi .eq v2 c28_i32
  let c27_i32 : BitVec 32 := 27#32
  let c20_i32_22 : BitVec 32 := 20#32
  let v53 : BitVec 1 := Scalar.cmpi .eq v2 c20_i32_22
  let c26_i32_23 : BitVec 32 := 26#32
  let c12_i32_20 : BitVec 32 := 12#32
  let v51 : BitVec 1 := Scalar.cmpi .eq v2 c12_i32_20
  let c25_i32_21 : BitVec 32 := 25#32
  let c4_i32_18 : BitVec 32 := 4#32
  let v49 : BitVec 1 := Scalar.cmpi .eq v2 c4_i32_18
  let c24_i32_19 : BitVec 32 := 24#32
  let c7_i32_16 : BitVec 32 := 7#32
  let v47 : BitVec 1 := Scalar.cmpi .eq v2 c7_i32_16
  let c23_i32_17 : BitVec 32 := 23#32
  let c15_i32_14 : BitVec 32 := 15#32
  let v45 : BitVec 1 := Scalar.cmpi .eq v2 c15_i32_14
  let c22_i32_15 : BitVec 32 := 22#32
  let c23_i32 : BitVec 32 := 23#32
  let v43 : BitVec 1 := Scalar.cmpi .eq v2 c23_i32
  let c21_i32_13 : BitVec 32 := 21#32
  let c31_i32 : BitVec 32 := 31#32
  let v41 : BitVec 1 := Scalar.cmpi .eq v2 c31_i32
  let c20_i32 : BitVec 32 := 20#32
  let c30_i32 : BitVec 32 := 30#32
  let v39 : BitVec 1 := Scalar.cmpi .eq v2 c30_i32
  let c19_i32 : BitVec 32 := 19#32
  let c22_i32 : BitVec 32 := 22#32
  let v37 : BitVec 1 := Scalar.cmpi .eq v2 c22_i32
  let c18_i32_12 : BitVec 32 := 18#32
  let c14_i32_10 : BitVec 32 := 14#32
  let v35 : BitVec 1 := Scalar.cmpi .eq v2 c14_i32_10
  let c17_i32_11 : BitVec 32 := 17#32
  let c6_i32_8 : BitVec 32 := 6#32
  let v33 : BitVec 1 := Scalar.cmpi .eq v2 c6_i32_8
  let c16_i32_9 : BitVec 32 := 16#32
  let c5_i32_7 : BitVec 32 := 5#32
  let v31 : BitVec 1 := Scalar.cmpi .eq v2 c5_i32_7
  let c15_i32 : BitVec 32 := 15#32
  let c13_i32_6 : BitVec 32 := 13#32
  let v29 : BitVec 1 := Scalar.cmpi .eq v2 c13_i32_6
  let c14_i32 : BitVec 32 := 14#32
  let c21_i32 : BitVec 32 := 21#32
  let v27 : BitVec 1 := Scalar.cmpi .eq v2 c21_i32
  let c13_i32 : BitVec 32 := 13#32
  let c29_i32 : BitVec 32 := 29#32
  let v25 : BitVec 1 := Scalar.cmpi .eq v2 c29_i32
  let c12_i32 : BitVec 32 := 12#32
  let c26_i32 : BitVec 32 := 26#32
  let v23 : BitVec 1 := Scalar.cmpi .eq v2 c26_i32
  let c11_i32 : BitVec 32 := 11#32
  let c18_i32 : BitVec 32 := 18#32
  let v21 : BitVec 1 := Scalar.cmpi .eq v2 c18_i32
  let c10_i32_5 : BitVec 32 := 10#32
  let c10_i32 : BitVec 32 := 10#32
  let v19 : BitVec 1 := Scalar.cmpi .eq v2 c10_i32
  let c9_i32_4 : BitVec 32 := 9#32
  let c2_i32_2 : BitVec 32 := 2#32
  let v17 : BitVec 1 := Scalar.cmpi .eq v2 c2_i32_2
  let c8_i32_3 : BitVec 32 := 8#32
  let c1_i32_1 : BitVec 32 := 1#32
  let v15 : BitVec 1 := Scalar.cmpi .eq v2 c1_i32_1
  let c7_i32 : BitVec 32 := 7#32
  let c9_i32 : BitVec 32 := 9#32
  let v13 : BitVec 1 := Scalar.cmpi .eq v2 c9_i32
  let c6_i32 : BitVec 32 := 6#32
  let c17_i32 : BitVec 32 := 17#32
  let v11 : BitVec 1 := Scalar.cmpi .eq v2 c17_i32
  let c5_i32 : BitVec 32 := 5#32
  let c25_i32 : BitVec 32 := 25#32
  let v9 : BitVec 1 := Scalar.cmpi .eq v2 c25_i32
  let c4_i32 : BitVec 32 := 4#32
  let c24_i32 : BitVec 32 := 24#32
  let v7 : BitVec 1 := Scalar.cmpi .eq v2 c24_i32
  let c3_i32 : BitVec 32 := 3#32
  let c16_i32 : BitVec 32 := 16#32
  let v5 : BitVec 1 := Scalar.cmpi .eq v2 c16_i32
  let c2_i32 : BitVec 32 := 2#32
  let c8_i32 : BitVec 32 := 8#32
  let v3 : BitVec 1 := Scalar.cmpi .eq v2 c8_i32
  let c1_i32_0 : BitVec 32 := 1#32
  let c0_i32 : BitVec 32 := 0#32
  let v4 : BitVec 32 := Scalar.select v3 c1_i32_0 c0_i32
  let v6 : BitVec 32 := Scalar.select v5 c2_i32 v4
  let v8 : BitVec 32 := Scalar.select v7 c3_i32 v6
  let v10 : BitVec 32 := Scalar.select v9 c4_i32 v8
  let v12 : BitVec 32 := Scalar.select v11 c5_i32 v10
  let v14 : BitVec 32 := Scalar.select v13 c6_i32 v12
  let v16 : BitVec 32 := Scalar.select v15 c7_i32 v14
  let v18 : BitVec 32 := Scalar.select v17 c8_i32_3 v16
  let v20 : BitVec 32 := Scalar.select v19 c9_i32_4 v18
  let v22 : BitVec 32 := Scalar.select v21 c10_i32_5 v20
  let v24 : BitVec 32 := Scalar.select v23 c11_i32 v22
  let v26 : BitVec 32 := Scalar.select v25 c12_i32 v24
  let v28 : BitVec 32 := Scalar.select v27 c13_i32 v26
  let v30 : BitVec 32 := Scalar.select v29 c14_i32 v28
  let v32 : BitVec 32 := Scalar.select v31 c15_i32 v30
  let v34 : BitVec 32 := Scalar.select v33 c16_i32_9 v32
  let v36 : BitVec 32 := Scalar.select v35 c17_i32_11 v34
  let v38 : BitVec 32 := Scalar.select v37 c18_i32_12 v36
  let v40 : BitVec 32 := Scalar.select v39 c19_i32 v38
  let v42 : BitVec 32 := Scalar.select v41 c20_i32 v40
  let v44 : BitVec 32 := Scalar.select v43 c21_i32_13 v42
  let v46 : BitVec 32 := Scalar.select v45 c22_i32_15 v44
  let v48 : BitVec 32 := Scalar.select v47 c23_i32_17 v46
  let v50 : BitVec 32 := Scalar.select v49 c24_i32_19 v48
  let v52 : BitVec 32 := Scalar.select v51 c25_i32_21 v50
  let v54 : BitVec 32 := Scalar.select v53 c26_i32_23 v52
  let v56 : BitVec 32 := Scalar.select v55 c27_i32 v54
  let v58 : BitVec 32 := Scalar.select v57 c28_i32_25 v56
  let v60 : BitVec 32 := Scalar.select v59 c29_i32_27 v58
  let v62 : BitVec 32 := Scalar.select v61 c30_i32_29 v60
  let v64 : BitVec 32 := Scalar.select v63 c31_i32_31 v62
  let c1_i32_7331 : BitVec 32 := 1#32
  let v5802 : BitVec 32 := Scalar.addi v64 c1_i32_7331
  let c15_i32_7332 : BitVec 32 := 15#32
  let v5803 : BitVec 32 := Scalar.addi v5802 c15_i32_7332
  let c32_i32_7333 : BitVec 32 := 32#32
  let v5804 : BitVec 32 := Scalar.remsi v5803 c32_i32_7333
  let c31_i32_7395 : BitVec 32 := 31#32
  let v5865 : BitVec 1 := Scalar.cmpi .eq v5804 c31_i32_7395
  let c3_i32_7396 : BitVec 32 := 3#32
  let c30_i32_7393 : BitVec 32 := 30#32
  let v5863 : BitVec 1 := Scalar.cmpi .eq v5804 c30_i32_7393
  let c11_i32_7394 : BitVec 32 := 11#32
  let c29_i32_7391 : BitVec 32 := 29#32
  let v5861 : BitVec 1 := Scalar.cmpi .eq v5804 c29_i32_7391
  let c19_i32_7392 : BitVec 32 := 19#32
  let c28_i32_7389 : BitVec 32 := 28#32
  let v5859 : BitVec 1 := Scalar.cmpi .eq v5804 c28_i32_7389
  let c27_i32_7390 : BitVec 32 := 27#32
  let c27_i32_7387 : BitVec 32 := 27#32
  let v5857 : BitVec 1 := Scalar.cmpi .eq v5804 c27_i32_7387
  let c28_i32_7388 : BitVec 32 := 28#32
  let c26_i32_7385 : BitVec 32 := 26#32
  let v5855 : BitVec 1 := Scalar.cmpi .eq v5804 c26_i32_7385
  let c20_i32_7386 : BitVec 32 := 20#32
  let c25_i32_7383 : BitVec 32 := 25#32
  let v5853 : BitVec 1 := Scalar.cmpi .eq v5804 c25_i32_7383
  let c12_i32_7384 : BitVec 32 := 12#32
  let c24_i32_7381 : BitVec 32 := 24#32
  let v5851 : BitVec 1 := Scalar.cmpi .eq v5804 c24_i32_7381
  let c4_i32_7382 : BitVec 32 := 4#32
  let c23_i32_7379 : BitVec 32 := 23#32
  let v5849 : BitVec 1 := Scalar.cmpi .eq v5804 c23_i32_7379
  let c7_i32_7380 : BitVec 32 := 7#32
  let c22_i32_7377 : BitVec 32 := 22#32
  let v5847 : BitVec 1 := Scalar.cmpi .eq v5804 c22_i32_7377
  let c15_i32_7378 : BitVec 32 := 15#32
  let c21_i32_7375 : BitVec 32 := 21#32
  let v5845 : BitVec 1 := Scalar.cmpi .eq v5804 c21_i32_7375
  let c23_i32_7376 : BitVec 32 := 23#32
  let c20_i32_7373 : BitVec 32 := 20#32
  let v5843 : BitVec 1 := Scalar.cmpi .eq v5804 c20_i32_7373
  let c31_i32_7374 : BitVec 32 := 31#32
  let c19_i32_7371 : BitVec 32 := 19#32
  let v5841 : BitVec 1 := Scalar.cmpi .eq v5804 c19_i32_7371
  let c30_i32_7372 : BitVec 32 := 30#32
  let c18_i32_7369 : BitVec 32 := 18#32
  let v5839 : BitVec 1 := Scalar.cmpi .eq v5804 c18_i32_7369
  let c22_i32_7370 : BitVec 32 := 22#32
  let c17_i32_7367 : BitVec 32 := 17#32
  let v5837 : BitVec 1 := Scalar.cmpi .eq v5804 c17_i32_7367
  let c14_i32_7368 : BitVec 32 := 14#32
  let c16_i32_7365 : BitVec 32 := 16#32
  let v5835 : BitVec 1 := Scalar.cmpi .eq v5804 c16_i32_7365
  let c6_i32_7366 : BitVec 32 := 6#32
  let c15_i32_7363 : BitVec 32 := 15#32
  let v5833 : BitVec 1 := Scalar.cmpi .eq v5804 c15_i32_7363
  let c5_i32_7364 : BitVec 32 := 5#32
  let c14_i32_7361 : BitVec 32 := 14#32
  let v5831 : BitVec 1 := Scalar.cmpi .eq v5804 c14_i32_7361
  let c13_i32_7362 : BitVec 32 := 13#32
  let c13_i32_7359 : BitVec 32 := 13#32
  let v5829 : BitVec 1 := Scalar.cmpi .eq v5804 c13_i32_7359
  let c21_i32_7360 : BitVec 32 := 21#32
  let c12_i32_7357 : BitVec 32 := 12#32
  let v5827 : BitVec 1 := Scalar.cmpi .eq v5804 c12_i32_7357
  let c29_i32_7358 : BitVec 32 := 29#32
  let c11_i32_7355 : BitVec 32 := 11#32
  let v5825 : BitVec 1 := Scalar.cmpi .eq v5804 c11_i32_7355
  let c26_i32_7356 : BitVec 32 := 26#32
  let c10_i32_7353 : BitVec 32 := 10#32
  let v5823 : BitVec 1 := Scalar.cmpi .eq v5804 c10_i32_7353
  let c18_i32_7354 : BitVec 32 := 18#32
  let c9_i32_7351 : BitVec 32 := 9#32
  let v5821 : BitVec 1 := Scalar.cmpi .eq v5804 c9_i32_7351
  let c10_i32_7352 : BitVec 32 := 10#32
  let c8_i32_7349 : BitVec 32 := 8#32
  let v5819 : BitVec 1 := Scalar.cmpi .eq v5804 c8_i32_7349
  let c2_i32_7350 : BitVec 32 := 2#32
  let c7_i32_7347 : BitVec 32 := 7#32
  let v5817 : BitVec 1 := Scalar.cmpi .eq v5804 c7_i32_7347
  let c1_i32_7348 : BitVec 32 := 1#32
  let c6_i32_7345 : BitVec 32 := 6#32
  let v5815 : BitVec 1 := Scalar.cmpi .eq v5804 c6_i32_7345
  let c9_i32_7346 : BitVec 32 := 9#32
  let c5_i32_7343 : BitVec 32 := 5#32
  let v5813 : BitVec 1 := Scalar.cmpi .eq v5804 c5_i32_7343
  let c17_i32_7344 : BitVec 32 := 17#32
  let c4_i32_7341 : BitVec 32 := 4#32
  let v5811 : BitVec 1 := Scalar.cmpi .eq v5804 c4_i32_7341
  let c25_i32_7342 : BitVec 32 := 25#32
  let c3_i32_7339 : BitVec 32 := 3#32
  let v5809 : BitVec 1 := Scalar.cmpi .eq v5804 c3_i32_7339
  let c24_i32_7340 : BitVec 32 := 24#32
  let c2_i32_7337 : BitVec 32 := 2#32
  let v5807 : BitVec 1 := Scalar.cmpi .eq v5804 c2_i32_7337
  let c16_i32_7338 : BitVec 32 := 16#32
  let c1_i32_7334 : BitVec 32 := 1#32
  let v5805 : BitVec 1 := Scalar.cmpi .eq v5804 c1_i32_7334
  let c8_i32_7335 : BitVec 32 := 8#32
  let c0_i32_7336 : BitVec 32 := 0#32
  let v5806 : BitVec 32 := Scalar.select v5805 c8_i32_7335 c0_i32_7336
  let v5808 : BitVec 32 := Scalar.select v5807 c16_i32_7338 v5806
  let v5810 : BitVec 32 := Scalar.select v5809 c24_i32_7340 v5808
  let v5812 : BitVec 32 := Scalar.select v5811 c25_i32_7342 v5810
  let v5814 : BitVec 32 := Scalar.select v5813 c17_i32_7344 v5812
  let v5816 : BitVec 32 := Scalar.select v5815 c9_i32_7346 v5814
  let v5818 : BitVec 32 := Scalar.select v5817 c1_i32_7348 v5816
  let v5820 : BitVec 32 := Scalar.select v5819 c2_i32_7350 v5818
  let v5822 : BitVec 32 := Scalar.select v5821 c10_i32_7352 v5820
  let v5824 : BitVec 32 := Scalar.select v5823 c18_i32_7354 v5822
  let v5826 : BitVec 32 := Scalar.select v5825 c26_i32_7356 v5824
  let v5828 : BitVec 32 := Scalar.select v5827 c29_i32_7358 v5826
  let v5830 : BitVec 32 := Scalar.select v5829 c21_i32_7360 v5828
  let v5832 : BitVec 32 := Scalar.select v5831 c13_i32_7362 v5830
  let v5834 : BitVec 32 := Scalar.select v5833 c5_i32_7364 v5832
  let v5836 : BitVec 32 := Scalar.select v5835 c6_i32_7366 v5834
  let v5838 : BitVec 32 := Scalar.select v5837 c14_i32_7368 v5836
  let v5840 : BitVec 32 := Scalar.select v5839 c22_i32_7370 v5838
  let v5842 : BitVec 32 := Scalar.select v5841 c30_i32_7372 v5840
  let v5844 : BitVec 32 := Scalar.select v5843 c31_i32_7374 v5842
  let v5846 : BitVec 32 := Scalar.select v5845 c23_i32_7376 v5844
  let v5848 : BitVec 32 := Scalar.select v5847 c15_i32_7378 v5846
  let v5850 : BitVec 32 := Scalar.select v5849 c7_i32_7380 v5848
  let v5852 : BitVec 32 := Scalar.select v5851 c4_i32_7382 v5850
  let v5854 : BitVec 32 := Scalar.select v5853 c12_i32_7384 v5852
  let v5856 : BitVec 32 := Scalar.select v5855 c20_i32_7386 v5854
  let v5858 : BitVec 32 := Scalar.select v5857 c28_i32_7388 v5856
  let v5860 : BitVec 32 := Scalar.select v5859 c27_i32_7390 v5858
  let v5862 : BitVec 32 := Scalar.select v5861 c19_i32_7392 v5860
  let v5864 : BitVec 32 := Scalar.select v5863 c11_i32_7394 v5862
  let v5866 : BitVec 32 := Scalar.select v5865 c3_i32_7396 v5864
  let c128_i32_7409 : BitVec 32 := 128#32
  let v5885 : BitVec 32 := Scalar.muli v5866 c128_i32_7409
  let c64_i32_7410 : BitVec 32 := 64#32
  let v5886 : BitVec 32 := Scalar.addi v5885 c64_i32_7410
  let v5887 : Index := Scalar.indexCast v5886
  let c0_7411 : Index := 0#32
  ![v5887.toNat, 0]
def k0_dev235 (d0 : Dev nD) : Nat :=
  let c0_i32_7422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7413 : BitVec 32 := 1#32
  let v5894 : BitVec 32 := Scalar.xori v2 c1_i32_7413
  let c1_i32_7421 : BitVec 32 := 1#32
  let v5899 : BitVec 32 := Scalar.muli v5894 c1_i32_7421
  let v5900 : BitVec 32 := Scalar.addi c0_i32_7422 v5899
  v5900.toNat
def k0_dev236 (d0 : Dev nD) : Nat :=
  let c0_i32_7458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_7449 : BitVec 32 := 2#32
  let v5926 : BitVec 32 := Scalar.xori v2 c2_i32_7449
  let c1_i32_7457 : BitVec 32 := 1#32
  let v5931 : BitVec 32 := Scalar.muli v5926 c1_i32_7457
  let v5932 : BitVec 32 := Scalar.addi c0_i32_7458 v5931
  v5932.toNat
def k0_dev237 (d0 : Dev nD) : Nat :=
  let c0_i32_7493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_7485 : BitVec 32 := 4#32
  let v5958 : BitVec 32 := Scalar.xori v2 c4_i32_7485
  let c1_i32_7492 : BitVec 32 := 1#32
  let v5963 : BitVec 32 := Scalar.muli v5958 c1_i32_7492
  let v5964 : BitVec 32 := Scalar.addi c0_i32_7493 v5963
  v5964.toNat
def k0_dev238 (d0 : Dev nD) : Nat :=
  let c0_i32_7528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_7520 : BitVec 32 := 8#32
  let v5990 : BitVec 32 := Scalar.xori v2 c8_i32_7520
  let c1_i32_7527 : BitVec 32 := 1#32
  let v5995 : BitVec 32 := Scalar.muli v5990 c1_i32_7527
  let v5996 : BitVec 32 := Scalar.addi c0_i32_7528 v5995
  v5996.toNat
def k0_dev239 (d0 : Dev nD) : Nat :=
  let c0_i32_7563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_7555 : BitVec 32 := 16#32
  let v6022 : BitVec 32 := Scalar.xori v2 c16_i32_7555
  let c1_i32_7562 : BitVec 32 := 1#32
  let v6027 : BitVec 32 := Scalar.muli v6022 c1_i32_7562
  let v6028 : BitVec 32 := Scalar.addi c0_i32_7563 v6027
  v6028.toNat
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 13
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.FactsKernel.lean ====
/-
# 01_k — `FactsKernel`: the side conditions of the printed program `Kernel`
-/
module

public import proofs.«01_k».proof.Kernel
public import Idealize.ShloMosaic.Lib.Memref

@[expose] public section

set_option maxRecDepth 20000

namespace Cert.Pf

open Idealize.ShloMosaic

set_option maxHeartbeats 40000000 in
/-- The shapes fit and every computed device exists. -/
instance factsK₀ : Cert.Kernel.Facts₀ := by
  constructor <;> first
    | decide +kernel
    | exact fun | 0 => Memref.isWhole_whole _ | ⟨_ + 1, h⟩ => absurd h (Nat.not_lt.2 (Nat.le_add_left _ _))
instance factsK : Cert.Kernel.Facts := { toFacts₀ := factsK₀ }

end Cert.Pf
-- ==== Proof.Ring.lean ====
/-
# 01_k — `Ring`: the devices' ring, the eight lanes of the exchange, and the memory and semaphores each lane uses

The kernel sends the rows of `x` around a ring of 32 devices in both directions. Each direction moves a
device's 128 rows as four sub-blocks of 32 rows, so the exchange is eight LANES `u : Fin 8`: lanes 0–3 travel to the
right (the next device of the ring) through `buf_r`, lanes 4–7 to the left through `buf_l`, lane `u` moving sub-block `u % 4`.
Each lane has two landing pieces `piece u 0`, `piece u 1`, a send and a receive semaphore for each.
-/
module

public import proofs.«01_k».proof.KernelIdeal
public import Idealize.ShloMosaic.Lib.Pipeline.Launch
public import Idealize.ShloMosaic.Lib.Pipeline.Kit
public import Idealize.ShloMosaic.Lib.Rounds
public import Idealize.ShloMosaic.Lib.Release
public import Idealize.ShloMosaic.Lib.Memref
public import Idealize.ShloMosaic.Lib.Tactic

@[expose] public section

noncomputable section

namespace Cert.Pf

open Cert.KernelIdeal
open Idealize.ShloMosaic
open Idealize.ShloMosaic.TcCoe

/-! ## The ring -/

/-- The device at each place of the ring. -/
def cycT : Vector (Dev nD) 32 :=
  #v[0, 8, 16, 24, 25, 17, 9, 1, 2, 10, 18, 26, 29, 21, 13, 5, 6, 14, 22, 30, 31, 23, 15, 7, 4, 12, 20, 28, 27, 19, 11, 3]
/-- The place of each device in the ring. -/
def posT : Vector (Fin 32) 32 :=
  #v[0, 7, 8, 31, 24, 15, 16, 23, 1, 6, 9, 30, 25, 14, 17, 22, 2, 5, 10, 29, 26, 13, 18, 21, 3, 4, 11, 28, 27, 12, 19, 20]

def cyc (i : Fin 32) : Dev nD := cycT.get i
def pos (c : Dev nD) : Fin 32 := posT.get c

theorem cyc_pos (c : Dev nD) : cyc (pos c) = c := by revert c; decide
theorem pos_cyc (i : Fin 32) : pos (cyc i) = i := by revert i; decide

/-- The device `k` places further along the ring. -/
def rot (k : Fin 32) (c : Dev nD) : Dev nD := cyc (pos c + k)

theorem rot_rot (k l : Fin 32) (c : Dev nD) : rot l (rot k c) = rot (k + l) c := by
  unfold rot; rw [pos_cyc]; exact congrArg cyc (Fin.ext (by simp only [Fin.val_add]; omega))
theorem rot_zero (c : Dev nD) : rot 0 c = c := by unfold rot; rw [Fin.add_zero, cyc_pos]
theorem pos_rot (k : Fin 32) (c : Dev nD) : pos (rot k c) = pos c + k := pos_cyc _

/-! ## Lanes -/

/-- Whether lane `u` travels to the left. -/
def goesL (u : Fin 8) : Bool := Nat.ble 4 u.val

/-- The step along the ring to the device a lane sends to, and back to the one it receives from. -/
def dnK (u : Fin 8) : Fin 32 := bif goesL u then 31 else 1
def upK (u : Fin 8) : Fin 32 := bif goesL u then 1 else 31
def dn (u : Fin 8) (c : Dev nD) : Dev nD := rot (dnK u) c
def up (u : Fin 8) (c : Dev nD) : Dev nD := rot (upK u) c

theorem dnK_upK (u : Fin 8) : dnK u + upK u = 0 := by revert u; decide
theorem upK_dnK (u : Fin 8) : upK u + dnK u = 0 := by revert u; decide
theorem up_dn (u : Fin 8) (c : Dev nD) : up u (dn u c) = c := by unfold up dn; rw [rot_rot, dnK_upK, rot_zero]
theorem dn_up (u : Fin 8) (c : Dev nD) : dn u (up u c) = c := by unfold up dn; rw [rot_rot, upK_dnK, rot_zero]

/-- The device whose rows arrive in lane `u` as its `h`-th arrival. -/
def orig (u : Fin 8) : ℕ → Dev nD → Dev nD
  | 0, c => up u c
  | h + 1, c => orig u h (up u c)

theorem orig_zero_dn (u : Fin 8) (c : Dev nD) : orig u 0 (dn u c) = c := up_dn u c
theorem orig_succ_dn (u : Fin 8) (h : ℕ) (c : Dev nD) : orig u (h + 1) (dn u c) = orig u h c := by
  show orig u h (up u (dn u c)) = _; rw [up_dn]

/-- A lane's last arrival: 15 for the lanes that bring half of the rows of the device opposite, else 14. -/
def last (u : Fin 8) : ℕ := if u = 0 ∨ u = 1 ∨ u = 6 ∨ u = 7 then 15 else 14

theorem last_le (u : Fin 8) : last u ≤ 15 := by revert u; decide
theorem le_last (u : Fin 8) : 14 ≤ last u := by revert u; decide

/-! ## Memory -/

abbrev xM : Memref sig .tc .vmem S128x4096 .f32 := Memref.whole cc0_stg0_0
abbrev wM : Memref sig .tc .vmem S4096x64 .f32 := Memref.whole cc0_stg1_0
abbrev oM : Memref sig .tc .vmem S4096x64 .f32 := Memref.whole cc0_stg2_0
abbrev bfsM : Memref sig .tc .vmem S5x8x128 .f32 := Memref.whole cc0_scratch8
abbrev bfdM : Memref sig .tc .vmem S5x8x128 .f32 := Memref.whole cc0_scratch9

/-- The landing buffer of a direction. -/
def bufM (l : Bool) : Memref sig .tc .vmem S2x128x4096 .f32 := bif l then Memref.whole cc0_scratch1 else Memref.whole cc0_scratch0

theorem piece_inb (u : Fin 8) (p : Fin 2) : ∀ d, (![p.val, 32 * (u.val % 4), 0] : Fin S2x128x4096.rank → ℕ) d + S1x32x4096.size d ≤ S2x128x4096.size d := by
  revert u p; decide
theorem xpiece_inb (u : Fin 8) : ∀ d, (![32 * (u.val % 4), 0] : Fin S128x4096.rank → ℕ) d + S32x4096.size d ≤ S128x4096.size d := by
  revert u; decide
theorem bf_inb (s : Fin 5) : ∀ d, (![s.val, 0, 0] : Fin S5x8x128.rank → ℕ) d + S1x8x128.size d ≤ S5x8x128.size d := by
  revert s; decide

theorem sq_piece : S1x32x4096.Squeezes S32x4096 := by decide
theorem sq_bf : S1x8x128.Squeezes S8x128 := by decide

/-- The piece of a landing buffer where lane `u` receives its arrivals of parity `p`. -/
def piece (u : Fin 8) (p : Fin 2) : Memref sig .tc .vmem S32x4096 .f32 :=
  ((bufM (goesL u)).slice (Rect.unit (s := S2x128x4096) ![p.val, 32 * (u.val % 4), 0] S1x32x4096.size (piece_inb u p)) (fun _ => rfl)).squeeze
    S32x4096 sq_piece
/-- The rows of `x` that lane `u` moves. -/
def xpiece (u : Fin 8) : Memref sig .tc .vmem S32x4096 .f32 :=
  xM.slice (Rect.unit (s := S128x4096) ![32 * (u.val % 4), 0] S32x4096.size (xpiece_inb u)) (fun _ => rfl)

/-- A slot of the butterfly's source and landing buffers. -/
def bfs (s : Fin 5) : Memref sig .tc .vmem S8x128 .f32 :=
  (bfsM.slice (Rect.unit (s := S5x8x128) ![s.val, 0, 0] S1x8x128.size (bf_inb s)) (fun _ => rfl)).squeeze S8x128 sq_bf
def bfd (s : Fin 5) : Memref sig .tc .vmem S8x128 .f32 :=
  (bfdM.slice (Rect.unit (s := S5x8x128) ![s.val, 0, 0] S1x8x128.size (bf_inb s)) (fun _ => rfl)).squeeze S8x128 sq_bf

/-! ## The butterfly -/

/-- A device's partner in stage `s` of the butterfly: the device whose number differs in bit `s`. -/
def partner (s : Fin 5) (c : Dev nD) : Dev nD := ⟨c.val ^^^ (1 <<< s.val), by revert c s; decide⟩
theorem partner_partner (s : Fin 5) (c : Dev nD) : partner s (partner s c) = c := by revert c s; decide

/-! ## Semaphores -/

def dirN (u : Fin 8) : ℕ := bif goesL u then 1 else 0

/-- The DMA semaphores of lane `u` for arrivals of parity `p`: the sender's and the receiver's. -/
def sendS (u : Fin 8) (p : Fin 2) : DmaSem sig := ⟨3 + 16 * dirN u + 4 * p.val + u.val % 4, by revert u p; decide⟩
def recvS (u : Fin 8) (p : Fin 2) : DmaSem sig := ⟨11 + 16 * dirN u + 4 * p.val + u.val % 4, by revert u p; decide⟩
def bfsS (s : Fin 5) : DmaSem sig := ⟨35 + s.val, by revert s; decide⟩
def bfrS (s : Fin 5) : DmaSem sig := ⟨40 + s.val, by revert s; decide⟩
/-- The credit semaphore of a direction, and the barrier semaphore. -/
def crS (l : Bool) : Sem sig := bif l then ⟨1, by decide⟩ else ⟨0, by decide⟩
def barS : Sem sig := ⟨2, by decide⟩

/-- What a semaphore is for. -/
inductive Role where
  | send (u : Fin 8) (p : Fin 2)
  | recv (u : Fin 8) (p : Fin 2)
  | bfs (s : Fin 5)
  | bfr (s : Fin 5)
  | cr (l : Bool)
  | bar
  | other
deriving DecidableEq

def laneOf (k : ℕ) : Fin 8 := ⟨4 * (k / 16 % 2) + k % 4, by omega⟩
def parOf (k : ℕ) : Fin 2 := ⟨k / 4 % 2, by omega⟩

/-- The use of a semaphore, from its number. -/
def role : SemLoc sig → Role
  | .reg q => if q.val = 0 then .cr false else if q.val = 1 then .cr true else .bar
  | .dma q =>
    if q.val < 3 then .other
    else if q.val < 35 then
      (if (q.val - 3) / 8 % 2 = 0 then .send (laneOf (q.val - 3)) (parOf (q.val - 3)) else .recv (laneOf (q.val - 3)) (parOf (q.val - 3)))
    else if h : q.val < 40 then .bfs ⟨q.val - 35, by omega⟩ else if h : q.val < 45 then .bfr ⟨q.val - 40, by omega⟩ else .other

theorem role_send (u : Fin 8) (p : Fin 2) : role (.dma (sendS u p)) = .send u p := by revert u p; decide
theorem role_recv (u : Fin 8) (p : Fin 2) : role (.dma (recvS u p)) = .recv u p := by revert u p; decide
theorem role_bfs (s : Fin 5) : role (.dma (bfsS s)) = .bfs s := by revert s; decide
theorem role_bfr (s : Fin 5) : role (.dma (bfrS s)) = .bfr s := by revert s; decide
theorem role_cr (l : Bool) : role (.reg (crS l)) = .cr l := by revert l; decide
theorem role_bar : role (.reg barS) = .bar := by decide

/-- A device's cell of each semaphore. -/
abbrev sendC (c : Dev nD) (u : Fin 8) (p : Fin 2) : GSem nD τ sig := ((c : Thread nD τ), .dma (sendS u p))
abbrev recvC (c : Dev nD) (u : Fin 8) (p : Fin 2) : GSem nD τ sig := ((c : Thread nD τ), .dma (recvS u p))
abbrev bfsC (c : Dev nD) (s : Fin 5) : GSem nD τ sig := ((c : Thread nD τ), .dma (bfsS s))
abbrev bfrC (c : Dev nD) (s : Fin 5) : GSem nD τ sig := ((c : Thread nD τ), .dma (bfrS s))
abbrev crC (c : Dev nD) (l : Bool) : GSem nD τ sig := ((c : Thread nD τ), .reg (crS l))
abbrev barC (c : Dev nD) : GSem nD τ sig := ((c : Thread nD τ), .reg barS)

end Cert.Pf
end
-- ==== Proof.Proto.lean ====
/-
# 01_k — `Proto`: the exchange's protocol

What every device owes the others and when (`due`), what each semaphore's rounds hand over (`sched`), and the resources
the two libraries keep it with. Arrival `a` of a lane lands in piece `a % 2` as round `a / 2` of that piece's receive
semaphore, and the copy bringing it is round `a / 2` of the sender's send semaphore. A piece is written for the `k`-th time
only after its owner has released it `k` times: the first release of every piece is announced by the barrier, the
later ones by the credit signals.
-/
module

public import proofs.«01_k».proof.Proof.Ring

@[expose] public section

noncomputable section

namespace Cert.Pf

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

/-! ## The resource algebra -/

/-- A piece of landing memory that is released and written again: a lane's two pieces and the butterfly's five slots. -/
abbrev Key : Type := Dev nD × ℕ
abbrev UB : Type := URounds (GSem nD τ sig) ℕ
abbrev UU : Type := UR sig nD τ × (UB × USlots Key)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × USlots Key)).trans embR
abbrev ES : Emb (USlots Key) (MT nD τ sig ℕ (Elt F) ℕ UU ℕ) := (Emb.inr : Emb (USlots Key) (UB × USlots Key)).trans embR

/-- The parity of an arrival. -/
def par (a : ℕ) : Fin 2 := ⟨a % 2, Nat.mod_lt _ (by decide)⟩
def keyL (c : Dev nD) (u : Fin 8) (p : Fin 2) : Key := (c, 2 * u.val + p.val)
def keyB (c : Dev nD) (s : Fin 5) : Key := (c, 16 + s.val)

/-- The units a block's copy and a butterfly slot's copy credit. -/
def NB : ℕ := (piece 0 0).view.dmaCredit
def NF : ℕ := (bfd 0).view.dmaCredit
theorem NB_pos : 0 < NB := View.dmaCredit_pos _ (by decide)
theorem NF_pos : 0 < NF := View.dmaCredit_pos _ (by decide)

/-! ## What each device owes -/

def laneT (t : ℕ) : Fin 8 := ⟨4 * ((t - 2) % 2) + (t - 2) / 2 % 4, by omega⟩
def laneN (n : ℕ) : Fin 8 := ⟨n % 8, by omega⟩
def stg (t : ℕ) : Fin 5 := ⟨(t - 266) % 5, by omega⟩

/-- In step `h` of lane `u`: the credit signal and the copy. -/
def dueCr (c : Dev nD) (t h : ℕ) (u : Fin 8) : CellTallies nD τ sig ℕ :=
  if 1 ≤ h ∧ h < last u then tallyAt (crC (up u c) (goesL u)) t 1 else 0
def dueSend (c : Dev nD) (t h : ℕ) (u : Fin 8) : CellTallies nD τ sig ℕ :=
  if h < last u then tallyAt (recvC (dn u c) u (par (h + 1))) t NB else 0

/-- The `t`-th payment of device `c`, at index `max t 1`: two barrier signals, the first copies of the eight lanes, a credit
    signal and a copy for each step `n` of the exchange (at `10 + 2n` and `11 + 2n`), five butterfly copies. -/
def due (c : Dev nD) (t : ℕ) : CellTallies nD τ sig ℕ :=
  if t = 0 then tallyAt (barC (rot 31 c)) 1 1
  else if t = 1 then tallyAt (barC (rot 1 c)) 1 1
  else if t < 10 then tallyAt (recvC (dn (laneT t) c) (laneT t) 0) t NB
  else if t < 266 then
    if (t - 10) % 2 = 0 then dueCr c t ((t - 10) / 2 / 8) (laneN ((t - 10) / 2)) else dueSend c t ((t - 10) / 2 / 8) (laneN ((t - 10) / 2))
  else tallyAt (bfrC (partner (stg t) c) (stg t)) t NF

/-- What device `c` still owes from its `t`-th payment on. -/
def owed (c : Dev nD) (t : ℕ) : CellTallies nD τ sig ℕ := ∑ s ∈ Finset.Ico t 271, due c s

theorem owed_step (c : Dev nD) {t : ℕ} (h : t < 271) : owed c t = owed c (t + 1) + due c t := by
  have e : Finset.Ico t 271 = insert t (Finset.Ico (t + 1) 271) := by
    ext s; simp only [Finset.mem_Ico, Finset.mem_insert]; omega
  unfold owed; rw [e, Finset.sum_insert (by simp), add_comm]
theorem owed_end (c : Dev nD) : owed c 271 = 0 := by unfold owed; simp

theorem due_pos {c : Dev nD} {t : ℕ} {g : GSem nD τ sig} {i : ℕ} (h : 0 < due c t g i) : i = max t 1 ∧ g.1.2 = .tc := by
  have key : ∀ {g₀ : GSem nD τ sig} {ι k : ℕ}, ι = max t 1 → g₀.1.2 = .tc → 0 < tallyAt g₀ ι k g i → i = max t 1 ∧ g.1.2 = .tc :=
    fun hι hg hp => by obtain ⟨rfl, rfl⟩ := Pipeline.tallyAt_pos hp; exact ⟨hι, hg⟩
  have z : ¬ 0 < (0 : CellTallies nD τ sig ℕ) g i := fun h => absurd h (Nat.lt_irrefl 0)
  unfold due at h
  split_ifs at h
  · exact key (by omega) rfl h
  · exact key (by omega) rfl h
  · exact key (by omega) rfl h
  · unfold dueCr at h
    split_ifs at h
    · exact key (by omega) rfl h
    · exact absurd h z
  · unfold dueSend at h
    split_ifs at h
    · exact key (by omega) rfl h
    · exact absurd h z
  · exact key (by omega) rfl h

theorem owed_pos {c : Dev nD} {t : ℕ} {g : GSem nD τ sig} {i : ℕ} (h : 0 < owed c t g i) : max t 1 ≤ i ∧ i < 271 ∧ g.1.2 = .tc := by
  obtain ⟨s, hs, hp⟩ := Pipeline.sum_pos_exists h
  obtain ⟨h1, h2⟩ := due_pos hp
  rw [Finset.mem_Ico] at hs
  exact ⟨by omega, by omega, h2⟩

def Lx (g : GSem nD τ sig) : Finset ℕ := if g.1.2 = .tc then Finset.range 272 else ∅
def lv (g : GSem nD τ sig) (i : ℕ) : ℕ := i
theorem Lx_of_ne (g : GSem nD τ sig) (h : g.1.2 ≠ .tc) : Lx g = ∅ := if_neg h
theorem Lx_tc (c : Dev nD) (sm : SemLoc sig) : Lx ((c : Thread nD τ), sm) = Finset.range 272 := if_pos rfl

/-- A wait is in order when its index is below everything still owed. -/
theorem may (c : Dev nD) (sm : SemLoc sig) (ι t : ℕ) (h : ι < max t 1) (h' : ι < 272) :
    (levAts Lx lv : sProp 𝕄) ⊢ MayWait (c : Thread nD τ) sm ι (owed c t) :=
  Pipeline.mayWait_of_levAts (by rw [Lx_tc]; exact Finset.mem_range.mpr h') fun g i hg => by
    obtain ⟨h1, h2, h3⟩ := owed_pos hg
    refine ⟨?_, lt_of_lt_of_le h h1⟩
    unfold Lx; rw [if_pos h3]; exact Finset.mem_range.mpr (by omega)

/-! ## The schedule -/

/-- The credit signals of a direction, numbered `4 (h - 1) + j` for the step `h` of sub-block `j`. -/
def crD (l : Bool) : Finset ℕ := bif l then (Finset.range 56).filter (fun d => d ≠ 52 ∧ d ≠ 53) else Finset.range 54
def laneD (l : Bool) (d : ℕ) : Fin 8 := ⟨4 * (bif l then 1 else 0) + d % 4, by cases l <;> (simp only [cond]; omega)⟩

variable (xs : Dev nD → S128x4096.Idx → Elt F .f32) (A : ℕ → Dev nD → Elt F .f32)

/-- The sub-block of rows lane `u` carries from device `o`. -/
def X (u : Fin 8) (o : Dev nD) : S32x4096.Idx → Elt F .f32 := (xpiece u).view.read (Elt F) (xs o)

/-- The two halves of a share. -/
def hL : PosShare TreeShare := fullShare.left
def hR : PosShare TreeShare := fullShare.right

/-- The half of `x` a lane sends from. -/
def hX (u : Fin 8) : PosShare TreeShare := bif goesL u then hR else hL

/-- Device `e` has offered its butterfly landing slots. -/
def heard (e : Dev nD) : sProp 𝕄 := bigSep (Finset.univ : Finset (Fin 5)) fun s => released ES (keyB e s) 1

/-- Where the copy that becomes the next device's arrival `a` is sent from, the share it reads with, and whose rows it is. -/
def srcM (u : Fin 8) : ℕ → Memref sig .tc .vmem S32x4096 .f32
  | 0 => xpiece u
  | a + 1 => piece u (par a)
def srcQ (u : Fin 8) : ℕ → PosShare TreeShare
  | 0 => hX u
  | _ + 1 => hR
/-- What the sender gets back: its share of what it sent from. -/
def sendPay (c : Dev nD) (u : Fin 8) (a : ℕ) : sProp 𝕄 := owns (c : Thread nD τ) (srcM u a) (srcQ u a) (X xs u (orig u a (dn u c)))
/-- What lane `u`'s arrival `a` brings device `c`. -/
def recvPay (c : Dev nD) (u : Fin 8) (a : ℕ) : sProp 𝕄 :=
  iprop(owns (c : Thread nD τ) (piece u (par a)) fullShare (X xs u (orig u a c)) ∗ heard (orig u a c))
/-- What a credit tells device `c`: lane `u`'s next device can take arrival `a`. -/
def crOne (c : Dev nD) (u : Fin 8) (a : ℕ) : sProp 𝕄 :=
  iprop(released ES (keyL (dn u c) u (par a)) (a / 2 + 1) ∗ reached ER (recvC (dn u c) u (par a)) (a / 2))
def crPay (c : Dev nD) (l : Bool) (d : ℕ) : sProp 𝕄 := bigSep ((crD l).filter (· ≤ d)) fun e => crOne (F := F) c (laneD l e) (e / 4 + 2)
/-- What a barrier signal tells device `c`: the neighbour's pieces are free. -/
def barPay (c : Dev nD) (d : ℕ) : sProp 𝕄 :=
  bigSep ((Finset.univ : Finset (Fin 8 × Fin 2)).filter fun q => goesL q.1 = decide (d = 1)) fun q => released ES (keyL (dn q.1 c) q.1 q.2) 1

def dutiesOf : Role → ℕ → Finset ℕ
  | .send u p, r => if 2 * r + p.val ≤ last u then {0} else ∅
  | .recv u p, r => if 2 * r + p.val ≤ last u then {0} else ∅
  | .bfs _, r => if r = 0 then {0} else ∅
  | .bfr _, r => if r = 0 then {0} else ∅
  | .cr l, r => if r = 0 then crD l else ∅
  | .bar, r => if r = 0 then {0, 1} else ∅
  | .other, _ => ∅
def amountOf : Role → ℕ
  | .send _ _ => NB
  | .recv _ _ => NB
  | .bfs _ => NF
  | .bfr _ => NF
  | _ => 1
def payOf (c : Dev nD) : Role → ℕ → ℕ → sProp 𝕄
  | .send u p, r, _ => sendPay xs c u (2 * r + p.val)
  | .recv u p, r, _ => recvPay xs c u (2 * r + p.val)
  | .bfs s, _, _ => iprop(∃ Z, owns (c : Thread nD τ) (bfs s) fullShare Z)
  | .bfr s, _, _ => owns (c : Thread nD τ) (bfd s) fullShare (fun _ => A s.val (partner s c))
  | .cr l, _, d => crPay c l d
  | .bar, _, d => barPay c d
  | .other, _, _ => iprop(emp)

theorem amountOf_pos (ρ : Role) : 0 < amountOf ρ := by
  cases ρ
  · exact NB_pos
  · exact NB_pos
  · exact NF_pos
  · exact NF_pos
  all_goals exact Nat.one_pos

def sched : Rounds.Schedule (GSem nD τ sig) ℕ 𝕄 where
  duties g r := dutiesOf (role g.2) r
  unitless _ := False
  amount g _ _ := amountOf (role g.2)
  payload g r d := payOf xs A g.1.1 (role g.2) r d
  amount_pos _ _ _ _ := amountOf_pos _

instance heard_persistent (e : Dev nD) : BI.Persistent (heard (F := F) e) := by unfold heard; infer_instance
instance heard_storable (e : Dev nD) : BI.Storable (upEmb : UEmb _ 𝕄) (heard (F := F) e) := by unfold heard; infer_instance
instance sendPay_storable (c : Dev nD) (u : Fin 8) (a : ℕ) : BI.Storable (upEmb : UEmb _ 𝕄) (sendPay xs c u a) := by
  unfold sendPay; infer_instance
instance recvPay_storable (c : Dev nD) (u : Fin 8) (a : ℕ) : BI.Storable (upEmb : UEmb _ 𝕄) (recvPay xs c u a) := by
  unfold recvPay; infer_instance
instance crOne_persistent (c : Dev nD) (u : Fin 8) (a : ℕ) : BI.Persistent (crOne (F := F) c u a) := by unfold crOne; infer_instance
instance crOne_storable (c : Dev nD) (u : Fin 8) (a : ℕ) : BI.Storable (upEmb : UEmb _ 𝕄) (crOne (F := F) c u a) := by unfold crOne; infer_instance
instance crPay_persistent (c : Dev nD) (l : Bool) (d : ℕ) : BI.Persistent (crPay (F := F) c l d) := by unfold crPay; infer_instance
instance crPay_storable (c : Dev nD) (l : Bool) (d : ℕ) : BI.Storable (upEmb : UEmb _ 𝕄) (crPay (F := F) c l d) := by unfold crPay; infer_instance
instance barPay_persistent (c : Dev nD) (d : ℕ) : BI.Persistent (barPay (F := F) c d) := by unfold barPay; infer_instance
instance barPay_storable (c : Dev nD) (d : ℕ) : BI.Storable (upEmb : UEmb _ 𝕄) (barPay (F := F) c d) := by unfold barPay; infer_instance

instance sched_storable (g : GSem nD τ sig) (r : ℕ) (d : ℕ) : BI.Storable (upEmb : UEmb _ 𝕄) ((sched xs A).payload g r d) := by
  show BI.Storable upEmb (payOf xs A g.1.1 (role g.2) r d)
  cases role g.2 <;> (unfold payOf; infer_instance)

/-! ### The schedule at each cell -/

section
variable (c : Dev nD) (u : Fin 8) (p : Fin 2) (s : Fin 5) (l : Bool) (r d : ℕ)

theorem duties_send : (sched xs A).duties (sendC c u p) r = if 2 * r + p.val ≤ last u then {0} else ∅ := by
  show dutiesOf (role (.dma (sendS u p))) r = _; rw [role_send]; rfl
theorem duties_recv : (sched xs A).duties (recvC c u p) r = if 2 * r + p.val ≤ last u then {0} else ∅ := by
  show dutiesOf (role (.dma (recvS u p))) r = _; rw [role_recv]; rfl
theorem duties_bfs : (sched xs A).duties (bfsC c s) r = if r = 0 then {0} else ∅ := by
  show dutiesOf (role (.dma (bfsS s))) r = _; rw [role_bfs]; rfl
theorem duties_bfr : (sched xs A).duties (bfrC c s) r = if r = 0 then {0} else ∅ := by
  show dutiesOf (role (.dma (bfrS s))) r = _; rw [role_bfr]; rfl
theorem duties_cr : (sched xs A).duties (crC c l) r = if r = 0 then crD l else ∅ := by
  show dutiesOf (role (.reg (crS l))) r = _; rw [role_cr]; rfl
theorem duties_bar : (sched xs A).duties (barC c) r = if r = 0 then {0, 1} else ∅ := by
  show dutiesOf (role (.reg barS)) r = _; rw [role_bar]; rfl

theorem amount_send : (sched xs A).amount (sendC c u p) r d = NB := by show amountOf (role (.dma (sendS u p))) = _; rw [role_send]; rfl
theorem amount_recv : (sched xs A).amount (recvC c u p) r d = NB := by show amountOf (role (.dma (recvS u p))) = _; rw [role_recv]; rfl
theorem amount_bfs : (sched xs A).amount (bfsC c s) r d = NF := by show amountOf (role (.dma (bfsS s))) = _; rw [role_bfs]; rfl
theorem amount_bfr : (sched xs A).amount (bfrC c s) r d = NF := by show amountOf (role (.dma (bfrS s))) = _; rw [role_bfr]; rfl
theorem amount_cr : (sched xs A).amount (crC c l) r d = 1 := by show amountOf (role (.reg (crS l))) = _; rw [role_cr]; rfl
theorem amount_bar : (sched xs A).amount (barC c) r d = 1 := by show amountOf (role (.reg barS)) = _; rw [role_bar]; rfl

theorem payload_send : (sched xs A).payload (sendC c u p) r d = sendPay xs c u (2 * r + p.val) := by
  show payOf xs A c (role (.dma (sendS u p))) r d = _; rw [role_send]; rfl
theorem payload_recv : (sched xs A).payload (recvC c u p) r d = recvPay xs c u (2 * r + p.val) := by
  show payOf xs A c (role (.dma (recvS u p))) r d = _; rw [role_recv]; rfl
theorem payload_bfs : (sched xs A).payload (bfsC c s) r d = iprop(∃ Z, owns (c : Thread nD τ) (bfs s) fullShare Z) := by
  show payOf xs A c (role (.dma (bfsS s))) r d = _; rw [role_bfs]; rfl
theorem payload_bfr : (sched xs A).payload (bfrC c s) r d = owns (c : Thread nD τ) (bfd s) fullShare (fun _ => A s.val (partner s c)) := by
  show payOf xs A c (role (.dma (bfrS s))) r d = _; rw [role_bfr]; rfl
theorem payload_cr : (sched xs A).payload (crC c l) r d = crPay c l d := by
  show payOf xs A c (role (.reg (crS l))) r d = _; rw [role_cr]; rfl
theorem payload_bar : (sched xs A).payload (barC c) r d = barPay c d := by
  show payOf xs A c (role (.reg barS)) r d = _; rw [role_bar]; rfl
end

end Cert.Pf
end
-- ==== Proof.State.lean ====
/-
# 01_k — `State`: what a device holds between the steps of the exchange

`Recs` is what everybody knows: the invariants of all cells and pieces. `lane c u h` is lane `u` of device `c` before its step
`h`; `kept c u h` the half of the newest arrival the products read.
-/
module

public import proofs.«01_k».proof.Proof.Proto

@[expose] public section

noncomputable section

namespace Cert.Pf

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]
local notation "𝕄" => MT nD τ sig ℕ (Elt F) ℕ UU ℕ

/-- One member of a family. -/
theorem pick {I : Type} [DecidableEq I] {s : Finset I} {i : I} (h : i ∈ s) {Φ : I → sProp 𝕄} : (bigSep s Φ : sProp 𝕄) ⊢ Φ i :=
  bigSep_elim h

/-! ## All cells and all pieces -/

/-- The exchange's semaphores: 42 DMA semaphores, the two credit semaphores, the barrier's. -/
def csem (k : Fin 45) : SemLoc sig :=
  if h : k.val < 42 then .dma ⟨3 + k.val, by show 3 + k.val < 45; omega⟩ else .reg ⟨k.val - 42, by show k.val - 42 < 3; omega⟩
theorem csem_inj : Function.Injective csem := by decide
def kcell (q : Dev nD × Fin 45) : GSem nD τ sig := ((q.1 : Thread nD τ), csem q.2)
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]
def allC : Finset (GSem nD τ sig) := Finset.univ.map ⟨kcell, kcell_inj⟩
def allK : Finset Key := (Finset.univ : Finset (Dev nD)) ×ˢ Finset.range 21

theorem mem_allC (c : Dev nD) {sm : SemLoc sig} (h : ∃ k, csem k = sm) : ((c : Thread nD τ), sm) ∈ allC := by
  obtain ⟨k, rfl⟩ := h
  exact Finset.mem_map.mpr ⟨(c, k), Finset.mem_univ _, rfl⟩
theorem send_mem (c : Dev nD) (u p) : sendC c u p ∈ allC := mem_allC c (by revert u p; decide)
theorem recv_mem (c : Dev nD) (u p) : recvC c u p ∈ allC := mem_allC c (by revert u p; decide)
theorem bfs_mem (c : Dev nD) (s) : bfsC c s ∈ allC := mem_allC c (by revert s; decide)
theorem bfr_mem (c : Dev nD) (s) : bfrC c s ∈ allC := mem_allC c (by revert s; decide)
theorem cr_mem (c : Dev nD) (l) : crC c l ∈ allC := mem_allC c (by revert l; decide)
theorem bar_mem (c : Dev nD) : barC c ∈ allC := mem_allC c (by decide)
theorem keyL_mem (c : Dev nD) (u p) : keyL c u p ∈ allK :=
  Finset.mem_product.mpr ⟨Finset.mem_univ _, Finset.mem_range.mpr (by show 2 * u.val + p.val < 21; omega)⟩
theorem keyB_mem (c : Dev nD) (s) : keyB c s ∈ allK :=
  Finset.mem_product.mpr ⟨Finset.mem_univ _, Finset.mem_range.mpr (by show 16 + s.val < 21; omega)⟩

/-- The memory a key stands for. -/
def slotL (c : Dev nD) (u : Fin 8) (p : Fin 2) : sProp 𝕄 := slot ((piece u p).view.loc (c : Thread nD τ)) (piece u p).view.set
def slotB (c : Dev nD) (s : Fin 5) : sProp 𝕄 := slot ((bfd s).view.loc (c : Thread nD τ)) (bfd s).view.set
def Sl (k : Key) : sProp 𝕄 :=
  if k.2 < 16 then slotL k.1 ⟨k.2 / 2 % 8, by omega⟩ (par k.2) else slotB k.1 ⟨(k.2 - 16) % 5, by omega⟩

theorem Sl_keyL (c : Dev nD) (u p) : (Sl (F := F) (keyL c u p)) = slotL c u p := by
  unfold Sl keyL
  rw [if_pos (by show 2 * u.val + p.val < 16; omega)]
  congr 1
  · exact Fin.ext (by show (2 * u.val + p.val) / 2 % 8 = u.val; omega)
  · exact Fin.ext (by show (2 * u.val + p.val) % 2 = p.val; omega)
theorem Sl_keyB (c : Dev nD) (s) : (Sl (F := F) (keyB c s)) = slotB c s := by
  unfold Sl keyB
  rw [if_neg (by show ¬ 16 + s.val < 16; omega)]
  congr 1
  exact Fin.ext (by show (16 + s.val - 16) % 5 = s.val; omega)
instance Sl_storable (k : Key) : BI.Storable (upEmb : UEmb _ 𝕄) (Sl (F := F) k) := by
  unfold Sl slotL slotB; split <;> infer_instance

theorem slotL_excl (c : Dev nD) (u p) : iprop(slotL c u p ∗ slotL c u p) ⊢ (False : sProp 𝕄) :=
  slot_slot_false ((piece u p).view.set_nonempty (by decide))
theorem slotB_excl (c : Dev nD) (s) : iprop(slotB c s ∗ slotB c s) ⊢ (False : sProp 𝕄) :=
  slot_slot_false ((bfd s).view.set_nonempty (by decide))

variable (xs : Dev nD → S128x4096.Idx → Elt F .f32) (A : ℕ → Dev nD → Elt F .f32)
variable (K : GSem nD τ sig → ℕ) (ι : Key → ℕ)

def Recs : sProp 𝕄 :=
  iprop((bigSep allC fun g => iprop(cellInv ER (sched xs A) (K g) g ∗ reached ER g 0)) ∗ (bigSep allK fun k => slotInv ES (ι k) k (Sl k)) ∗ levAts Lx lv)
instance Recs_persistent : BI.Persistent (Recs xs A K ι) := by unfold Recs; infer_instance

theorem Recs_inv {g : GSem nD τ sig} (h : g ∈ allC) : Recs xs A K ι ⊢ cellInv ER (sched xs A) (K g) g := by
  unfold Recs; iintro ⟨H, -⟩
  ihave H := (pick (Φ := fun g => (iprop(cellInv ER (sched xs A) (K g) g ∗ reached ER g 0) : sProp 𝕄)) h) $$ H
  icases H with ⟨H, -⟩; iexact H
theorem Recs_reached {g : GSem nD τ sig} (h : g ∈ allC) : Recs xs A K ι ⊢ reached ER g 0 := by
  unfold Recs; iintro ⟨H, -⟩
  ihave H := (pick (Φ := fun g => (iprop(cellInv ER (sched xs A) (K g) g ∗ reached ER g 0) : sProp 𝕄)) h) $$ H
  icases H with ⟨-, H⟩; iexact H
theorem Recs_slotL (c : Dev nD) (u p) : Recs xs A K ι ⊢ slotInv ES (ι (keyL c u p)) (keyL c u p) (slotL c u p) := by
  rw [← Sl_keyL]
  unfold Recs; iintro ⟨-, H, -⟩
  iapply (pick (Φ := fun k => slotInv ES (ι k) k (Sl k)) (keyL_mem c u p)) $$ H
theorem Recs_slotB (c : Dev nD) (s) : Recs xs A K ι ⊢ slotInv ES (ι (keyB c s)) (keyB c s) (slotB c s) := by
  rw [← Sl_keyB]
  unfold Recs; iintro ⟨-, H, -⟩
  iapply (pick (Φ := fun k => slotInv ES (ι k) k (Sl k)) (keyB_mem c s)) $$ H
theorem Recs_lev : Recs xs A K ι ⊢ levAts Lx lv := by
  unfold Recs; iintro ⟨-, -, H⟩; iexact H

/-! ## A device's holdings -/

/-- What the device owes, its record of waits unnamed. -/
def ow (c : Dev nD) (t : ℕ) : sProp 𝕄 := iprop(∃ W, owes (c : Thread nD τ) (owed c t) W)

def posR (c : Dev nD) (u : Fin 8) (p : Fin 2) (k : ℕ) : sProp 𝕄 := iprop(atPos ER (recvC c u p) k ∅ 0 ∗ reached ER (recvC c u p) k)
def posS (c : Dev nD) (u : Fin 8) (p : Fin 2) (k : ℕ) : sProp 𝕄 := iprop(atPos ER (sendC c u p) k ∅ 0 ∗ reached ER (sendC c u p) k)

/-- The lane's places at its semaphores before step `h`. -/
def lanePos (c : Dev nD) (u : Fin 8) (h : ℕ) : sProp 𝕄 :=
  iprop((posR c u (par h) (h / 2) ∗ posS c u (par h) (h / 2)) ∗ (posR c u (par (h + 1)) ((h + 1) / 2) ∗ posS c u (par (h + 1)) ((h + 1) / 2)))
/-- How often its pieces have been released. -/
def laneRd (c : Dev nD) (u : Fin 8) (h : ℕ) : sProp 𝕄 :=
  iprop(readerAt ES (keyL c u (par h)) (h / 2 + 1) ∗ readerAt ES (keyL c u (par (h + 1))) ((h - 1) / 2 + 1))
/-- The devices it has heard of. -/
def hrd (c : Dev nD) (u : Fin 8) (h : ℕ) : sProp 𝕄 := bigSep (Finset.range h) fun a => heard (orig u a c)
/-- The rows it sent, given back. -/
def xback (c : Dev nD) (u : Fin 8) : ℕ → sProp 𝕄
  | 0 => iprop(emp)
  | _ + 1 => owns (c : Thread nD τ) (xpiece u) (hX u) (X xs u c)

/-- Lane `u` before step `h ≤ last u`: the copy sent for arrival `h` is under way. -/
def laneM (c : Dev nD) (u : Fin 8) (h : ℕ) : sProp 𝕄 :=
  iprop(lanePos c u h ∗ laneRd c u h ∗ cred (tallyAt (sendC c u (par h)) 0 NB) ∗ hrd c u h ∗ xback xs c u h)
/-- Lane `u` after its last step: it owns its pieces again but for what `kept` has. -/
def laneE (c : Dev nD) (u : Fin 8) (h : ℕ) : sProp 𝕄 :=
  iprop(lanePos c u (h + 1) ∗ hrd c u (h + 1) ∗ xback xs c u 1
    ∗ owns (c : Thread nD τ) (piece u (par h)) hR (X xs u (orig u h c))
    ∗ owns (c : Thread nD τ) (piece u (par (h - 1))) fullShare (X xs u (orig u (h - 1) c)))
def lane (c : Dev nD) (u : Fin 8) (h : ℕ) : sProp 𝕄 := if h ≤ last u then laneM xs c u h else laneE xs c u (last u)

/-- The half of arrival `h - 1` the products read. -/
def kept (c : Dev nD) (u : Fin 8) : ℕ → sProp 𝕄
  | 0 => iprop(emp)
  | h + 1 => owns (c : Thread nD τ) (piece u (par h)) hL (X xs u (orig u h c))

/-- The credit semaphore after the waits for the signals below `B`: `S` the signals taken, at least as many. -/
def crK (l : Bool) (B : ℕ) : ℕ := ((crD l).filter (· < B)).card
def crSt (c : Dev nD) (l : Bool) (B : ℕ) : sProp 𝕄 :=
  iprop(∃ S : Finset ℕ, ⌜S ⊆ crD l ∧ crK l B + (crD l \ S).card ≤ 54⌝ ∗ atPos ER (crC c l) 0 S (crK l B) ∗ bigSep S fun d => crPay c l d)

/-- Device `c` has released lane `u`'s piece for arrival `a` and is at that arrival's round. -/
def mine (c : Dev nD) (u : Fin 8) (a : ℕ) : sProp 𝕄 :=
  iprop(released ES (keyL c u (par a)) (a / 2 + 1) ∗ reached ER (recvC c u (par a)) (a / 2))
instance mine_persistent (c : Dev nD) (u : Fin 8) (a : ℕ) : BI.Persistent (mine (F := F) c u a) := by unfold mine; infer_instance
/-- The releases behind the credits below `B` that device `c` has sent. -/
def mines (c : Dev nD) (l : Bool) (B : ℕ) : sProp 𝕄 := bigSep ((crD l).filter (· < B)) fun e => mine (F := F) c (laneD l e) (e / 4 + 2)
instance mines_persistent (c : Dev nD) (l : Bool) (B : ℕ) : BI.Persistent (mines (F := F) c l B) := by unfold mines; infer_instance

/-- What the copy for arrival `a` of the next device takes. -/
def sendTok (c : Dev nD) (u : Fin 8) (a : ℕ) : sProp 𝕄 :=
  iprop(dutyTok ER (sendC c u (par a)) (a / 2) 0 ∗ dutyTok ER (recvC (dn u c) u (par a)) (a / 2) 0 ∗ writeTok ES (keyL (dn u c) u (par a)) (a / 2 + 1))

/-- The index at which arrival `h` of lane `u` is credited. -/
def ridx (u : Fin 8) : ℕ → ℕ
  | 0 => 2 + 2 * (u.val % 4) + dirN u
  | h + 1 => 11 + 2 * (8 * h + u.val)

def crTok (c : Dev nD) (u : Fin 8) (h : ℕ) : sProp 𝕄 :=
  iprop(dutyTok ER (crC (up u c) (goesL u)) 0 (4 * (h - 1) + u.val % 4) ∗ cred (tallyAt (crC c (goesL u)) (10 + 2 * (8 * h + u.val)) 1))

/-- What step `h` of lane `u` takes. -/
def stepRes (c : Dev nD) (u : Fin 8) (h : ℕ) : sProp 𝕄 :=
  if h ≤ last u then
    iprop(cred (tallyAt (recvC c u (par h)) (ridx u h) NB) ∗ (if 1 ≤ h ∧ h < last u then crTok c u h else iprop(emp))
      ∗ (if h < last u then sendTok c u (h + 1) else iprop(emp)))
  else iprop(emp)

/-- The neighbours' announcements that the pieces device `c` sends to are free. -/
def barKnow (c : Dev nD) : sProp 𝕄 := iprop(barPay c 0 ∗ barPay c 1)
instance barKnow_persistent : BI.Persistent (barKnow (F := F) c) := by unfold barKnow; infer_instance
theorem barPay_elim (c : Dev nD) (u : Fin 8) (p : Fin 2) (d : ℕ) (hd : goesL u = decide (d = 1)) :
    barPay (F := F) c d ⊢ released ES (keyL (dn u c) u p) 1 := by
  unfold barPay
  exact pick (Φ := fun q : Fin 8 × Fin 2 => (released ES (keyL (dn q.1 c) q.1 q.2) 1 : sProp 𝕄)) (i := (u, p))
    (Finset.mem_filter.mpr ⟨Finset.mem_univ _, hd⟩)
theorem barKnow_elim (c : Dev nD) (u : Fin 8) (p : Fin 2) : barKnow (F := F) c ⊢ released ES (keyL (dn u c) u p) 1 := by
  unfold barKnow
  cases hu : goesL u
  · iintro ⟨H, -⟩
    iapply (barPay_elim c u p 0 (by rw [hu]; rfl)) $$ H
  · iintro ⟨-, H⟩
    iapply (barPay_elim c u p 1 (by rw [hu]; rfl)) $$ H

end Cert.Pf
end
-- ==== Proof.Wait.lean ====
/-
# 01_k — `Wait`: the single operations of the exchange

Each wait, signal and copy of a lane as one rule over a device's holdings: the program's memrefs, semaphores and devices
are variables here, tied to the lane's by equations.
-/
module

public import proofs.«01_k».proof.Proof.State

@[expose] public section

set_option maxRecDepth 20000

noncomputable section

namespace Cert.Pf

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F] [Facts]
local notation "𝕄" => MT nD τ sig ℕ (Elt F) ℕ UU ℕ

abbrev 𝒱₀ : Variants := Variants.none
/-- A program of device `c`. -/
abbrev PG (F : FTy → Type) (α : Type) : Type 1 := Prog (TpuEff nD τ sig (Elt F) Λ₀ .tc) α
abbrev WP (c : Dev nD) {α : Type} (e : PG F α) (Q : α → sProp 𝕄) : sProp 𝕄 :=
  wp frame (wpE (defs₀ (F := F)) 𝒱₀ (c : Thread nD τ) none) Set.univ e Q

variable (xs : Dev nD → S128x4096.Idx → Elt F .f32) (A : ℕ → Dev nD → Elt F .f32)
variable (K : GSem nD τ sig → ℕ) (ι : Key → ℕ)
variable (c : Dev nD) {α : Type} {Q : α → sProp (MT nD τ sig ℕ (Elt F) ℕ UU ℕ)}

theorem last_lt (u : Fin 8) : last u < 16 := by revert u; decide
theorem par_val (a : ℕ) : 2 * (a / 2) + (par a).val = a := by show 2 * (a / 2) + a % 2 = a; omega

/-- A wait for one copy on a cell whose round has one duty. -/
theorem wp_single {sm : SemLoc sig} {sem : DmaSem sig} (hs : SemLoc.dma sem = sm) (i t r : ℕ) (N : ℕ)
    (hm : ((c : Thread nD τ), sm) ∈ allC) (hi : i < max t 1) (hi' : i < 272)
    (hd : (sched xs A).duties ((c : Thread nD τ), sm) r = {0}) (ha : (sched xs A).amount ((c : Thread nD τ), sm) r 0 = N)
    {sp sp' : Space} {s s' : Shape} {e e' : EltTy} {src : Memref sig .tc sp s e} {dst : Memref sig .tc sp' s' e'}
    {h1 : src.view.WordExact} {h2 : dst.view.WordExact}
    (hN : dst.view.dmaCredit = N) {k : PUnit → PG F α} :
    iprop(Recs xs A K ι ∗ cred (tallyAt ((c : Thread nD τ), sm) i N) ∗ ow c t ∗ atPos ER ((c : Thread nD τ), sm) r ∅ 0)
      ⊢ iprop(((ow c t ∗ atPos ER ((c : Thread nD τ), sm) (r + 1) ∅ 0 ∗ reached ER ((c : Thread nD τ), sm) (r + 1)
            ∗ (sched xs A).payload ((c : Thread nD τ), sm) r 0) -∗ WP c (k ⟨⟩) Q)
          -∗ WP c (Prog.op (.waitDma2 sem src dst h1 h2) k) Q) := by
  subst hs
  iintro ⟨#HR, Hc, HO, Hat⟩ Hk
  unfold ow
  icases HO with ⟨%W, HO⟩
  have hI : Recs xs A K ι ⊢ cellInv ER (sched xs A) (K ((c : Thread nD τ), .dma sem)) ((c : Thread nD τ), .dma sem) := Recs_inv xs A K ι hm
  ihave #Hinv := hI $$ HR
  ihave #Hlev := (Recs_lev xs A K ι) $$ HR
  iapply (Rounds.wp_wait_rest_token 𝒱₀ ER (sched xs A) (c : Thread nD τ) none (κ := K ((c : Thread nD τ), .dma sem))
      (wpE_waitDma2_eq 𝒱₀ (c : Thread nD τ) none Set.univ) (Set.mem_univ _) i (O := owed c t) (W := W) (R := r) (m := 0) (T := ∅)
      (by rw [Nat.zero_add, hN]; unfold Schedule.expect Schedule.amountOf; rw [hd, Finset.sum_singleton, ha])) $$ [Hc HO Hat]
  · isplitr; · iexact Hinv
    rw [hN]
    isplitl [Hc]; · iexact Hc
    isplitl [HO]; · iexact HO
    isplitr; · iapply (may c _ i t hi hi'); iexact Hlev
    iexact Hat
  iintro ⟨HO, Hat, Hr, Hpay⟩
  ihave Hpay := (Entails.of_eq (by rw [Finset.sdiff_empty, hd, bigSep_singleton] :
    bigSep ((sched xs A).duties ((c : Thread nD τ), .dma sem) r \ ∅) (fun d => (sched xs A).payload ((c : Thread nD τ), .dma sem) r d)
      = (sched xs A).payload ((c : Thread nD τ), .dma sem) r 0)) $$ Hpay
  iapply Hk
  isplitl [HO]; · iexists _; iexact HO
  isplitl [Hat]; · iexact Hat
  isplitl [Hr]; · iexact Hr
  iexact Hpay

theorem wp_recv (u : Fin 8) (h : ℕ) (hh : h ≤ last u) (i t : ℕ) (hi : i < max t 1) (hi' : i < 272)
    {sem : DmaSem sig} (hs : sem = recvS u (par h))
    {sp sp' : Space} {s s' : Shape} {e e' : EltTy} {src : Memref sig .tc sp s e} {dst : Memref sig .tc sp' s' e'}
    {h1 : src.view.WordExact} {h2 : dst.view.WordExact}
    (hN : dst.view.dmaCredit = NB) {k : PUnit → PG F α} :
    iprop(Recs xs A K ι ∗ cred (tallyAt (recvC c u (par h)) i NB) ∗ ow c t ∗ posR c u (par h) (h / 2))
      ⊢ iprop(((ow c t ∗ posR c u (par h) (h / 2 + 1) ∗ recvPay xs c u h) -∗ WP c (k ⟨⟩) Q)
          -∗ WP c (Prog.op (.waitDma2 sem src dst h1 h2) k) Q) := by
  unfold posR
  iintro ⟨#HR, Hc, HO, Hat, -⟩ Hk
  iapply (wp_single xs A K ι c (congrArg SemLoc.dma hs) i t (h / 2) NB (recv_mem c u (par h)) hi hi'
    (by rw [duties_recv, par_val, if_pos hh]) (by rw [amount_recv]) hN) $$ [Hc HO Hat]
  · isplitr; · iexact HR
    isplitl [Hc]; · iexact Hc
    isplitl [HO] <;> iassumption
  iintro ⟨HO, Hat, Hr, Hpay⟩
  iapply Hk
  isplitl [HO]; · iexact HO
  isplitl [Hat Hr]; · isplitl [Hat] <;> iassumption
  iapply (Entails.of_eq (by rw [payload_recv, par_val] : (sched xs A).payload (recvC c u (par h)) (h / 2) 0 = recvPay xs c u h)) $$ Hpay

theorem wp_sent (u : Fin 8) (h : ℕ) (hh : h ≤ last u) (t : ℕ)
    {sem : DmaSem sig} (hs : sem = sendS u (par h))
    {sp sp' : Space} {s s' : Shape} {e e' : EltTy} {src : Memref sig .tc sp s e} {dst : Memref sig .tc sp' s' e'}
    {h1 : src.view.WordExact} {h2 : dst.view.WordExact}
    (hN : dst.view.dmaCredit = NB) {k : PUnit → PG F α} :
    iprop(Recs xs A K ι ∗ cred (tallyAt (sendC c u (par h)) 0 NB) ∗ ow c t ∗ posS c u (par h) (h / 2))
      ⊢ iprop(((ow c t ∗ posS c u (par h) (h / 2 + 1) ∗ sendPay xs c u h) -∗ WP c (k ⟨⟩) Q)
          -∗ WP c (Prog.op (.waitDma2 sem src dst h1 h2) k) Q) := by
  unfold posS
  iintro ⟨#HR, Hc, HO, Hat, -⟩ Hk
  iapply (wp_single xs A K ι c (congrArg SemLoc.dma hs) 0 t (h / 2) NB (send_mem c u (par h)) (by omega) (by omega)
    (by rw [duties_send, par_val, if_pos hh]) (by rw [amount_send]) hN) $$ [Hc HO Hat]
  · isplitr; · iexact HR
    isplitl [Hc]; · iexact Hc
    isplitl [HO] <;> iassumption
  iintro ⟨HO, Hat, Hr, Hpay⟩
  iapply Hk
  isplitl [HO]; · iexact HO
  isplitl [Hat Hr]; · isplitl [Hat] <;> iassumption
  iapply (Entails.of_eq (by rw [payload_send, par_val] : (sched xs A).payload (sendC c u (par h)) (h / 2) 0 = sendPay xs c u h)) $$ Hpay

/-- What a piece holds once the rows arrived. -/
theorem landed (c' : Dev nD) (m : Memref sig .tc .vmem S32x4096 .f32) (fd : Buf (Elt F) (m.view.loc (c' : Thread nD τ)))
    (V : S32x4096.Idx → Elt F .f32) :
    (m.view.loc (c' : Thread nD τ) ↦[m.view.set]{fullShare} m.view.write (Elt F) fd V Finset.univ : sProp 𝕄)
      ⊢ owns (c' : Thread nD τ) m fullShare V := by
  unfold owns
  iintro H
  iexists _
  isplitr [H]
  · ipureintro; exact View.read_write_univ (f := fd) V
  · iexact H

/-- A copy of a lane, paying `due c t`. -/
theorem wp_piece (u : Fin 8) (a t : ℕ) (ht : t < 271) (hdue : due c t = tallyAt (recvC (dn u c) u (par a)) t NB)
    (ha : a ≤ last u) {n : Dev nD} (hn : n = dn u c)
    {sS sR : DmaSem sig} (hsS : sS = sendS u (par a)) (hsR : sR = recvS u (par a))
    {src : Memref sig .tc .vmem S32x4096 .f32} (hsrc : src = srcM u a)
    {dst : Memref sig (Dev.tc n : Thread nD τ).2.kind .vmem S32x4096 .f32} (hdst : dst = piece u (par a))
    {hsc : dst.view.ref.isScScratch = false} {h1 : src.view.WordExact} {h2 : dst.view.WordExact}
    {hsem : DmaTarget.Typed .vmem (.dma sR) (.remote (Dev.tc n : Thread nD τ) dst (.dma sS) hsc)}
    {k : PUnit → PG F α} :
    iprop(Recs xs A K ι ∗ sendTok c u a ∗ released ES (keyL (dn u c) u (par a)) (a / 2 + 1) ∗ reached ER (recvC (dn u c) u (par a)) (a / 2)
        ∗ reached ER (sendC c u (par a)) (a / 2) ∗ ow c t ∗ sendPay xs c u a ∗ heard (orig u a (dn u c)))
      ⊢ iprop(((ow c (t + 1) ∗ cred (tallyAt (sendC c u (par a)) 0 NB)) -∗ WP c (k ⟨⟩) Q)
          -∗ WP c (Prog.op (.enqueueDma src (.remote (Dev.tc n : Thread nD τ) dst (.dma sS) hsc) (.dma sR) h1 h2 hsem) k) Q) := by
  subst hn
  subst hsrc
  subst hdst
  unfold sendTok ow
  iintro ⟨#HR, ⟨HtS, HtR, Hw⟩, Hrel, #HrR, #HrS, ⟨%W, HO⟩, Hsrc, Hh⟩ Hk
  ihave #HIS := (Recs_inv xs A K ι (send_mem c u (par a))) $$ HR
  ihave #HIR := (Recs_inv xs A K ι (recv_mem (dn u c) u (par a))) $$ HR
  ihave #HSl := (Recs_slotL xs A K ι (dn u c) u (par a)) $$ HR
  ihave Hsl := (slot_take ES (Set.mem_univ (ι (keyL (dn u c) u (par a)))) (a / 2 + 1)) $$ [Hrel Hw]
  · isplitr; · iexact HSl
    isplitl [Hrel] <;> iassumption
  imod Hsl
  unfold slotL slot sendPay
  icases Hsl with ⟨%fd, Hd⟩
  unfold owns
  icases Hsrc with ⟨%fs, %hfs, Hs⟩
  rw [owed_step c ht, hdue]
  have eS : sendC c u (par a) = ((c : Thread nD τ), SemLoc.dma sS) := by rw [hsS]
  have eR : recvC (dn u c) u (par a) = ((dn u c : Thread nD τ), SemLoc.dma sR) := by rw [hsR]
  iapply (Rounds.wp_send_pointsTo_with 𝒱₀ ER (sched xs A) (c : Thread nD τ) none (c' := (dn u c : Thread nD τ)) (sS := .dma sS) (sem := .dma sR)
    (κ₁ := K (sendC c u (par a))) (κ₂ := K (recvC (dn u c) u (par a)))
    (src := srcM u a) (dst := piece u (par a)) (F := heard (orig u a (dn u c)))
    (r₁ := a / 2) (r₂ := a / 2) (d₁ := 0) (d₂ := 0) (fs := fs) (fd := fd) (q := srcQ u a)
    (by rw [← eS, duties_send, par_val, if_pos ha]; exact Finset.mem_singleton_self _)
    (by rw [← eR, duties_recv, par_val, if_pos ha]; exact Finset.mem_singleton_self _)
    t 0 NB rfl (by rw [← eS, amount_send]) (by rw [← eR, amount_recv]) (owed c (t + 1)) (by rw [← eR]) (W := W)
    (by rw [← eS, payload_send, par_val]; unfold sendPay owns; iintro H; iexists fs; isplitr [H]; · ipureintro; exact hfs
        iexact H)
    (by rw [← eR, payload_recv, par_val]; unfold recvPay; iintro ⟨H, Hh⟩; isplitr [Hh]
        · rw [hfs]; iapply (landed (dn u c) (piece u (par a)) fd) $$ H
        · iexact Hh)) $$ [HtS HtR Hd Hs Hh HO]
  · rw [← eS, ← eR]
    isplitr; · iexact HIS
    isplitr; · iexact HIR
    isplitl [Hs]; · iexact Hs
    isplitl [Hd Hh]
    · isplitl [Hd] <;> iassumption
    isplitl [HO]; · iexact HO
    isplitl [HtS]; · iexact HtS
    isplitr; · iexact HrS
    isplitl [HtR]; · iexact HtR
    iexact HrR
  rw [← eS]
  iintro ⟨Hc, HO⟩
  iapply Hk
  isplitl [HO]
  · iexists W; iexact HO
  · iexact Hc

end Cert.Pf
end
-- ==== Proof.Lane.lean ====
/-
# 01_k — `Lane`: one step of one lane

A step waits for the arrival and for the lane's own copy, and sends the arrival on; between the first and the last step it
also gives a piece back to the device it receives from and waits until the next device has given one back.
-/
module

public import proofs.«01_k».proof.Proof.Wait
public import Idealize.ShloMosaic.Lib.MemrefSat

@[expose] public section

set_option maxRecDepth 20000

noncomputable section

namespace Cert.Pf

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F] [Facts]
local notation "𝕄" => MT nD τ sig ℕ (Elt F) ℕ UU ℕ

variable (xs : Dev nD → S128x4096.Idx → Elt F .f32) (A : ℕ → Dev nD → Elt F .f32)
variable (K : GSem nD τ sig → ℕ) (ι : Key → ℕ)
variable (c : Dev nD) {α : Type} {Q : α → sProp (MT nD τ sig ℕ (Elt F) ℕ UU ℕ)}

/-! ## The credits -/

theorem laneD_goesL (l : Bool) (d : ℕ) : goesL (laneD l d) = l := by
  have h : ∀ (l : Bool) (r : Fin 4), goesL ⟨4 * (bif l then 1 else 0) + r.val, by cases l <;> (simp only [cond]; omega)⟩ = l := by decide
  exact h l ⟨d % 4, Nat.mod_lt _ (by decide)⟩
theorem dn_laneD_up (l : Bool) (d : ℕ) (u : Fin 8) (hu : goesL u = l) (c : Dev nD) : dn (laneD l d) (up u c) = c := by
  have e : dnK (laneD l d) = dnK u := by unfold dnK; rw [laneD_goesL, hu]
  unfold dn; rw [e]; exact dn_up u c
theorem crPay_up (u : Fin 8) (l : Bool) (hu : goesL u = l) (B : ℕ) : mines (F := F) c l (B + 1) ⊢ crPay (up u c) l B := by
  unfold mines crPay
  have e : (crD l).filter (· < B + 1) = (crD l).filter (· ≤ B) := Finset.filter_congr fun d _ => by omega
  rw [e]
  refine Entails.of_eq (bigSep_congr fun d _ => ?_)
  unfold mine crOne
  rw [dn_laneD_up l d u hu c]

theorem mines_add (l : Bool) (B : ℕ) (hB : B ∈ crD l) :
    iprop(mines (F := F) c l B ∗ mine c (laneD l B) (B / 4 + 2)) ⊢ mines c l (B + 1) := by
  unfold mines
  have e : (crD l).filter (· < B + 1) = insert B ((crD l).filter (· < B)) := by
    ext d; simp only [Finset.mem_filter, Finset.mem_insert]
    constructor
    · rintro ⟨h, h'⟩; by_cases h2 : d = B
      · exact .inl h2
      · exact .inr ⟨h, by omega⟩
    · rintro (rfl | ⟨h, h'⟩)
      · exact ⟨hB, by omega⟩
      · exact ⟨h, by omega⟩
  have e2 : bigSep (insert B ((crD l).filter (· < B))) (fun e => mine (F := F) c (laneD l e) (e / 4 + 2))
      = iprop(mine c (laneD l B) (B / 4 + 2) ∗ bigSep ((crD l).filter (· < B)) fun e => mine c (laneD l e) (e / 4 + 2)) := bigSep_insert (by simp)
  rw [e, e2]
  iintro ⟨H, H'⟩
  isplitl [H'] <;> iassumption

theorem crK_succ (l : Bool) (B : ℕ) (hB : B ∈ crD l) : crK l (B + 1) = crK l B + 1 := by
  unfold crK
  have e : (crD l).filter (· < B + 1) = insert B ((crD l).filter (· < B)) := by
    ext d; simp only [Finset.mem_filter, Finset.mem_insert]
    constructor
    · rintro ⟨h, h'⟩; by_cases h2 : d = B
      · exact .inl h2
      · exact .inr ⟨h, by omega⟩
    · rintro (rfl | ⟨h, h'⟩)
      · exact ⟨hB, by omega⟩
      · exact ⟨h, by omega⟩
  rw [e, Finset.card_insert_of_notMem (by simp)]

theorem crD_card (l : Bool) : (crD l).card = 54 := by cases l <;> decide

/-- Of more signals than there are below `B`, one is at least the `B`-th; it carries the news of all before it. -/
theorem crPay_find (l : Bool) (B : ℕ) (hB : B ∈ crD l) (S : Finset ℕ) (hS : S ⊆ crD l) (hk : crK l B + 1 + (crD l \ S).card ≤ 54) :
    bigSep S (fun d => crPay (F := F) c l d) ⊢ crOne c (laneD l B) (B / 4 + 2) := by
  have hc : (crD l \ S).card + S.card = (crD l).card := Finset.card_sdiff_add_card_eq_card hS
  rw [crD_card] at hc
  have : ∃ e ∈ S, B ≤ e := by
    by_contra hn
    push Not at hn
    have : S ⊆ (crD l).filter (· < B) := fun e he => Finset.mem_filter.mpr ⟨hS he, hn e he⟩
    have := Finset.card_le_card this
    unfold crK at hk; omega
  obtain ⟨e, he, hle⟩ := this
  refine (pick he (Φ := fun d => crPay (F := F) c l d)).trans ?_
  unfold crPay
  exact pick (Φ := fun e => crOne (F := F) c (laneD l e) (e / 4 + 2)) (Finset.mem_filter.mpr ⟨hB, hle⟩)

/-- The credit signal to the device the lane receives from. -/
theorem wp_credit (u : Fin 8) (t B : ℕ) (hB : B ∈ crD (goesL u)) (ht : t < 271) (hdue : due c t = tallyAt (crC (up u c) (goesL u)) t 1)
    {n : Dev nD} (hn : n = up u c) {sem : Sem sig} (hs : sem = crS (goesL u)) {k : PUnit → PG F α} :
    iprop(Recs xs A K ι ∗ ow c t ∗ dutyTok ER (crC (up u c) (goesL u)) 0 B ∗ mines c (goesL u) (B + 1))
      ⊢ iprop((ow c (t + 1) -∗ WP c (k ⟨⟩) Q)
          -∗ WP c (Prog.op (.semSignal (Dev.tc n : Thread nD τ) sem 1) k) Q) := by
  subst hn
  subst hs
  unfold ow
  iintro ⟨#HR, ⟨%W, HO⟩, Ht, #Hm⟩ Hk
  ihave #HI := (Recs_inv xs A K ι (cr_mem (up u c) (goesL u))) $$ HR
  ihave #Hr := (Recs_reached xs A K ι (cr_mem (up u c) (goesL u))) $$ HR
  rw [owed_step c ht, hdue]
  iapply (Rounds.wp_signal 𝒱₀ ER (sched xs A) (c : Thread nD τ) none (dst := (up u c : Thread nD τ)) (κ := K (crC (up u c) (goesL u)))
      (r := 0) (d := B) (by rw [duties_cr, if_pos rfl]; exact hB) (amount_cr xs A (up u c) (goesL u) 0 B) t (owed c (t + 1)) rfl (W := W))
    $$ [HO Ht]
  · isplitr; · iexact HI
    isplitl [HO]; · iexact HO
    isplitl [Ht]; · iexact Ht
    isplitr
    · rw [payload_cr]; iapply (crPay_up c u (goesL u) rfl B); iexact Hm
    · iexact Hr
  iintro HO
  iapply Hk
  iexists W; iexact HO

/-- The wait for one credit: whichever it was, the next device can take the arrival the lane is at. -/
theorem wp_granted (u : Fin 8) (i t B : ℕ) (hB : B ∈ crD (goesL u)) (hi : i < max t 1) (hi' : i < 272)
    {sem : Sem sig} (hs : sem = crS (goesL u)) {k : PUnit → PG F α} :
    iprop(Recs xs A K ι ∗ ow c t ∗ cred (tallyAt (crC c (goesL u)) i 1) ∗ crSt c (goesL u) B)
      ⊢ iprop(((ow c t ∗ crSt c (goesL u) (B + 1) ∗ crOne c (laneD (goesL u) B) (B / 4 + 2)) -∗ WP c (k ⟨⟩) Q)
          -∗ WP c (Prog.op (.semWait sem 1) k) Q) := by
  subst hs
  unfold ow crSt
  iintro ⟨#HR, ⟨%W, HO⟩, Hc, ⟨%S, %hS, Hat, #Hp⟩⟩ Hk
  ihave #HI := (Recs_inv xs A K ι (cr_mem c (goesL u))) $$ HR
  ihave #Hlev := (Recs_lev xs A K ι) $$ HR
  iapply (Rounds.wp_wait 𝒱₀ ER (sched xs A) (c : Thread nD τ) none (κ := K (crC c (goesL u)))
      (wpE_semWait_eq 𝒱₀ (c : Thread nD τ) none Set.univ) (Set.mem_univ _) (cr := Finsupp.single i 1) (O := owed c t) (W := W)
      {(SemLoc.reg (crS (goesL u)), i)} (R := 0) (m := crK (goesL u) B) (T := S) (by rw [Util.total_single]) (image_single_subset _ _ _))
    $$ [Hc HO Hat]
  · isplitr; · iexact HI
    isplitl [Hc]; · iexact Hc
    isplitl [HO]; · iexact HO
    isplitr; · iapply (may c (SemLoc.reg (crS (goesL u))) i t hi hi'); iexact Hlev
    iexact Hat
  iintro %S' ⟨%hS', HO, Hat, Hp'⟩
  have e54 : (sched xs A).expect (crC c (goesL u)) 0 = 54 := by
    unfold Schedule.expect Schedule.amountOf
    rw [duties_cr, if_pos rfl, Finset.sum_congr rfl fun d _ => amount_cr xs A c (goesL u) 0 d, Finset.sum_const, crD_card]; rfl
  rw [duties_cr, if_pos rfl, e54] at hS'
  ihave #Hp2 := (Entails.of_eq (bigSep_congr fun d _ => payload_cr xs A c (goesL u) 0 d :
    bigSep (S' \ S) (fun d => (sched xs A).payload (crC c (goesL u)) 0 d) = bigSep (S' \ S) fun d => crPay c (goesL u) d)) $$ Hp'
  have eS : bigSep S' (fun d => crPay (F := F) c (goesL u) d)
      = iprop(bigSep S (fun d => crPay c (goesL u) d) ∗ bigSep (S' \ S) fun d => crPay c (goesL u) d) := bigSep_sdiff_split hS'.1
  ihave #Hall : (bigSep S' fun d => crPay (F := F) c (goesL u) d) $$ []
  · rw [eS]; isplitr; · iexact Hp
    iexact Hp2
  iapply Hk
  isplitl [HO]; · iexists _; iexact HO
  isplitl [Hat]
  · iexists S'
    isplitr
    · ipureintro; rw [crK_succ _ B hB]; exact ⟨hS'.2.1, hS'.2.2⟩
    isplitl [Hat]
    · rw [crK_succ _ B hB]; iexact Hat
    · iexact Hall
  · iapply (crPay_find c (goesL u) B hB S' hS'.2.1 hS'.2.2); iexact Hall

/-! ## The parts of a step -/

theorem par_add_two (h : ℕ) : par (h + 2) = par h := Fin.ext (by show (h + 2) % 2 = h % 2; omega)
theorem par_succ_sub {h : ℕ} (hh : 1 ≤ h) : par (h - 1) = par (h + 1) := Fin.ext (by show (h - 1) % 2 = (h + 1) % 2; omega)

/-- What the arrival leaves: a half for the products and a half to send on. -/
theorem arrived (u : Fin 8) (h : ℕ) :
    recvPay xs c u h ⊢ iprop(kept xs c u (h + 1) ∗ sendPay xs c u (h + 1) ∗ heard (orig u h c)) := by
  unfold recvPay sendPay kept
  rw [orig_succ_dn]
  iintro ⟨H, Hh⟩
  ihave H := (owns_halves (c : Thread nD τ) (piece u (par h)) fullShare (X xs u (orig u h c))).1 $$ H
  icases H with ⟨H1, H2⟩
  isplitl [H1]; · iexact H1
  isplitl [H2]; · iexact H2
  iexact Hh

/-- The two halves of the piece for arrival `h - 1`, joined. -/
theorem rejoin (u : Fin 8) (h : ℕ) :
    iprop(kept xs c u (h + 1) ∗ sendPay xs c u (h + 1)) ⊢ owns (c : Thread nD τ) (piece u (par h)) fullShare (X xs u (orig u h c)) := by
  unfold sendPay kept
  rw [orig_succ_dn]
  iintro ⟨H1, H2⟩
  iapply (owns_halves (c : Thread nD τ) (piece u (par h)) fullShare (X xs u (orig u h c))).2
  isplitl [H1]; · iexact H1
  iexact H2

theorem owns_slotL (u : Fin 8) (p : Fin 2) (V : S32x4096.Idx → Elt F .f32) :
    owns (c : Thread nD τ) (piece u p) fullShare V ⊢ slotL c u p := by
  unfold owns slotL slot
  iintro ⟨%f, -, H⟩
  iexists f; iexact H

theorem hrd_add (u : Fin 8) (h : ℕ) : iprop(hrd c u h ∗ heard (F := F) (orig u h c)) ⊢ hrd c u (h + 1) := by
  unfold hrd
  have e : bigSep (Finset.range (h + 1)) (fun a => heard (F := F) (orig u a c))
      = iprop(heard (orig u h c) ∗ bigSep (Finset.range h) fun a => heard (orig u a c)) := by
    rw [Finset.range_add_one]; exact bigSep_insert (by simp)
  rw [e]
  iintro ⟨H, H'⟩
  isplitl [H'] <;> iassumption

/-- What a lane gives up and takes in a step, the program aside. -/
def stepPre (c : Dev nD) (u : Fin 8) (h t B : ℕ) : sProp 𝕄 :=
  iprop(ow c t ∗ stepRes c u h ∗ laneM xs c u h ∗ kept xs c u h ∗ crSt c (goesL u) B ∗ mines c (goesL u) B)
def stepPost (c : Dev nD) (u : Fin 8) (h t B : ℕ) : sProp 𝕄 :=
  iprop(ow c (t + 2) ∗ lane xs c u (h + 1) ∗ kept xs c u (h + 1) ∗ crSt c (goesL u) B ∗ mines c (goesL u) B)

theorem lane_mid (u : Fin 8) (h : ℕ) (hh : h ≤ last u) : lane xs c u h = laneM xs c u h := if_pos hh
theorem lane_end (u : Fin 8) (h : ℕ) (hh : last u < h) : lane xs c u h = laneE xs c u (last u) := if_neg (by omega)

variable {sp sp' : Space} {s s' : Shape} {e e' : EltTy}

section
variable (u : Fin 8) (h t : ℕ)
  {semR semS : DmaSem sig} (hR : semR = recvS u (par h)) (hS : semS = sendS u (par h))
  {src₁ : Memref sig .tc sp s e} {dst₁ : Memref sig .tc .vmem S32x4096 .f32} {a₁ : src₁.view.WordExact} {b₁ : dst₁.view.WordExact}
  (hN₁ : dst₁.view.dmaCredit = NB)
  {src₂ : Memref sig .tc sp' s' e'} {dst₂ : Memref sig .tc .vmem S32x4096 .f32} {a₂ : src₂.view.WordExact} {b₂ : dst₂.view.WordExact}
  (hN₂ : dst₂.view.dmaCredit = NB)

include hR hS hN₁ hN₂ in
/-- The two waits at the head of every step. -/
theorem wp_head (hh : h ≤ last u) (hi : ridx u h < max t 1) (hi' : ridx u h < 272) {k : PUnit → PG F α} :
    iprop(Recs xs A K ι ∗ ow c t ∗ cred (tallyAt (recvC c u (par h)) (ridx u h) NB) ∗ cred (tallyAt (sendC c u (par h)) 0 NB)
        ∗ posR c u (par h) (h / 2) ∗ posS c u (par h) (h / 2))
      ⊢ iprop(((ow c t ∗ posR c u (par h) (h / 2 + 1) ∗ posS c u (par h) (h / 2 + 1) ∗ recvPay xs c u h ∗ sendPay xs c u h) -∗ WP c (k ⟨⟩) Q)
          -∗ WP c (Prog.op (.waitDma2 semR src₁ dst₁ a₁ b₁) fun _ => Prog.op (.waitDma2 semS src₂ dst₂ a₂ b₂) k) Q) := by
  iintro ⟨#HR, HO, HcR, HcS, HpR, HpS⟩ Hk
  iapply (wp_recv xs A K ι c u h hh (ridx u h) t hi hi' hR hN₁) $$ [HcR HO HpR]
  · isplitr; · iexact HR
    isplitl [HcR]; · iexact HcR
    isplitl [HO] <;> iassumption
  iintro ⟨HO, HpR, Hrecv⟩
  iapply (wp_sent xs A K ι c u h hh t hS hN₂) $$ [HcS HO HpS]
  · isplitr; · iexact HR
    isplitl [HcS]; · iexact HcS
    isplitl [HO] <;> iassumption
  iintro ⟨HO, HpS, Hsend⟩
  iapply Hk
  isplitl [HO]; · iexact HO
  isplitl [HpR]; · iexact HpR
  isplitl [HpS]; · iexact HpS
  isplitl [Hrecv] <;> iassumption
end

end Cert.Pf
end
-- ==== Proof.Step.lean ====
/-
# 01_k — `Step`: a lane's first copy, and its steps in their three shapes

The first step (nothing given back yet), a step in the middle, and the last step (nothing sent on).
-/
module

public import proofs.«01_k».proof.Proof.Lane

@[expose] public section

set_option maxRecDepth 20000

noncomputable section

namespace Cert.Pf

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F] [Facts]
local notation "𝕄" => MT nD τ sig ℕ (Elt F) ℕ UU ℕ

variable (xs : Dev nD → S128x4096.Idx → Elt F .f32) (A : ℕ → Dev nD → Elt F .f32)
variable (K : GSem nD τ sig → ℕ) (ι : Key → ℕ)
variable (c : Dev nD) {α : Type} {Q : α → sProp (MT nD τ sig ℕ (Elt F) ℕ UU ℕ)}

/-! ## The payments of a step -/

theorem laneN_add (h : ℕ) (u : Fin 8) : laneN (8 * h + u.val) = u := Fin.ext (by show (8 * h + u.val) % 8 = u.val; omega)

theorem due_cr (u : Fin 8) (h : ℕ) (hh : h ≤ 15) : due c (10 + 2 * (8 * h + u.val)) = dueCr c (10 + 2 * (8 * h + u.val)) h u := by
  unfold due
  rw [if_neg (by omega), if_neg (by omega), if_neg (by omega), if_pos (by omega), if_pos (by omega)]
  have e : (10 + 2 * (8 * h + u.val) - 10) / 2 = 8 * h + u.val := by omega
  rw [e, laneN_add]
  have e2 : (8 * h + u.val) / 8 = h := by omega
  rw [e2]
theorem due_send (u : Fin 8) (h : ℕ) (hh : h ≤ 15) : due c (10 + 2 * (8 * h + u.val) + 1) = dueSend c (10 + 2 * (8 * h + u.val) + 1) h u := by
  unfold due
  rw [if_neg (by omega), if_neg (by omega), if_neg (by omega), if_pos (by omega), if_neg (by omega)]
  have e : (10 + 2 * (8 * h + u.val) + 1 - 10) / 2 = 8 * h + u.val := by omega
  rw [e, laneN_add]
  have e2 : (8 * h + u.val) / 8 = h := by omega
  rw [e2]

theorem ow_skip {t : ℕ} (ht : t < 271) (hd : due c t = 0) : ow (F := F) c t ⊢ ow c (t + 1) := by
  unfold ow; rw [owed_step c ht, hd, add_zero]

theorem lanePos_succ (u : Fin 8) (h : ℕ) :
    iprop((posR (F := F) c u (par (h + 1)) ((h + 1) / 2) ∗ posS c u (par (h + 1)) ((h + 1) / 2)) ∗ (posR c u (par h) (h / 2 + 1) ∗ posS c u (par h) (h / 2 + 1)))
      ⊢ lanePos c u (h + 1) := by
  unfold lanePos
  have e : (h + 1 + 1) / 2 = h / 2 + 1 := by omega
  rw [show par (h + 1 + 1) = par h from par_add_two h, e]
theorem laneRd_succ (u : Fin 8) (h : ℕ) :
    iprop(readerAt (K := Key) ES (keyL c u (par (h + 1))) ((h + 1) / 2 + 1) ∗ readerAt ES (keyL c u (par h)) (h / 2 + 1))
      ⊢ (laneRd c u (h + 1) : sProp 𝕄) := by
  unfold laneRd
  rw [show par (h + 1 + 1) = par h from par_add_two h, Nat.add_sub_cancel]

variable {sp sp' : Space} {s s' : Shape} {e e' : EltTy}

/-! ## The first copy -/

theorem ridx_zero_lt (u : Fin 8) : ridx u 0 < 10 := by revert u; decide
theorem le_ridx_zero (u : Fin 8) : 2 ≤ ridx u 0 := by revert u; decide
theorem laneT_ridx (u : Fin 8) : laneT (ridx u 0) = u := by revert u; decide

section
variable (u : Fin 8) {n : Dev nD} (hn : n = dn u c)
    {sS sR : DmaSem sig} (hsS : sS = sendS u 0) (hsR : sR = recvS u 0)
    {src : Memref sig .tc .vmem S32x4096 .f32} (hsrc : src = xpiece u)
    {dst : Memref sig (Dev.tc n : Thread nD τ).2.kind .vmem S32x4096 .f32} (hdst : dst = piece u 0)
    {hsc : dst.view.ref.isScScratch = false} {h1 : src.view.WordExact} {h2 : dst.view.WordExact}
    {hsem : DmaTarget.Typed .vmem (.dma sR) (.remote (Dev.tc n : Thread nD τ) dst (.dma sS) hsc)}

/-- Lane `u` before its first copy. -/
def lane0 : sProp 𝕄 :=
  iprop(lanePos c u 0 ∗ laneRd c u 0 ∗ sendTok c u 0 ∗ owns (c : Thread nD τ) (xpiece u) (hX u) (X xs u c))

include hn hsS hsR hsrc hdst in
theorem wp_first (t : ℕ) (ht : t = ridx u 0) {k : PUnit → PG F α} :
    iprop(Recs xs A K ι ∗ barKnow c ∗ heard c ∗ ow c t ∗ lane0 xs c u)
      ⊢ iprop(((ow c (t + 1) ∗ lane xs c u 0) -∗ WP c (k ⟨⟩) Q)
          -∗ WP c (Prog.op (.enqueueDma src (.remote (Dev.tc n : Thread nD τ) dst (.dma sS) hsc) (.dma sR) h1 h2 hsem) k) Q) := by
  have htl : t < 10 := by rw [ht]; exact ridx_zero_lt u
  have hdue : due c t = tallyAt (recvC (dn u c) u (par 0)) t NB := by
    have e := laneT_ridx u
    have e2 := le_ridx_zero u
    unfold due
    rw [if_neg (by omega), if_neg (by omega), if_pos htl, ht, e]; rfl
  rw [lane_mid xs c u 0 (Nat.zero_le _)]
  unfold lane0
  iintro ⟨#HR, #HB, #Hh, HO, HP, HRd, HT, HX⟩ Hk
  ihave #Hrel := (barKnow_elim c u 0) $$ HB
  ihave #HrR := (Recs_reached xs A K ι (recv_mem (dn u c) u 0)) $$ HR
  ihave #HrS := (Recs_reached xs A K ι (send_mem c u 0)) $$ HR
  iapply (wp_piece xs A K ι c u 0 t (by omega) hdue (Nat.zero_le _) hn hsS hsR hsrc hdst) $$ [HT HO HX]
  · isplitr; · iexact HR
    isplitl [HT]; · iexact HT
    isplitr; · iexact Hrel
    isplitr; · iexact HrR
    isplitr; · iexact HrS
    isplitl [HO]; · iexact HO
    rw [orig_zero_dn]
    isplitl [HX]
    · unfold sendPay; rw [orig_zero_dn]; iexact HX
    · iexact Hh
  iintro ⟨HO, Hc⟩
  iapply Hk
  isplitl [HO]; · iexact HO
  unfold laneM
  isplitl [HP]; · iexact HP
  isplitl [HRd]; · iexact HRd
  isplitl [Hc]; · iexact Hc
  unfold hrd xback
  rw [Finset.range_zero, bigSep_empty]
  isplitl <;> iempintro
end

/-! ## The three shapes -/

section
variable (u : Fin 8) (h : ℕ)
  {semR semS : DmaSem sig} (hR : semR = recvS u (par h)) (hS : semS = sendS u (par h))
  {src₁ : Memref sig .tc sp s e} {dst₁ : Memref sig .tc .vmem S32x4096 .f32} {a₁ : src₁.view.WordExact} {b₁ : dst₁.view.WordExact}
  (hN₁ : dst₁.view.dmaCredit = NB)
  {src₂ : Memref sig .tc sp' s' e'} {dst₂ : Memref sig .tc .vmem S32x4096 .f32} {a₂ : src₂.view.WordExact} {b₂ : dst₂.view.WordExact}
  (hN₂ : dst₂.view.dmaCredit = NB)

theorem ridx_lt (hh : h ≤ 15) : ridx u h < 10 + 2 * (8 * h + u.val) := by
  cases h with
  | zero => have := u.isLt; show 2 + 2 * (u.val % 4) + dirN u < _; unfold dirN; cases goesL u <;> (simp only [cond]; omega)
  | succ h => show 11 + 2 * (8 * h + u.val) < _; omega

section
variable {n : Dev nD} (hn : n = dn u c)
    {sS sR : DmaSem sig} (hsS : sS = sendS u (par (h + 1))) (hsR : sR = recvS u (par (h + 1)))
    {src : Memref sig .tc .vmem S32x4096 .f32} (hsrc : src = piece u (par h))
    {dst : Memref sig (Dev.tc n : Thread nD τ).2.kind .vmem S32x4096 .f32} (hdst : dst = piece u (par (h + 1)))
    {hsc : dst.view.ref.isScScratch = false} {h1 : src.view.WordExact} {h2 : dst.view.WordExact}
    {hsem : DmaTarget.Typed .vmem (.dma sR) (.remote (Dev.tc n : Thread nD τ) dst (.dma sS) hsc)}

include hn hsS hsR hsrc hdst in
/-- Sending arrival `h` on, once the next device's piece is known to be free. -/
theorem wp_forward (hh : h < last u) {k : PUnit → PG F α} :
    iprop(Recs xs A K ι ∗ crOne c u (h + 1) ∗ ow c (10 + 2 * (8 * h + u.val) + 1) ∗ sendTok c u (h + 1) ∗ recvPay xs c u h
        ∗ posR c u (par h) (h / 2 + 1) ∗ posS c u (par h) (h / 2 + 1) ∗ posR c u (par (h + 1)) ((h + 1) / 2) ∗ posS c u (par (h + 1)) ((h + 1) / 2)
        ∗ readerAt ES (keyL c u (par (h + 1))) ((h + 1) / 2 + 1) ∗ readerAt ES (keyL c u (par h)) (h / 2 + 1)
        ∗ hrd c u h ∗ xback xs c u 1)
      ⊢ iprop(((ow c (10 + 2 * (8 * h + u.val) + 2) ∗ lane xs c u (h + 1) ∗ kept xs c u (h + 1)) -∗ WP c (k ⟨⟩) Q)
          -∗ WP c (Prog.op (.enqueueDma src (.remote (Dev.tc n : Thread nD τ) dst (.dma sS) hsc) (.dma sR) h1 h2 hsem) k) Q) := by
  have hl := last_lt u
  have hu := u.isLt
  have hdue : due c (10 + 2 * (8 * h + u.val) + 1) = tallyAt (recvC (dn u c) u (par (h + 1))) (10 + 2 * (8 * h + u.val) + 1) NB := by
    rw [due_send c u h (by omega)]; unfold dueSend; rw [if_pos hh]
  rw [lane_mid xs c u (h + 1) hh]
  unfold crOne
  iintro ⟨#HR, ⟨#Hrel, #Hrch⟩, HO, HT, Hp, HpR, HpS, HpR', HpS', Hr1, Hr2, Hh, Hx⟩ Hk
  ihave Hp := (arrived xs c u h) $$ Hp
  icases Hp with ⟨Hkept, Hsend, #Hheard⟩
  unfold posR posS
  icases HpS' with ⟨HatS', #HrS'⟩
  iapply (wp_piece xs A K ι c u (h + 1) (10 + 2 * (8 * h + u.val) + 1) (by omega) hdue hh hn hsS hsR hsrc hdst) $$ [HT HO Hsend]
  · isplitr; · iexact HR
    isplitl [HT]; · iexact HT
    isplitr; · iexact Hrel
    isplitr; · iexact Hrch
    isplitr; · iexact HrS'
    isplitl [HO]; · iexact HO
    isplitl [Hsend]; · iexact Hsend
    rw [orig_succ_dn]; iexact Hheard
  iintro ⟨HO, Hc⟩
  iapply Hk
  isplitl [HO]; · iexact HO
  isplitr [Hkept]
  · unfold laneM
    isplitl [HpR HpS HpR' HatS']
    · iapply (lanePos_succ c u h)
      unfold posR posS
      isplitl [HpR' HatS']
      · isplitl [HpR']; · iexact HpR'
        isplitl [HatS']; · iexact HatS'
        iexact HrS'
      · isplitl [HpR] <;> iassumption
    isplitl [Hr1 Hr2]
    · iapply (laneRd_succ c u h); isplitl [Hr1] <;> iassumption
    isplitl [Hc]; · iexact Hc
    isplitl [Hh]
    · iapply (hrd_add c u h); isplitl [Hh]; · iexact Hh
      iexact Hheard
    · iexact Hx
  · iexact Hkept
end

include hR hS hN₁ hN₂ in
/-- The last step: nothing is sent on. -/
theorem step_last (h' : ℕ) (e' : h = h' + 1) (hh : h = last u) {k : PUnit → PG F α} :
    iprop(Recs xs A K ι ∗ ow c (10 + 2 * (8 * h + u.val)) ∗ stepRes c u h ∗ lane xs c u h ∗ kept xs c u h)
      ⊢ iprop(((ow c (10 + 2 * (8 * h + u.val) + 2) ∗ lane xs c u (h + 1) ∗ kept xs c u (h + 1)) -∗ WP c (k ⟨⟩) Q)
          -∗ WP c (Prog.op (.waitDma2 semR src₁ dst₁ a₁ b₁) fun _ => Prog.op (.waitDma2 semS src₂ dst₂ a₂ b₂) k) Q) := by
  have hl := last_le u
  have hu := u.isLt
  have hi := ridx_lt u h (by omega)
  rw [lane_mid xs c u h (by omega), lane_end xs c u (h + 1) (by omega), ← hh]
  unfold laneM stepRes lanePos
  rw [if_pos (by omega), if_neg (by omega), if_neg (by omega)]
  iintro ⟨#HR, HO, ⟨HcR, -, -⟩, ⟨⟨⟨HpR, HpS⟩, HpR', HpS'⟩, -, HcS, Hh, Hx⟩, Hkept⟩ Hk
  iapply (wp_head xs A K ι c u h (10 + 2 * (8 * h + u.val)) hR hS hN₁ hN₂ (by omega) (by omega) (by omega)) $$ [HO HcR HcS HpR HpS]
  · isplitr; · iexact HR
    isplitl [HO]; · iexact HO
    isplitl [HcR]; · iexact HcR
    isplitl [HcS]; · iexact HcS
    isplitl [HpR] <;> iassumption
  iintro ⟨HO, HpR, HpS, Hp, Hs⟩
  ihave Hp := (arrived xs c u h) $$ Hp
  icases Hp with ⟨Hkept', Hsend, Hheard⟩
  iapply Hk
  isplitl [HO]
  · iapply (ow_skip c (t := 10 + 2 * (8 * h + u.val) + 1) (by omega)
      (by rw [due_send c u h (by omega)]; unfold dueSend; rw [if_neg (by omega)]))
    iapply (ow_skip c (t := 10 + 2 * (8 * h + u.val)) (by omega)
      (by rw [due_cr c u h (by omega)]; unfold dueCr; rw [if_neg (by omega)])) $$ HO
  isplitr [Hkept']
  · unfold laneE
    isplitl [HpR HpS HpR' HpS']
    · iapply (lanePos_succ c u h)
      isplitl [HpR' HpS']
      · isplitl [HpR'] <;> iassumption
      · isplitl [HpR] <;> iassumption
    isplitl [Hh Hheard]
    · iapply (hrd_add c u h); isplitl [Hh] <;> iassumption
    subst e'
    isplitl [Hx]; · iexact Hx
    isplitl [Hsend]
    · unfold sendPay; rw [orig_succ_dn]; iexact Hsend
    · rw [Nat.add_sub_cancel]
      iapply (rejoin xs c u h'); isplitl [Hkept] <;> iassumption
  · iexact Hkept'

section
variable {n : Dev nD} (hn : n = dn u c)
    {sS sR : DmaSem sig} (hsS : sS = sendS u (par (h + 1))) (hsR : sR = recvS u (par (h + 1)))
    {src : Memref sig .tc .vmem S32x4096 .f32} (hsrc : src = piece u (par h))
    {dst : Memref sig (Dev.tc n : Thread nD τ).2.kind .vmem S32x4096 .f32} (hdst : dst = piece u (par (h + 1)))
    {hsc : dst.view.ref.isScScratch = false} {h1 : src.view.WordExact} {h2 : dst.view.WordExact}
    {hsem : DmaTarget.Typed .vmem (.dma sR) (.remote (Dev.tc n : Thread nD τ) dst (.dma sS) hsc)}

include hR hS hN₁ hN₂ hn hsS hsR hsrc hdst in
/-- The first step: the next device's other piece is free since the barrier. -/
theorem step_first (e0 : h = 0) {k : PUnit → PG F α} :
    iprop(Recs xs A K ι ∗ barKnow c ∗ ow c (10 + 2 * (8 * h + u.val)) ∗ stepRes c u h ∗ lane xs c u h ∗ kept xs c u h)
      ⊢ iprop(((ow c (10 + 2 * (8 * h + u.val) + 2) ∗ lane xs c u (h + 1) ∗ kept xs c u (h + 1)) -∗ WP c (k ⟨⟩) Q)
          -∗ WP c (Prog.op (.waitDma2 semR src₁ dst₁ a₁ b₁) fun _ => Prog.op (.waitDma2 semS src₂ dst₂ a₂ b₂) fun _ =>
              Prog.op (.enqueueDma src (.remote (Dev.tc n : Thread nD τ) dst (.dma sS) hsc) (.dma sR) h1 h2 hsem) k) Q) := by
  have hl := le_last u
  have hu := u.isLt
  have hi := ridx_lt u h (by omega)
  rw [lane_mid xs c u h (by omega)]
  unfold laneM stepRes lanePos laneRd
  rw [if_pos (by omega), if_neg (by omega), if_pos (by omega)]
  iintro ⟨#HR, #HB, HO, ⟨HcR, -, HT⟩, ⟨⟨⟨HpR, HpS⟩, HpR', HpS'⟩, ⟨Hr1, Hr2⟩, HcS, Hh, Hx⟩, Hkept⟩ Hk
  iapply (wp_head xs A K ι c u h (10 + 2 * (8 * h + u.val)) hR hS hN₁ hN₂ (by omega) (by omega) (by omega)) $$ [HO HcR HcS HpR HpS]
  · isplitr; · iexact HR
    isplitl [HO]; · iexact HO
    isplitl [HcR]; · iexact HcR
    isplitl [HcS]; · iexact HcS
    isplitl [HpR] <;> iassumption
  iintro ⟨HO, HpR, HpS, Hp, Hs⟩
  ihave #Hrel := (barKnow_elim c u (par 1)) $$ HB
  ihave #HrR := (Recs_reached xs A K ι (recv_mem (dn u c) u (par 1))) $$ HR
  iapply (wp_forward xs A K ι c u h hn hsS hsR hsrc hdst (by omega)) $$ [HO HT Hp HpR HpS HpR' HpS' Hr1 Hr2 Hh Hs]
  · isplitr; · iexact HR
    isplitr
    · unfold crOne; subst e0; isplitr; · iexact Hrel
      iexact HrR
    isplitl [HO]
    · iapply (ow_skip c (t := 10 + 2 * (8 * h + u.val)) (by omega)
        (by rw [due_cr c u h (by omega)]; unfold dueCr; rw [if_neg (by omega)])) $$ HO
    isplitl [HT]; · iexact HT
    isplitl [Hp]; · iexact Hp
    isplitl [HpR]; · iexact HpR
    isplitl [HpS]; · iexact HpS
    isplitl [HpR']; · iexact HpR'
    isplitl [HpS']; · iexact HpS'
    subst e0
    isplitl [Hr2]; · iexact Hr2
    isplitl [Hr1]; · iexact Hr1
    isplitl [Hh]; · iexact Hh
    unfold sendPay xback; rw [orig_zero_dn]; iexact Hs
  iexact Hk

include hR hS hN₁ hN₂ hn hsS hsR hsrc hdst in
/-- A step in the middle: the piece of the arrival before is given back, and the next device's is waited for. -/
theorem step_mid (h' : ℕ) (e' : h = h' + 1) (hh : h < last u) (B : ℕ) (eB : B = 4 * h' + u.val % 4)
    {nU : Dev nD} (hnU : nU = up u c) {semC semC' : Sem sig} (hC : semC = crS (goesL u)) (hC' : semC' = crS (goesL u)) {k : PUnit → PG F α} :
    iprop(Recs xs A K ι ∗ ow c (10 + 2 * (8 * h + u.val)) ∗ stepRes c u h ∗ lane xs c u h ∗ kept xs c u h
        ∗ crSt c (goesL u) B ∗ mines c (goesL u) B)
      ⊢ iprop(((ow c (10 + 2 * (8 * h + u.val) + 2) ∗ lane xs c u (h + 1) ∗ kept xs c u (h + 1) ∗ crSt c (goesL u) (B + 1) ∗ mines c (goesL u) (B + 1))
            -∗ WP c (k ⟨⟩) Q)
          -∗ WP c (Prog.op (.waitDma2 semR src₁ dst₁ a₁ b₁) fun _ => Prog.op (.waitDma2 semS src₂ dst₂ a₂ b₂) fun _ =>
              Prog.op (.semSignal (Dev.tc nU : Thread nD τ) semC 1) fun _ => Prog.op (.semWait semC' 1) fun _ =>
              Prog.op (.enqueueDma src (.remote (Dev.tc n : Thread nD τ) dst (.dma sS) hsc) (.dma sR) h1 h2 hsem) k) Q) := by
  have hl := last_lt u
  have hu := u.isLt
  have hi := ridx_lt u h (by omega)
  have hB : B ∈ crD (goesL u) := by
    have : ∀ (u : Fin 8) (h' : Fin 16), h'.val + 1 < last u → 4 * h'.val + u.val % 4 ∈ crD (goesL u) := by decide
    rw [eB]; exact this u ⟨h', by omega⟩ (by show h' + 1 < last u; omega)
  have hlane : laneD (goesL u) B = u := by
    have : ∀ (u : Fin 8) (h' : Fin 16), laneD (goesL u) (4 * h'.val + u.val % 4) = u := by decide
    rw [eB]; exact this u ⟨h', by omega⟩
  have hB4 : B / 4 + 2 = h + 1 := by omega
  have hBe : 4 * (h - 1) + u.val % 4 = B := by omega
  rw [lane_mid xs c u h (by omega)]
  unfold laneM stepRes lanePos laneRd crTok
  rw [if_pos (by omega), if_pos (by omega), if_pos (by omega), hBe]
  iintro ⟨#HR, HO, ⟨HcR, ⟨Hdt, Hcc⟩, HT⟩, ⟨⟨⟨HpR, HpS⟩, HpR', HpS'⟩, ⟨Hr1, Hr2⟩, HcS, Hh, Hx⟩, Hkept, Hcr, #Hm⟩ Hk
  iapply (wp_head xs A K ι c u h (10 + 2 * (8 * h + u.val)) hR hS hN₁ hN₂ (by omega) (by omega) (by omega)) $$ [HO HcR HcS HpR HpS]
  · isplitr; · iexact HR
    isplitl [HO]; · iexact HO
    isplitl [HcR]; · iexact HcR
    isplitl [HcS]; · iexact HcS
    isplitl [HpR] <;> iassumption
  iintro ⟨HO, HpR, HpS, Hp, Hs⟩
  have epar : par h' = par (h + 1) := by rw [e', ← par_add_two h']
  ihave Hsl : (slotL (F := F) c u (par (h + 1))) $$ [Hkept Hs]
  · rw [← epar]
    iapply (owns_slotL c u (par h') (X xs u (orig u h' c)))
    iapply (rejoin xs c u h')
    subst e'
    isplitl [Hkept] <;> iassumption
  ihave #HSl := (Recs_slotL xs A K ι c u (par (h + 1))) $$ HR
  ihave Hrel := (slot_release ES (Set.mem_univ (ι (keyL c u (par (h + 1))))) (slotL_excl c u (par (h + 1))) ((h - 1) / 2 + 1)) $$ [Hr2 Hsl]
  · isplitr; · iexact HSl
    isplitl [Hr2] <;> iassumption
  imod Hrel
  icases Hrel with ⟨Hr2, #Hrel⟩
  have ecount : (h - 1) / 2 + 1 + 1 = (h + 1) / 2 + 1 := by omega
  rw [ecount]
  unfold posR
  icases HpR' with ⟨HatR', #HrR'⟩
  ihave #Hm2 : (mines (F := F) c (goesL u) (B + 1)) $$ []
  · iapply (mines_add c (goesL u) B hB)
    isplitr; · iexact Hm
    rw [hlane, hB4]; unfold mine
    isplitr; · iexact Hrel
    iexact HrR'
  iapply (wp_credit xs A K ι c u (10 + 2 * (8 * h + u.val)) B hB (by omega)
    (by rw [due_cr c u h (by omega)]; unfold dueCr; rw [if_pos ⟨by omega, hh⟩]) hnU hC) $$ [HO Hdt]
  · isplitr; · iexact HR
    isplitl [HO]; · iexact HO
    isplitl [Hdt]; · iexact Hdt
    iexact Hm2
  iintro HO
  iapply (wp_granted xs A K ι c u (10 + 2 * (8 * h + u.val)) (10 + 2 * (8 * h + u.val) + 1) B hB (by omega) (by omega) hC') $$ [HO Hcc Hcr]
  · isplitr; · iexact HR
    isplitl [HO]; · iexact HO
    isplitl [Hcc] <;> iassumption
  rw [hlane, hB4]
  iintro ⟨HO, Hcr, #Hone⟩
  iapply (wp_forward xs A K ι c u h hn hsS hsR hsrc hdst hh) $$ [HO HT Hp HpR HpS HatR' HpS' Hr1 Hr2 Hh Hx]
  · isplitr; · iexact HR
    isplitr; · iexact Hone
    isplitl [HO]; · iexact HO
    isplitl [HT]; · iexact HT
    isplitl [Hp]; · iexact Hp
    isplitl [HpR]; · unfold posR; iexact HpR
    isplitl [HpS]; · iexact HpS
    isplitl [HatR']
    · unfold posR; isplitl [HatR']; · iexact HatR'
      iexact HrR'
    isplitl [HpS']; · iexact HpS'
    isplitl [Hr2]; · iexact Hr2
    isplitl [Hr1]; · iexact Hr1
    isplitl [Hh]; · iexact Hh
    subst e'; iexact Hx
  iintro ⟨HO, Hl, Hkept⟩
  iapply Hk
  isplitl [HO]; · iexact HO
  isplitl [Hl]; · iexact Hl
  isplitl [Hkept]; · iexact Hkept
  isplitl [Hcr]; · iexact Hcr
  iexact Hm2
end
end

end Cert.Pf
end
-- ==== Proof.Sweep.lean ====
/-
# 01_k — `Sweep`: the eight lanes together

Step `n` of the exchange is step `n / 8` of lane `n % 8`. `St c n` is a device before it: the lanes before `n % 8` are one
step further than the others.
-/
module

public import proofs.«01_k».proof.Proof.Step
public import Idealize.SL.BI.BigOpNat

@[expose] public section

set_option maxRecDepth 20000

noncomputable section

namespace Cert.Pf

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F] [Facts]
local notation "𝕄" => MT nD τ sig ℕ (Elt F) ℕ UU ℕ

variable (xs : Dev nD → S128x4096.Idx → Elt F .f32) (A : ℕ → Dev nD → Elt F .f32)
variable (K : GSem nD τ sig → ℕ) (ι : Key → ℕ)
variable (c : Dev nD) {α : Type} {Q : α → sProp (MT nD τ sig ℕ (Elt F) ℕ UU ℕ)}

/-! ## Where each lane is -/

/-- Lane `u`'s step before step `n` of the exchange. -/
def prog (n : ℕ) (u : Fin 8) : ℕ := min ((n + 7 - u.val) / 8) (last u + 1)
/-- The credits before it, in each direction. -/
def dB (l : Bool) (n : ℕ) : ℕ := bif l then 4 * (n / 8) + (n % 8 - 4) - 4 else 4 * (n / 8) + min (n % 8) 4 - 4

/-- Step `n` is a step of a lane that has one left. -/
def live (n : ℕ) : Bool := Nat.ble (n / 8) (last (laneN n))
/-- Step `n` passes a credit on. -/
def credits (n : ℕ) : Bool := Nat.ble 1 (n / 8) && Nat.blt (n / 8) (last (laneN n))

theorem div_add_lane (n : ℕ) : 8 * (n / 8) + (laneN n).val = n := by show 8 * (n / 8) + n % 8 = n; omega
theorem prog_at (n : ℕ) (h : live n = true) : prog n (laneN n) = n / 8 := by
  have := Nat.le_of_ble_eq_true h
  unfold prog
  have e : (n + 7 - (laneN n).val) / 8 = n / 8 := by show (n + 7 - n % 8) / 8 = n / 8; omega
  rw [e]; omega
theorem prog_after (n : ℕ) (h : live n = true) : prog (n + 1) (laneN n) = n / 8 + 1 := by
  have := Nat.le_of_ble_eq_true h
  unfold prog
  have e : (n + 1 + 7 - (laneN n).val) / 8 = n / 8 + 1 := by show (n + 1 + 7 - n % 8) / 8 = n / 8 + 1; omega
  rw [e]; omega
theorem prog_other (n : ℕ) (u : Fin 8) (h : u ≠ laneN n) : prog (n + 1) u = prog n u := by
  have hu : u.val ≠ n % 8 := fun e => h (Fin.ext e)
  have := u.isLt
  unfold prog
  have e : (n + 1 + 7 - u.val) / 8 = (n + 7 - u.val) / 8 := by omega
  rw [e]
theorem prog_dead (n : ℕ) (h : live n = false) (u : Fin 8) : prog (n + 1) u = prog n u := by
  by_cases e : u = laneN n
  · subst e
    have : ¬ n / 8 ≤ last (laneN n) := fun hc => by
      have := Nat.ble_eq_true_of_le hc
      unfold live at h; rw [this] at h; exact absurd h (by decide)
    unfold prog
    have e1 : (n + 1 + 7 - (laneN n).val) / 8 = n / 8 + 1 := by show (n + 1 + 7 - n % 8) / 8 = n / 8 + 1; omega
    have e2 : (n + 7 - (laneN n).val) / 8 = n / 8 := by show (n + 7 - n % 8) / 8 = n / 8; omega
    rw [e1, e2]; omega
  · exact prog_other n u e

theorem dB_mid : ∀ n : Fin 128, credits n.val = true →
    dB (goesL (laneN n.val)) n.val = 4 * (n.val / 8 - 1) + (laneN n.val).val % 4 ∧ dB (goesL (laneN n.val)) (n.val + 1) = dB (goesL (laneN n.val)) n.val + 1 := by
  decide +kernel
theorem dB_same : ∀ (n : Fin 128) (l : Bool), (credits n.val && (goesL (laneN n.val) == l)) = false →
    ∀ d ∈ crD l, (d < dB l (n.val + 1) ↔ d < dB l n.val) := by
  decide +kernel

/-- A direction's credits. -/
def crs (l : Bool) (B : ℕ) : sProp 𝕄 := iprop(crSt c l B ∗ mines c l B)
theorem crs_same (l : Bool) {B B' : ℕ} (h : ∀ d ∈ crD l, (d < B' ↔ d < B)) : crs (F := F) c l B' = crs c l B := by
  have e : (crD l).filter (· < B') = (crD l).filter (· < B) := Finset.filter_congr h
  unfold crs crSt mines crK; rw [e]

def St (n : ℕ) : sProp 𝕄 :=
  iprop(ow c (10 + 2 * n) ∗ (bigSep (Finset.Ico n 128) fun k => stepRes c (laneN k) (k / 8))
    ∗ (bigSep Finset.univ fun u => lane xs c u (prog n u)) ∗ (bigSep Finset.univ fun u => kept xs c u (prog n u))
    ∗ bigSep Finset.univ fun l => crs c l (dB l n))

/-- Taking a lane's step out of the device's state, and putting it back. -/
theorem St_take (n : ℕ) (hn : n < 128) (hl : live n = true) :
    St xs c n ⊢ iprop(ow c (10 + 2 * n) ∗ stepRes c (laneN n) (n / 8) ∗ lane xs c (laneN n) (n / 8) ∗ kept xs c (laneN n) (n / 8)
      ∗ crs c (goesL (laneN n)) (dB (goesL (laneN n)) n)
      ∗ ((ow c (10 + 2 * n + 2) ∗ lane xs c (laneN n) (n / 8 + 1) ∗ kept xs c (laneN n) (n / 8 + 1)
          ∗ crs c (goesL (laneN n)) (dB (goesL (laneN n)) (n + 1))) -∗ St xs c (n + 1))) := by
  unfold St
  rw [bigSep_Ico_succ_bot hn]
  iintro ⟨HO, ⟨Hr, Hrest⟩, Hl, Hk, Hc⟩
  ihave Hl := (bigSep_univ_update (Φ := fun u => lane xs c u (prog n u)) (Ψ := fun u => lane xs c u (prog (n + 1) u)) (laneN n)
    (fun u hu => by rw [prog_other n u hu])) $$ Hl
  ihave Hk := (bigSep_univ_update (Φ := fun u => kept xs c u (prog n u)) (Ψ := fun u => kept xs c u (prog (n + 1) u)) (laneN n)
    (fun u hu => by rw [prog_other n u hu])) $$ Hk
  ihave Hc := (bigSep_univ_update (Φ := fun l => crs (F := F) c l (dB l n)) (Ψ := fun l => crs c l (dB l (n + 1))) (goesL (laneN n))
    (fun l hl => crs_same c l (dB_same ⟨n, hn⟩ l (by rw [beq_false_of_ne (Ne.symm hl), Bool.and_false])))) $$ Hc
  rw [prog_at n hl, prog_after n hl]
  icases Hl with ⟨Hl, Hl'⟩
  icases Hk with ⟨Hk, Hk'⟩
  icases Hc with ⟨Hc, Hc'⟩
  isplitl [HO]; · iexact HO
  isplitl [Hr]; · iexact Hr
  isplitl [Hl]; · iexact Hl
  isplitl [Hk]; · iexact Hk
  isplitl [Hc]; · iexact Hc
  iintro ⟨HO, Hl, Hk, Hc⟩
  isplitl [HO]; · iexact HO
  isplitl [Hrest]; · iexact Hrest
  isplitl [Hl Hl']; · iapply Hl' $$ Hl
  isplitl [Hk Hk']; · iapply Hk' $$ Hk
  iapply Hc' $$ Hc

/-- A step of a lane that has none left. -/
theorem St_skip (n : ℕ) (hn : n < 128) (hl : live n = false) : St xs c n ⊢ St xs c (n + 1) := by
  have hc : credits n = false := by
    have : ∀ n : Fin 128, live n.val = false → credits n.val = false := by decide +kernel
    exact this ⟨n, hn⟩ hl
  have hgt : ¬ n / 8 ≤ last (laneN n) := fun hc => by
    have := Nat.ble_eq_true_of_le hc
    unfold live at hl; rw [this] at hl; exact absurd hl (by decide)
  have e : bigSep Finset.univ (fun l => crs (F := F) c l (dB l (n + 1))) = bigSep Finset.univ fun l => crs c l (dB l n) :=
    bigSep_congr fun l _ => crs_same c l (dB_same ⟨n, hn⟩ l (by rw [hc, Bool.false_and]))
  unfold St
  rw [e, bigSep_Ico_succ_bot hn]
  simp only [prog_dead n hl]
  iintro ⟨HO, ⟨-, Hrest⟩, Hl, Hk, Hc⟩
  isplitl [HO]
  · have d1 := due_cr c (laneN n) (n / 8) (by omega)
    have d2 := due_send c (laneN n) (n / 8) (by omega)
    rw [div_add_lane] at d1 d2
    iapply (ow_skip c (t := 10 + 2 * n + 1) (by omega) (by rw [d2]; unfold dueSend; rw [if_neg (by omega)]))
    iapply (ow_skip c (t := 10 + 2 * n) (by omega) (by rw [d1]; unfold dueCr; rw [if_neg (by omega)])) $$ HO
  isplitl [Hrest]; · iexact Hrest
  isplitl [Hl]; · iexact Hl
  isplitl [Hk] <;> iassumption

/-! ## The steps, as the body takes them -/

variable (R : sProp (MT nD τ sig ℕ (Elt F) ℕ UU ℕ))

/-- What everybody knows and what the barrier told. -/
def Ctx : sProp 𝕄 := iprop(Recs xs A K ι ∗ barKnow c)
instance Ctx_persistent : BI.Persistent (Ctx xs A K ι c) := by unfold Ctx; infer_instance

variable {sp sp' : Space} {s s' : Shape} {e e' : EltTy}
section
variable (n : ℕ)
  {semR semS : DmaSem sig} (hR : semR = recvS (laneN n) (par (n / 8))) (hS : semS = sendS (laneN n) (par (n / 8)))
  {src₁ : Memref sig .tc sp s e} {dst₁ : Memref sig .tc .vmem S32x4096 .f32} {a₁ : src₁.view.WordExact} {b₁ : dst₁.view.WordExact}
  (hN₁ : dst₁.view.dmaCredit = NB)
  {src₂ : Memref sig .tc sp' s' e'} {dst₂ : Memref sig .tc .vmem S32x4096 .f32} {a₂ : src₂.view.WordExact} {b₂ : dst₂.view.WordExact}
  (hN₂ : dst₂.view.dmaCredit = NB)

theorem go_last (hn : n < 128) (hh : n / 8 = last (laneN n)) (hR : semR = recvS (laneN n) (par (n / 8))) (hS : semS = sendS (laneN n) (par (n / 8)))
    (hN₁ : dst₁.view.dmaCredit = NB) (hN₂ : dst₂.view.dmaCredit = NB) {k : PUnit → PG F α}
    (hk : iprop(Ctx xs A K ι c ∗ St xs c (n + 1) ∗ R) ⊢ WP c (k ⟨⟩) Q) :
    iprop(Ctx xs A K ι c ∗ St xs c n ∗ R)
      ⊢ WP c (Prog.op (.waitDma2 semR src₁ dst₁ a₁ b₁) fun _ => Prog.op (.waitDma2 semS src₂ dst₂ a₂ b₂) k) Q := by
  have hle := le_last (laneN n)
  have hl : live n = true := Nat.ble_eq_true_of_le (le_of_eq hh)
  have hc : credits n = false := by
    unfold credits; rw [show Nat.blt (n / 8) (last (laneN n)) = false from by rw [hh]; exact Bool.eq_false_iff.mpr fun h => absurd (Nat.le_of_ble_eq_true h) (by omega), Bool.and_false]
  have hs := step_last (Q := Q) xs A K ι c (laneN n) (n / 8) hR hS hN₁ hN₂ (a₁ := a₁) (b₁ := b₁) (a₂ := a₂) (b₂ := b₂) (n / 8 - 1) (by omega) hh (k := k)
  rw [div_add_lane] at hs
  iintro ⟨#HC, HSt, HR⟩
  ihave HSt := (St_take xs c n hn hl) $$ HSt
  rw [crs_same c (goesL (laneN n)) (dB_same ⟨n, hn⟩ _ (by rw [hc, Bool.false_and]))]
  icases HSt with ⟨HO, Hr, Hl, Hk, Hc, Hback⟩
  unfold Ctx
  icases HC with ⟨HRec, HBar⟩
  iapply hs $$ [HO Hr Hl Hk]
  · isplitr; · iexact HRec
    isplitl [HO]; · iexact HO
    isplitl [Hr]; · iexact Hr
    isplitl [Hl] <;> iassumption
  iintro ⟨HO, Hl, Hk⟩
  iapply hk
  unfold Ctx
  isplitr
  · isplitr; · iexact HRec
    iexact HBar
  isplitr [HR]
  · iapply Hback
    isplitl [HO]; · iexact HO
    isplitl [Hl]; · iexact Hl
    isplitl [Hk]; · iexact Hk
    iexact Hc
  · iexact HR

section
variable {nD' : Dev nD} {sS sR : DmaSem sig} {src : Memref sig .tc .vmem S32x4096 .f32}
    {dst : Memref sig (Dev.tc nD' : Thread nD τ).2.kind .vmem S32x4096 .f32}
    {hsc : dst.view.ref.isScScratch = false} {h1 : src.view.WordExact} {h2 : dst.view.WordExact}
    {hsem : DmaTarget.Typed .vmem (.dma sR) (.remote (Dev.tc nD' : Thread nD τ) dst (.dma sS) hsc)}

theorem go_first (hn : n < 8) (hR : semR = recvS (laneN n) (par (n / 8))) (hS : semS = sendS (laneN n) (par (n / 8)))
    (hN₁ : dst₁.view.dmaCredit = NB) (hN₂ : dst₂.view.dmaCredit = NB)
    (hd : nD'.val = (dn (laneN n) c).val) (hsS : sS = sendS (laneN n) (par (n / 8 + 1))) (hsR : sR = recvS (laneN n) (par (n / 8 + 1)))
    (hsrc : src = piece (laneN n) (par (n / 8))) (hdst : dst = piece (laneN n) (par (n / 8 + 1))) {k : PUnit → PG F α}
    (hk : iprop(Ctx xs A K ι c ∗ St xs c (n + 1) ∗ R) ⊢ WP c (k ⟨⟩) Q) :
    iprop(Ctx xs A K ι c ∗ St xs c n ∗ R)
      ⊢ WP c (Prog.op (.waitDma2 semR src₁ dst₁ a₁ b₁) fun _ => Prog.op (.waitDma2 semS src₂ dst₂ a₂ b₂) fun _ =>
              Prog.op (.enqueueDma src (.remote (Dev.tc nD' : Thread nD τ) dst (.dma sS) hsc) (.dma sR) h1 h2 hsem) k) Q := by
  have hle := le_last (laneN n)
  have h0 : n / 8 = 0 := by omega
  have hl : live n = true := Nat.ble_eq_true_of_le (by omega)
  have hc : credits n = false := by unfold credits; rw [h0]; rfl
  have hs := step_first (Q := Q) xs A K ι c (laneN n) (n / 8) hR hS hN₁ hN₂ (a₁ := a₁) (b₁ := b₁) (a₂ := a₂) (b₂ := b₂) (Fin.ext hd) hsS hsR hsrc hdst
    (hsc := hsc) (h1 := h1) (h2 := h2) (hsem := hsem) h0 (k := k)
  rw [div_add_lane] at hs
  iintro ⟨#HC, HSt, HR⟩
  ihave HSt := (St_take xs c n (by omega) hl) $$ HSt
  rw [crs_same c (goesL (laneN n)) (dB_same ⟨n, by omega⟩ _ (by rw [hc, Bool.false_and]))]
  icases HSt with ⟨HO, Hr, Hl, Hk, Hc, Hback⟩
  unfold Ctx
  icases HC with ⟨HRec, HBar⟩
  iapply hs $$ [HO Hr Hl Hk]
  · isplitr; · iexact HRec
    isplitr; · iexact HBar
    isplitl [HO]; · iexact HO
    isplitl [Hr]; · iexact Hr
    isplitl [Hl] <;> iassumption
  iintro ⟨HO, Hl, Hk⟩
  iapply hk
  unfold Ctx
  isplitr
  · isplitr; · iexact HRec
    iexact HBar
  isplitr [HR]
  · iapply Hback
    isplitl [HO]; · iexact HO
    isplitl [Hl]; · iexact Hl
    isplitl [Hk]; · iexact Hk
    iexact Hc
  · iexact HR

theorem go_mid (hn : n < 128) (hc : credits n = true) (hR : semR = recvS (laneN n) (par (n / 8))) (hS : semS = sendS (laneN n) (par (n / 8)))
    (hN₁ : dst₁.view.dmaCredit = NB) (hN₂ : dst₂.view.dmaCredit = NB)
    {nU : Dev nD} (hU : nU.val = (up (laneN n) c).val) {semC semC' : Sem sig} (hC : semC = crS (goesL (laneN n))) (hC' : semC' = crS (goesL (laneN n)))
    (hd : nD'.val = (dn (laneN n) c).val) (hsS : sS = sendS (laneN n) (par (n / 8 + 1))) (hsR : sR = recvS (laneN n) (par (n / 8 + 1)))
    (hsrc : src = piece (laneN n) (par (n / 8))) (hdst : dst = piece (laneN n) (par (n / 8 + 1))) {k : PUnit → PG F α}
    (hk : iprop(Ctx xs A K ι c ∗ St xs c (n + 1) ∗ R) ⊢ WP c (k ⟨⟩) Q) :
    iprop(Ctx xs A K ι c ∗ St xs c n ∗ R)
      ⊢ WP c (Prog.op (.waitDma2 semR src₁ dst₁ a₁ b₁) fun _ => Prog.op (.waitDma2 semS src₂ dst₂ a₂ b₂) fun _ =>
              Prog.op (.semSignal (Dev.tc nU : Thread nD τ) semC 1) fun _ => Prog.op (.semWait semC' 1) fun _ =>
              Prog.op (.enqueueDma src (.remote (Dev.tc nD' : Thread nD τ) dst (.dma sS) hsc) (.dma sR) h1 h2 hsem) k) Q := by
  have hcr : 1 ≤ n / 8 ∧ n / 8 < last (laneN n) := by
    unfold credits at hc
    rw [Bool.and_eq_true] at hc
    exact ⟨Nat.le_of_ble_eq_true hc.1, Nat.le_of_ble_eq_true hc.2⟩
  have hl : live n = true := Nat.ble_eq_true_of_le (by omega)
  obtain ⟨eB, eB'⟩ := dB_mid ⟨n, hn⟩ hc
  have hs := step_mid (Q := Q) xs A K ι c (laneN n) (n / 8) hR hS hN₁ hN₂ (a₁ := a₁) (b₁ := b₁) (a₂ := a₂) (b₂ := b₂) (Fin.ext hd) hsS hsR hsrc hdst
    (hsc := hsc) (h1 := h1) (h2 := h2) (hsem := hsem) (n / 8 - 1) (by omega) hcr.2 (dB (goesL (laneN n)) n) eB (Fin.ext hU) hC hC' (k := k)
  rw [div_add_lane] at hs
  iintro ⟨#HC, HSt, HR⟩
  ihave HSt := (St_take xs c n hn hl) $$ HSt
  have eB'' : dB (goesL (laneN n)) (n + 1) = dB (goesL (laneN n)) n + 1 := eB'
  rw [eB'']
  unfold crs
  icases HSt with ⟨HO, Hr, Hl, Hk, ⟨Hc1, Hc2⟩, Hback⟩
  unfold Ctx
  icases HC with ⟨HRec, HBar⟩
  iapply hs $$ [HO Hr Hl Hk Hc1 Hc2]
  · isplitr; · iexact HRec
    isplitl [HO]; · iexact HO
    isplitl [Hr]; · iexact Hr
    isplitl [Hl]; · iexact Hl
    isplitl [Hk]; · iexact Hk
    isplitl [Hc1] <;> iassumption
  iintro ⟨HO, Hl, Hk, Hc⟩
  iapply hk
  unfold Ctx
  isplitr
  · isplitr; · iexact HRec
    iexact HBar
  isplitr [HR]
  · iapply Hback
    isplitl [HO]; · iexact HO
    isplitl [Hl]; · iexact Hl
    isplitl [Hk]; · iexact Hk
    iexact Hc
  · iexact HR
end
end

end Cert.Pf
end
-- ==== Proof.Gemm.lean ====
/-
# 01_k — `Gemm`: the products

A direction's landing slot is the four pieces of its lanes; the products load it whole. `Outs c m` is the output block of device `c`
after the first `m` blocks of rows, `blk c j` being the device whose rows the `j`-th block is.
-/
module

public import proofs.«01_k».proof.Proof.Sweep
public import Idealize.ShloMosaic.Lib.Pipeline.Value
public import Idealize.ShloMosaic.Lib.Pipeline.ValueKit
public import Idealize.ShloMosaic.Lib.ValueIdxCore

@[expose] public section

set_option maxRecDepth 20000

noncomputable section

namespace Cert.Pf

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F] [Facts]
local notation "𝕄" => MT nD τ sig ℕ (Elt F) ℕ UU ℕ

variable (xs : Dev nD → S128x4096.Idx → Elt F .f32) (A : ℕ → Dev nD → Elt F .f32)
variable (K : GSem nD τ sig → ℕ) (ι : Key → ℕ)
variable (c : Dev nD) {α : Type} {Q : α → sProp (MT nD τ sig ℕ (Elt F) ℕ UU ℕ)}

/-! ## Memrefs as points-to assertions -/

/-- A memref owned at what it reads of `g` is the points-to of its elements at `g`. -/
theorem owns_read_eq (d : Thread nD τ) {sp : Space} {s : Shape} {e : EltTy} (m : Memref sig d.2.kind sp s e) (q : PosShare TreeShare)
    (g : m.view.ty.Contents (Elt F)) :
    (owns d m q (m.view.read (Elt F) g) : sProp 𝕄) = (m.view.loc d ↦[m.view.set]{q} g) := by
  have h₁ : (owns d m q (m.view.read (Elt F) g) : sProp 𝕄) ⊢ (m.view.loc d ↦[m.view.set]{q} g : sProp 𝕄) := by
   unfold owns
   iintro ⟨%f, %hf, H⟩
   have e : (m.view.loc d ↦[m.view.set]{q} f : sProp 𝕄) = (m.view.loc d ↦[m.view.set]{q} g) :=
     pointsTo_congr fun i hi => by
       unfold View.set at hi
       rw [Finset.mem_map] at hi
       obtain ⟨x, -, rfl⟩ := hi
       have := congrFun hf x
       simp only [View.read] at this
       exact (cast_inj _).mp this
   rw [← e]
   iexact H
  exact BI.equiv_iff.mp ⟨h₁, owns_intro d m q g⟩

/-- A load through a memref that owns exactly what it reads. -/
theorem wp_load_owns {cs : CoreSpace} {s : Shape} {e : EltTy} {m : Memref sig (c : Thread nD τ).2.kind cs s e} {r : Rect s} {hl : m.view.LoadsAt r}
    {k : (r.shape.Idx → Elt F e) → PG F α} {q : PosShare TreeShare} {V : r.shape.Idx → Elt F e} (hr : ∀ a, r.stride a = 1) :
    (owns (c : Thread nD τ) (m.slice r hr) q V : sProp 𝕄)
      ⊢ iprop((owns (c : Thread nD τ) (m.slice r hr) q V -∗ WP c (k V) Q) -∗ WP c (Prog.op (.load m r hl) k) Q) := by
  have hw := fun f : Buf (Elt F) ((m.access r).loc (c : Thread nD τ)) =>
    wp_load_rect (defs := defs₀ (F := F)) 𝒱₀ (c : Thread nD τ) none (Γ := .empty) Set.univ (Q := Q) (m := m) (r := r) (hl := hl) (k := k) (S := (m.access r).set) (q := q) (f := f) subset_rfl
  unfold owns
  iintro ⟨%f, %hf, H⟩ Hk
  have hw' := hw f
  rw [show (m.access r).read (Elt F) f = V from hf] at hw'
  iapply hw' $$ H
  iintro H
  iapply Hk
  iexists f
  isplitr
  · ipureintro; exact hf
  iexact H

/-! ## The landing slots -/

def pieceR (u : Fin 8) (p : Fin 2) : Rect S2x128x4096 := Rect.unit (s := S2x128x4096) ![p.val, 32 * (u.val % 4), 0] S1x32x4096.size (piece_inb u p)
/-- The lane of sub-block `j` in a direction. -/
def ln (l : Bool) (j : Fin 4) : Fin 8 := ⟨4 * (bif l then 1 else 0) + j.val, by cases l <;> (simp only [cond]; omega)⟩
theorem ln_inj (l : Bool) : Function.Injective (ln l) := by revert l; decide
theorem goesL_ln (l : Bool) (j : Fin 4) : goesL (ln l j) = l := by revert l j; decide
theorem ln_mod (l : Bool) (j : Fin 4) : (ln l j).val % 4 = j.val := by revert l j; decide

/-- A landing buffer both slots of which hold a device's rows. -/
def both (x : S128x4096.Idx → Elt F .f32) : S2x128x4096.Idx → Elt F .f32 := fun i => x (ValueIdx.ix2 (i 1) (i 2))
def bufC (l : Bool) (x : S128x4096.Idx → Elt F .f32) : (bufM l).view.ty.Contents (Elt F) :=
  match l with
  | false => both x
  | true => both x
theorem read_bufC (l : Bool) (x : S128x4096.Idx → Elt F .f32) : (bufM l).view.read (Elt F) (bufC l x) = both x := by cases l <;> rfl

theorem X_read (u : Fin 8) (p : Fin 2) (o : Dev nD) :
    X xs u o = (piece u p).view.read (Elt F) (bufC (goesL u) (xs o)) := by
  have hc : S1x32x4096.ShapeCasts S32x4096 := by decide
  have e : (piece u p).view.read (Elt F) (bufC (goesL u) (xs o))
      = shapeCast S32x4096 (fun j => (bufM (goesL u)).view.read (Elt F) (bufC (goesL u) (xs o)) ((pieceR u p).emb j)) hc := rfl
  rw [e, read_bufC]
  funext j
  refine Eq.trans ?_ (shapeCast_dropUnit_apply ![32, 4096] _ _ j).symm
  show xs o _ = xs o _
  congr 1
  funext a
  refine Fin.ext ?_
  fin_cases a <;> rfl

theorem set_piece (u : Fin 8) (p : Fin 2) : (piece u p).view.set = ((bufM (goesL u)).view.slice (pieceR u p)).set := View.set_reshape _ _

theorem piece_pts (l : Bool) (j : Fin 4) (p : Fin 2) (q : PosShare TreeShare) (o : Dev nD) :
    (owns (c : Thread nD τ) (piece (ln l j) p) q (X xs (ln l j) o) : sProp 𝕄)
      = ((bufM l).view.loc (c : Thread nD τ) ↦[((bufM l).view.slice (pieceR (ln l j) p)).set]{q} bufC l (xs o)) := by
  have e : goesL (ln l j) = l := goesL_ln l j
  refine (congrArg (owns (c : Thread nD τ) (piece (ln l j) p) q) (X_read xs (ln l j) p o)).trans
    ((owns_read_eq (c : Thread nD τ) (piece (ln l j) p) q (bufC (goesL (ln l j)) (xs o))).trans ?_)
  rw [set_piece]
  show ((bufM (goesL (ln l j))).view.loc (c : Thread nD τ) ↦[((bufM (goesL (ln l j))).view.slice (pieceR (ln l j) p)).set]{q} bufC (goesL (ln l j)) (xs o) : sProp 𝕄) = _
  rw [e]

theorem pieceR_disjoint (l : Bool) (p : Fin 2) (j j' : Fin 4) (h : j ≠ j') : Disjoint (pieceR (ln l j) p).set (pieceR (ln l j') p).set := by
  unfold pieceR
  refine Rect.unit_disjoint 1 ?_
  have h' : j.val ≠ j'.val := fun e => h (Fin.ext e)
  show 32 * ((ln l j).val % 4) + 32 ≤ 32 * ((ln l j').val % 4) ∨ 32 * ((ln l j').val % 4) + 32 ≤ 32 * ((ln l j).val % 4)
  rw [ln_mod, ln_mod]; omega

/-- The pieces of some sub-blocks of a direction, all with rows of one device, are the rectangle they make up. -/
theorem slot_eq (l : Bool) (p : Fin 2) (S : Finset (Fin 4)) (q : PosShare TreeShare) (o : Dev nD) (r : Rect S2x128x4096) (hr : ∀ a, r.stride a = 1)
    (hset : r.set = S.biUnion fun j => (pieceR (ln l j) p).set) :
    (bigSep S (fun j => owns (c : Thread nD τ) (piece (ln l j) p) q (X xs (ln l j) o)) : sProp 𝕄)
      = owns (c : Thread nD τ) ((bufM l).slice r hr) q (fun i => both (xs o) (r.emb i)) := by
  have e : (fun i => both (xs o) (r.emb i)) = fun i => (bufM l).view.read (Elt F) (bufC l (xs o)) (r.emb i) := by rw [read_bufC]
  rw [e, owns_slice_read (c : Thread nD τ) (bufM l) q r hr (bufC l (xs o)), bigSep_congr fun j _ => piece_pts xs c l j p q o]
  have hs : ((bufM l).view.slice r).set = S.biUnion fun j => ((bufM l).view.slice (pieceR (ln l j) p)).set := by
    rw [View.set_slice, hset]
    ext i
    simp only [View.set_slice, Finset.mem_map, Finset.mem_biUnion]
    exact ⟨fun ⟨x, ⟨j, hj, hx⟩, e⟩ => ⟨j, hj, x, hx, e⟩, fun ⟨j, hj, x, hx, e⟩ => ⟨x, ⟨j, hj, hx⟩, e⟩⟩
  rw [hs]
  refine (pointsTo_biUnion S _ fun j _ j' _ hj => ?_).symm
  rw [View.set_slice, View.set_slice]
  exact (Finset.disjoint_map _).mpr (pieceR_disjoint l p j j' hj)

theorem orig_ln (l : Bool) (j : Fin 4) (h : ℕ) : ∀ c : Dev nD, orig (ln l j) h c = orig (ln l 0) h c := by
  have hu : ∀ c : Dev nD, up (ln l j) c = up (ln l 0) c := fun c => by unfold up upK; rw [goesL_ln, goesL_ln]
  induction h with
  | zero => exact hu
  | succ h ih => intro c; show orig _ h (up _ c) = orig _ h (up _ c); rw [hu, ih]

/-- Some lanes of a direction out of all, and back. -/
theorem lanes_split (l : Bool) (S : Finset (Fin 4)) (Φ : Fin 8 → sProp 𝕄) :
    (bigSep Finset.univ Φ : sProp 𝕄) ⊢ iprop(bigSep S (fun j => Φ (ln l j)) ∗ (bigSep S (fun j => Φ (ln l j)) -∗ bigSep Finset.univ Φ)) := by
  have e : (bigSep (S.map ⟨ln l, ln_inj l⟩) Φ : sProp 𝕄) = bigSep S (fun j => Φ (ln l j)) := bigSep_map ⟨ln l, ln_inj l⟩
  have hs : (bigSep Finset.univ Φ : sProp 𝕄)
      = iprop(bigSep S (fun j => Φ (ln l j)) ∗ bigSep (Finset.univ \ S.map ⟨ln l, ln_inj l⟩) Φ) := by
    rw [← e]; exact bigSep_sdiff_split (Φ := Φ) (Finset.subset_univ (S.map ⟨ln l, ln_inj l⟩))
  iintro H
  ihave H := (Entails.of_eq hs) $$ H
  icases H with ⟨H, H'⟩
  isplitl [H]; · iexact H
  iintro H
  iapply (Entails.of_eq hs.symm)
  isplitl [H] <;> iassumption

variable (R : sProp (MT nD τ sig ℕ (Elt F) ℕ UU ℕ))

/-- The products' load of a direction's newest rows. -/
theorem go_load (n h : ℕ) (l : Bool) (S : Finset (Fin 4)) {m : Memref sig .tc .vmem S2x128x4096 .f32} (hm : m = bufM l)
    {r : Rect S2x128x4096} (hr : ∀ a, r.stride a = 1) (hset : r.set = S.biUnion fun j => (pieceR (ln l j) (par h)).set)
    (hp : ∀ j ∈ S, prog n (ln l j) = h + 1)
    {hl : m.view.LoadsAt r} {k : (r.shape.Idx → Elt F .f32) → PG F α}
    (hk : iprop(Ctx xs A K ι c ∗ St xs c n ∗ R) ⊢ WP c (k fun i => both (xs (orig (ln l 0) h c)) (r.emb i)) Q) :
    iprop(Ctx xs A K ι c ∗ St xs c n ∗ R) ⊢ WP c (Prog.op (.load m r hl) k) Q := by
  subst hm
  have e : (bigSep S (fun j => kept xs c (ln l j) (prog n (ln l j))) : sProp 𝕄)
      = owns (c : Thread nD τ) ((bufM l).slice r hr) hL (fun i => both (xs (orig (ln l 0) h c)) (r.emb i)) := by
    rw [← slot_eq xs c l (par h) S hL (orig (ln l 0) h c) r hr hset]
    refine bigSep_congr fun j hj => ?_
    rw [hp j hj]
    show owns (c : Thread nD τ) (piece (ln l j) (par h)) hL (X xs (ln l j) (orig (ln l j) h c)) = _
    rw [orig_ln]
  unfold St at hk ⊢
  iintro ⟨HC, ⟨HO, Hr, Hl, Hkp, Hc⟩, HR⟩
  ihave Hkp := (lanes_split l S fun u => kept xs c u (prog n u)) $$ Hkp
  icases Hkp with ⟨Hkp, Hback⟩
  ihave Hkp := (Entails.of_eq e) $$ Hkp
  iapply (wp_load_owns c (m := bufM l) (r := r) (hl := hl) (k := k) hr) $$ Hkp
  iintro Hkp
  ihave Hkp := (Entails.of_eq e.symm) $$ Hkp
  ihave Hkp := Hback $$ Hkp
  iapply hk
  isplitl [HC]; · iexact HC
  isplitr [HR]
  · isplitl [HO]; · iexact HO
    isplitl [Hr]; · iexact Hr
    isplitl [Hl]; · iexact Hl
    isplitl [Hkp] <;> iassumption
  · iexact HR

/-! ## The output block -/

abbrev oLoc : Loc nD τ sig := oM.view.loc (c : Thread nD τ)

/-- The output block, its rows in `D` as in `Y`. -/
def Outs (Y : S4096x64.Idx → Elt F .f32) (D : ℕ → Prop) : sProp 𝕄 :=
  iprop(∃ f : S4096x64.Idx → Elt F .f32, ⌜∀ i : S4096x64.Idx, D (i 0).val → f i = Y i⌝ ∗ (oLoc c ↦{fullShare} f))

/-- A block of rows stored, the load before it unused. -/
theorem go_out (n : ℕ) (Y : S4096x64.Idx → Elt F .f32) (D D' : ℕ → Prop) {r r' : Rect S4096x64} {hl : oM.view.LoadsAt r'}
    {w : r.shape.Idx → Elt F .f32} {hx : (oM.access r).Stores Finset.univ} {hm : Finset.univ = Finset.univ ∨ ∀ a, r.stride a = 1}
    (hv : ∀ j, w j = Y (r.emb j)) (hD : ∀ i : S4096x64.Idx, D' (i 0).val → D (i 0).val ∨ i ∈ r.set)
    {k : PUnit → PG F α} {P : sProp (MT nD τ sig ℕ (Elt F) ℕ UU ℕ)}
    (hk : iprop(P ∗ Outs c Y D' ∗ R) ⊢ WP c (k ⟨⟩) Q) :
    iprop(P ∗ Outs c Y D ∗ R) ⊢ WP c (Prog.op (.load oM r' hl) fun _ => Prog.op (.store oM r w Finset.univ hx hm) k) Q := by
  unfold Outs at hk ⊢
  iintro ⟨HP, ⟨%f, %hf, H⟩, HR⟩
  iapply (wp_load_rect (defs := defs₀ (F := F)) 𝒱₀ (c : Thread nD τ) none (Γ := .empty) Set.univ (Q := Q) (m := oM) (r := r') (hl := hl)
    (S := Finset.univ) (q := fullShare) (f := f) (Finset.subset_univ _)) $$ H
  iintro H
  iapply (wp_store (defs := defs₀ (F := F)) 𝒱₀ (c : Thread nD τ) none (Γ := .empty) Set.univ (Q := Q) (m := oM) (r := r) (w := w) (Mk := Finset.univ) (hx := hx) (hm := hm)
    (k := k) (S := Finset.univ) (f := f) (Finset.subset_univ _)) $$ H
  iintro H
  iapply hk
  isplitl [HP]; · iexact HP
  isplitr [HR]
  · iexists _
    isplitr
    swap
    · iexact H
    · ipureintro
      intro i hi
      by_cases hr : i ∈ r.set
      · obtain ⟨j, rfl⟩ := r.exists_idx_of_mem hr
        refine Eq.trans ?_ (hv j)
        exact congrFun (View.read_write_univ (f := f) (v := oM.access r) w) j
      · refine Eq.trans ?_ (hf i ((hD i hi).resolve_right hr))
        exact View.write_of_not_mem _ _ _ fun hc => hr (by rwa [View.setOn_univ, View.set_slice_whole] at hc)
  · iexact HR

/-! ## The values -/

/-- A device's rows, and the upper or lower half of them, as the products load them. -/
def one3 (x : S128x4096.Idx → Elt F .f32) : S1x128x4096.Idx → Elt F .f32 := fun i => x (ValueIdx.ix2 (i 1) (i 2))
def half3 (b : Bool) (x : S128x4096.Idx → Elt F .f32) : S1x64x4096.Idx → Elt F .f32 :=
  fun i => x (ValueIdx.ix2 ⟨(bif b then 64 else 0) + (i 1).val, by have h : (i 1).val < 64 := (i 1).isLt; cases b <;> (simp only [cond]; omega)⟩ (i 2))

/-- The product of rows with the weights, negative entries replaced by zero. -/
def mm (x : FVec F S128x4096 .f32) (w : FVec F S4096x64 .f32) : FVec F S128x64 .f32 :=
  maximumf (matmul dot_S128x4096_S4096x64_S128x64_1_0_0_1_n_n none x w (constant S128x64 .f32 0x00000000#32)) (broadcast S128x64 (Scalar.ofBits .f32 0x00000000#32))
def mmH (x : FVec F S64x4096 .f32) (w : FVec F S4096x64 .f32) : FVec F S64x64 .f32 :=
  maximumf (matmul dot_S64x4096_S4096x64_S64x64_1_0_0_1_n_n none x w (constant S64x64 .f32 0x00000000#32)) (broadcast S64x64 (Scalar.ofBits .f32 0x00000000#32))
/-- The largest entry of a block. -/
def amx (y : FVec F S128x64 .f32) : F .f32 :=
  extractAt ![0, 0, 0] (shapeCast S1x1x1 (multiReduction .maximumf [1, 2] S1 (shapeCast S1x128x64 y Facts₀.shapeCasts_S128x64_S1x128x64) 0xFF800000#32
    Facts₀.reduces_S1x128x64_S1 (.inl rfl) rfl) Facts₀.shapeCasts_S1_S1x1x1) Facts₀.inpos_S1x1x1_p0_0_0
def amxH (y : FVec F S64x64 .f32) : F .f32 :=
  extractAt ![0, 0, 0] (shapeCast S1x1x1 (multiReduction .maximumf [1, 2] S1 (shapeCast S1x64x64 y Facts₀.shapeCasts_S64x64_S1x64x64) 0xFF800000#32
    Facts₀.reduces_S1x64x64_S1 (.inl rfl) rfl) Facts₀.shapeCasts_S1_S1x1x1) Facts₀.inpos_S1x1x1_p0_0_0

/-- The product of a device's rows, of its rows as loaded from a landing slot, and of a half of them. -/
def mm3 (V : S1x128x4096.Idx → Elt F .f32) (w : FVec F S4096x64 .f32) : FVec F S128x64 .f32 :=
  mm (shapeCast S128x4096 V Facts₀.shapeCasts_S1x128x4096_S128x4096) w
def mmH3 (V : S1x64x4096.Idx → Elt F .f32) (w : FVec F S4096x64 .f32) : FVec F S64x64 .f32 :=
  mmH (shapeCast S64x4096 V Facts₀.shapeCasts_S1x64x4096_S64x4096) w

theorem mm3_one3 (x : S128x4096.Idx → Elt F .f32) (w : FVec F S4096x64 .f32) : mm3 (one3 x) w = mm x w := by
  unfold mm3
  congr 1
  funext j
  refine (shapeCast_dropUnit_apply ![128, 4096] _ _ j).trans ?_
  show x _ = x _
  congr 1
  funext a
  refine Fin.ext ?_
  fin_cases a <;> rfl

/-- The device whose rows make the `j`-th block of the output. -/
def blk (c : Dev nD) (j : ℕ) : Dev nD := if j = 0 then c else if j % 2 = 1 then orig 0 ((j - 1) / 2) c else orig 4 ((j - 1) / 2) c
/-- The device opposite on the ring, whose rows come by halves. -/
def opp (c : Dev nD) : Dev nD := orig 0 15 c

theorem opp_left : ∀ c : Dev nD, orig 4 15 c = opp c := by decide +kernel
theorem blk_ne_opp : ∀ (c : Dev nD) (j : Fin 31), blk c j.val ≠ opp c := by decide +kernel
theorem blk_cover : ∀ c o : Dev nD, o = opp c ∨ ∃ j : Fin 31, o = blk c j.val := by decide +kernel

variable (W : FVec F S4096x64 .f32)

/-- The device's output block before the quantisation. -/
def Y : S4096x64.Idx → Elt F .f32 := fun i =>
  if (⟨(i 0).val / 128, by have h : (i 0).val < 4096 := (i 0).isLt; show _ < 32; omega⟩ : Dev nD) = opp c then
    if (i 0).val % 128 < 64 then mmH3 (half3 false (xs (opp c))) W (ValueIdx.ix2 ⟨(i 0).val % 128 % 64, by omega⟩ (i 1))
    else mmH3 (half3 true (xs (opp c))) W (ValueIdx.ix2 ⟨(i 0).val % 128 % 64, by omega⟩ (i 1))
  else mm (xs ⟨(i 0).val / 128, by have h : (i 0).val < 4096 := (i 0).isLt; show _ < 32; omega⟩) W (ValueIdx.ix2 ⟨(i 0).val % 128, by omega⟩ (i 1))

/-- The rows stored after `m` blocks, and after the halves. -/
def rowsD (m : ℕ) (r : ℕ) : Prop := ∃ j < m, r / 128 = (blk c j).val
def rowsH (b : Bool) (r : ℕ) : Prop := rowsD c 31 r ∨ (r / 128 = (opp c).val ∧ (r % 128 < 64 ∨ b = true))

theorem Y_block (j : ℕ) (hj : j < 31) (off : Fin 2 → ℕ) (inb) (hoff : off = ![128 * (blk c j).val, 0]) (a : (Rect.unit (s := S4096x64) off S128x64.size inb).shape.Idx) :
    mm (xs (blk c j)) W a = Y xs c W ((Rect.unit (s := S4096x64) off S128x64.size inb).emb a) := by
  subst hoff
  have ha : (a 0).val < 128 := (a 0).isLt
  have e0 : (((Rect.unit (s := S4096x64) ![128 * (blk c j).val, 0] S128x64.size inb).emb a) 0).val = 128 * (blk c j).val + (a 0).val :=
    ValueKit.rect_emb_unit_val _ _ _ a 0
  have e1 : (((Rect.unit (s := S4096x64) ![128 * (blk c j).val, 0] S128x64.size inb).emb a) 1).val = (a 1).val :=
    (ValueKit.rect_emb_unit_val _ _ _ a 1).trans (Nat.zero_add _)
  generalize (Rect.unit (s := S4096x64) ![128 * (blk c j).val, 0] S128x64.size inb).emb a = i at e0 e1
  have ed : (⟨(i 0).val / 128, by have h : (i 0).val < 4096 := (i 0).isLt; show _ < 32; omega⟩ : Dev nD) = blk c j := Fin.ext (by show (i 0).val / 128 = _; omega)
  unfold Y
  rw [ed, if_neg (blk_ne_opp c ⟨j, hj⟩)]
  congr 1
  rw [ValueIdx.eq_ix2 (n0 := 128) (n1 := 64) a]
  congr 1
  · exact Fin.ext (by show (a 0).val = (i 0).val % 128; omega)
  · exact Fin.ext e1.symm

theorem Y_half (b : Bool) (off : Fin 2 → ℕ) (inb) (hoff : off = ![128 * (opp c).val + (bif b then 64 else 0), 0]) (a : (Rect.unit (s := S4096x64) off S64x64.size inb).shape.Idx) :
    mmH3 (half3 b (xs (opp c))) W a = Y xs c W ((Rect.unit (s := S4096x64) off S64x64.size inb).emb a) := by
  subst hoff
  have ha : (a 0).val < 64 := (a 0).isLt
  have e0 : (((Rect.unit (s := S4096x64) ![128 * (opp c).val + (bif b then 64 else 0), 0] S64x64.size inb).emb a) 0).val = 128 * (opp c).val + (bif b then 64 else 0) + (a 0).val :=
    ValueKit.rect_emb_unit_val _ _ _ a 0
  have e1 : (((Rect.unit (s := S4096x64) ![128 * (opp c).val + (bif b then 64 else 0), 0] S64x64.size inb).emb a) 1).val = (a 1).val :=
    (ValueKit.rect_emb_unit_val _ _ _ a 1).trans (Nat.zero_add _)
  generalize (Rect.unit (s := S4096x64) ![128 * (opp c).val + (bif b then 64 else 0), 0] S64x64.size inb).emb a = i at e0 e1
  have hb : (bif b then 64 else 0) ≤ 64 := by cases b <;> decide
  have ed : (⟨(i 0).val / 128, by have h : (i 0).val < 4096 := (i 0).isLt; show _ < 32; omega⟩ : Dev nD) = opp c := Fin.ext (by show (i 0).val / 128 = _; omega)
  unfold Y
  rw [ed, if_pos rfl]
  have ei : a = ValueIdx.ix2 (⟨(i 0).val % 128 % 64, by omega⟩ : Fin 64) (i 1) := by
    rw [ValueIdx.eq_ix2 (n0 := 64) (n1 := 64) a]
    congr 1
    · exact Fin.ext (by show (a 0).val = (i 0).val % 128 % 64; cases b <;> (simp only [cond] at e0; omega))
    · exact Fin.ext e1.symm
  cases b
  · simp only [cond] at e0
    rw [if_pos (by omega)]
    exact congrArg _ ei
  · simp only [cond] at e0
    rw [if_neg (by omega)]
    exact congrArg _ ei

/-! ## The products, as the body takes them -/

theorem slot_set (l : Bool) (h : ℕ) (inb) : (Rect.unit (s := S2x128x4096) ![(par h).val, 0, 0] S1x128x4096.size inb).set
    = (Finset.univ : Finset (Fin 4)).biUnion fun j => (pieceR (ln l j) (par h)).set := by
  ext i
  rw [Finset.mem_biUnion]
  have hi1 : (i 1).val < 128 := (i 1).isLt
  have hi2 : (i 2).val < 4096 := (i 2).isLt
  constructor
  · intro hi
    rw [Rect.mem_set_unit] at hi
    have h0 := hi 0
    refine ⟨⟨(i 1).val / 32, by omega⟩, Finset.mem_univ _, ?_⟩
    unfold pieceR
    rw [Rect.mem_set_unit]
    intro a
    fin_cases a
    · exact h0
    · show 32 * ((ln l _).val % 4) ≤ (i 1).val ∧ (i 1).val < 32 * ((ln l _).val % 4) + 32
      rw [ln_mod]; show 32 * ((i 1).val / 32) ≤ _ ∧ _ < 32 * ((i 1).val / 32) + 32; omega
    · exact ⟨Nat.zero_le _, by show (i 2).val < 0 + 4096; omega⟩
  · rintro ⟨j, -, hj⟩
    unfold pieceR at hj
    rw [Rect.mem_set_unit] at hj ⊢
    intro a
    fin_cases a
    · exact hj 0
    · exact ⟨Nat.zero_le _, by show (i 1).val < 0 + 128; omega⟩
    · exact ⟨Nat.zero_le _, by show (i 2).val < 0 + 4096; omega⟩

theorem half_set (l : Bool) (inb) : (Rect.unit (s := S2x128x4096) ![1, bif l then 64 else 0, 0] S1x64x4096.size inb).set
    = ((bif l then {2, 3} else {0, 1} : Finset (Fin 4))).biUnion fun j => (pieceR (ln l j) (par 15)).set := by
  ext i
  rw [Finset.mem_biUnion]
  have hi1 : (i 1).val < 128 := (i 1).isLt
  have hi2 : (i 2).val < 4096 := (i 2).isLt
  constructor
  · intro hi
    rw [Rect.mem_set_unit] at hi
    have h0 := hi 0
    have h1 : (bif l then 64 else 0) ≤ (i 1).val ∧ (i 1).val < (bif l then 64 else 0) + 64 := hi 1
    refine ⟨⟨(i 1).val / 32, by omega⟩, ?_, ?_⟩
    · cases l
      · have : (i 1).val / 32 = 0 ∨ (i 1).val / 32 = 1 := by simp only [cond] at h1; omega
        rcases this with e | e <;> simp [e, Fin.ext_iff]
      · have : (i 1).val / 32 = 2 ∨ (i 1).val / 32 = 3 := by simp only [cond] at h1; omega
        rcases this with e | e <;> simp [e, Fin.ext_iff]
    unfold pieceR
    rw [Rect.mem_set_unit]
    intro a
    fin_cases a
    · exact h0
    · show 32 * ((ln l _).val % 4) ≤ (i 1).val ∧ (i 1).val < 32 * ((ln l _).val % 4) + 32
      rw [ln_mod]; show 32 * ((i 1).val / 32) ≤ _ ∧ _ < 32 * ((i 1).val / 32) + 32; omega
    · exact ⟨Nat.zero_le _, by show (i 2).val < 0 + 4096; omega⟩
  · rintro ⟨j, hS, hj⟩
    unfold pieceR at hj
    rw [Rect.mem_set_unit] at hj ⊢
    have h1 : 32 * ((ln l j).val % 4) ≤ (i 1).val ∧ (i 1).val < 32 * ((ln l j).val % 4) + 32 := hj 1
    rw [ln_mod] at h1
    intro a
    fin_cases a
    · exact hj 0
    · show (bif l then 64 else 0) ≤ (i 1).val ∧ (i 1).val < (bif l then 64 else 0) + 64
      have : 2 * (bif l then 1 else 0) ≤ j.val ∧ j.val < 2 * (bif l then 1 else 0) + 2 := by
        revert hS; clear hj h1; revert l j; decide
      cases l <;> (simp only [cond] at this ⊢; omega)
    · exact ⟨Nat.zero_le _, by show (i 2).val < 0 + 4096; omega⟩

theorem both_one3 (h : ℕ) (inb) (x : S128x4096.Idx → Elt F .f32) :
    (fun i => both x ((Rect.unit (s := S2x128x4096) ![(par h).val, 0, 0] S1x128x4096.size inb).emb i)) = one3 x := by
  funext i
  unfold both one3
  congr 2
  · exact Fin.ext ((ValueKit.rect_emb_unit_val _ _ _ i 1).trans (Nat.zero_add _))
  · exact Fin.ext ((ValueKit.rect_emb_unit_val _ _ _ i 2).trans (Nat.zero_add _))
theorem both_half3 (b : Bool) (inb) (x : S128x4096.Idx → Elt F .f32) :
    (fun i => both x ((Rect.unit (s := S2x128x4096) ![1, bif b then 64 else 0, 0] S1x64x4096.size inb).emb i)) = half3 b x := by
  funext i
  unfold both half3
  congr 2
  · exact Fin.ext (ValueKit.rect_emb_unit_val _ _ _ i 1)
  · exact Fin.ext ((ValueKit.rect_emb_unit_val _ _ _ i 2).trans (Nat.zero_add _))

theorem prog_full (h : ℕ) (hh : h ≤ 14) (u : Fin 8) : prog (8 * (h + 1)) u = h + 1 := by
  have := le_last u; have := u.isLt
  unfold prog
  have e : (8 * (h + 1) + 7 - u.val) / 8 = h + 1 := by omega
  rw [e]; omega
theorem prog_half (l : Bool) : ∀ j ∈ (bif l then {2, 3} else {0, 1} : Finset (Fin 4)), prog 128 (ln l j) = 15 + 1 := by revert l; decide

/-- The block a hop brings in a direction. -/
def bnum (l : Bool) (h : ℕ) : ℕ := 2 * h + (bif l then 2 else 1)
theorem blk_bnum (l : Bool) (h : ℕ) : blk c (bnum l h) = orig (ln l 0) h c := by
  unfold blk bnum
  cases l
  · simp only [cond]
    rw [if_neg (by omega), if_pos (by omega)]
    have e : (2 * h + 1 - 1) / 2 = h := by omega
    rw [e]; rfl
  · simp only [cond]
    rw [if_neg (by omega), if_neg (by omega)]
    have e : (2 * h + 2 - 1) / 2 = h := by omega
    rw [e]; rfl

/-- A hop's product in one direction: the newest rows loaded, their block stored. -/
theorem go_block (h : ℕ) (l : Bool) (hh : h ≤ 14) {m : Memref sig .tc .vmem S2x128x4096 .f32} (hm : m = bufM l)
    {off : Fin 3 → ℕ} {inb} (hoff : off = ![(par h).val, 0, 0]) {offo : Fin 2 → ℕ} {inbo} (hoffo : offo = ![128 * (orig (ln l 0) h c).val, 0])
    {hl : m.view.LoadsAt (Rect.unit (s := S2x128x4096) off S1x128x4096.size inb)} {r' : Rect S4096x64} {hl' : oM.view.LoadsAt r'}
    {hx : (oM.access (Rect.unit (s := S4096x64) offo S128x64.size inbo)).Stores Finset.univ}
    {hu : Finset.univ = Finset.univ ∨ ∀ a, (Rect.unit (s := S4096x64) offo S128x64.size inbo).stride a = 1}
    {k : (S1x128x4096.Idx → Elt F .f32) → PUnit → PG F α}
    (hk : iprop(Ctx xs A K ι c ∗ St xs c (8 * (h + 1)) ∗ Outs c (Y xs c W) (rowsD c (bnum l h + 1)) ∗ R) ⊢ WP c (k (one3 (xs (orig (ln l 0) h c))) ⟨⟩) Q) :
    iprop(Ctx xs A K ι c ∗ St xs c (8 * (h + 1)) ∗ Outs c (Y xs c W) (rowsD c (bnum l h)) ∗ R)
      ⊢ WP c (Prog.op (.load m (Rect.unit (s := S2x128x4096) off S1x128x4096.size inb) hl) fun v =>
          Prog.op (.load oM r' hl') fun _ => Prog.op (.store oM (Rect.unit (s := S4096x64) offo S128x64.size inbo) (mm3 v W) Finset.univ hx hu) (k v)) Q := by
  subst hoff
  refine go_load xs A K ι c _ (8 * (h + 1)) h l Finset.univ hm (fun _ => rfl) (slot_set l h inb) (fun j _ => prog_full h hh _) ?_
  rw [both_one3]
  have hb : bnum l h < 31 := by unfold bnum; cases l <;> (simp only [cond]; omega)
  have hw := go_out (Q := Q) (r' := r') (hl := hl') (k := k (one3 (xs (orig (ln l 0) h c)))) c R 0 (Y xs c W) (rowsD c (bnum l h)) (rowsD c (bnum l h + 1))
    (r := Rect.unit (s := S4096x64) offo S128x64.size inbo) (w := mm3 (one3 (xs (orig (ln l 0) h c))) W) (hx := hx) (hm := hu)
    (P := iprop(Ctx xs A K ι c ∗ St xs c (8 * (h + 1))))
    (fun j => by rw [mm3_one3, ← blk_bnum]; exact Y_block xs c W (bnum l h) hb offo inbo (by rw [blk_bnum]; exact hoffo) j)
    (fun i hi => by
      obtain ⟨j, hj, e⟩ := hi
      by_cases hj' : j < bnum l h
      · exact Or.inl ⟨j, hj', e⟩
      · right
        have ej : j = bnum l h := by omega
        rw [ej, blk_bnum] at e
        have hi1 : (i 1).val < 64 := (i 1).isLt
        subst hoffo
        rw [Rect.mem_set_unit]
        intro a
        fin_cases a
        · show 128 * (orig (ln l 0) h c).val ≤ (i 0).val ∧ (i 0).val < 128 * (orig (ln l 0) h c).val + 128
          omega
        · exact ⟨Nat.zero_le _, by show (i 1).val < 0 + 64; omega⟩)
    (by iintro ⟨⟨HC, HS⟩, HO, HR⟩; iapply hk
        isplitl [HC]; · iexact HC
        isplitl [HS]; · iexact HS
        isplitl [HO] <;> iassumption)
  iintro ⟨HC, HS, HO, HR⟩
  iapply hw
  isplitl [HC HS]
  · isplitl [HC] <;> iassumption
  isplitl [HO] <;> iassumption

theorem orig_opp (l : Bool) : orig (ln l 0) 15 c = opp c := by
  cases l
  · rfl
  · exact opp_left c

/-- What is stored before and after each half of the opposite device's rows. -/
def rowsB (l : Bool) (r : ℕ) : Prop := bif l then rowsH c false r else rowsD c 31 r

/-- The last hop's product in one direction: half of the opposite device's rows. -/
theorem go_half (l : Bool) {m : Memref sig .tc .vmem S2x128x4096 .f32} (hm : m = bufM l)
    {off : Fin 3 → ℕ} {inb} (hoff : off = ![1, bif l then 64 else 0, 0]) {offo : Fin 2 → ℕ} {inbo} (hoffo : offo = ![128 * (opp c).val + (bif l then 64 else 0), 0])
    {hl : m.view.LoadsAt (Rect.unit (s := S2x128x4096) off S1x64x4096.size inb)} {r' : Rect S4096x64} {hl' : oM.view.LoadsAt r'}
    {hx : (oM.access (Rect.unit (s := S4096x64) offo S64x64.size inbo)).Stores Finset.univ}
    {hu : Finset.univ = Finset.univ ∨ ∀ a, (Rect.unit (s := S4096x64) offo S64x64.size inbo).stride a = 1}
    {k : (S1x64x4096.Idx → Elt F .f32) → PUnit → PG F α}
    (hk : iprop(Ctx xs A K ι c ∗ St xs c 128 ∗ Outs c (Y xs c W) (rowsH c l) ∗ R) ⊢ WP c (k (half3 l (xs (opp c))) ⟨⟩) Q) :
    iprop(Ctx xs A K ι c ∗ St xs c 128 ∗ Outs c (Y xs c W) (rowsB c l) ∗ R)
      ⊢ WP c (Prog.op (.load m (Rect.unit (s := S2x128x4096) off S1x64x4096.size inb) hl) fun v =>
          Prog.op (.load oM r' hl') fun _ => Prog.op (.store oM (Rect.unit (s := S4096x64) offo S64x64.size inbo) (mmH3 v W) Finset.univ hx hu) (k v)) Q := by
  subst hoff
  refine go_load xs A K ι c _ 128 15 l _ hm (fun _ => rfl) (half_set l inb) (prog_half l) ?_
  rw [both_half3, orig_opp]
  have hw := go_out (Q := Q) (r' := r') (hl := hl') (k := k (half3 l (xs (opp c)))) c R 0 (Y xs c W) (rowsB c l) (rowsH c l)
    (r := Rect.unit (s := S4096x64) offo S64x64.size inbo) (w := mmH3 (half3 l (xs (opp c))) W) (hx := hx) (hm := hu)
    (P := iprop(Ctx xs A K ι c ∗ St xs c 128))
    (fun j => Y_half xs c W l offo inbo hoffo j)
    (fun i hi => by
      rcases hi with hi | ⟨hi, hi'⟩
      · left; cases l
        · exact hi
        · exact Or.inl hi
      · by_cases hlow : l = true ∧ (i 0).val % 128 < 64
        · left; rw [hlow.1]; exact Or.inr ⟨hi, Or.inl hlow.2⟩
        · right
          have hi1 : (i 1).val < 64 := (i 1).isLt
          subst hoffo
          rw [Rect.mem_set_unit]
          intro a
          fin_cases a
          · show 128 * (opp c).val + (bif l then 64 else 0) ≤ (i 0).val ∧ (i 0).val < 128 * (opp c).val + (bif l then 64 else 0) + 64
            cases l
            · simp only [cond]; simp at hi'; omega
            · simp only [cond]; simp at hlow; omega
          · exact ⟨Nat.zero_le _, by show (i 1).val < 0 + 64; omega⟩)
    (by iintro ⟨⟨HC, HS⟩, HO, HR⟩; iapply hk
        isplitl [HC]; · iexact HC
        isplitl [HS]; · iexact HS
        isplitl [HO] <;> iassumption)
  iintro ⟨HC, HS, HO, HR⟩
  iapply hw
  isplitl [HC HS]
  · isplitl [HC] <;> iassumption
  isplitl [HO] <;> iassumption

/-- After the halves every row is stored. -/
theorem rows_all (r : ℕ) (hr : r < 4096) : rowsH c true r := by
  rcases blk_cover c ⟨r / 128, by show r / 128 < 32; omega⟩ with h | ⟨j, h⟩
  · exact Or.inr ⟨congrArg Fin.val h, Or.inr rfl⟩
  · exact Or.inl ⟨j.val, j.isLt, congrArg Fin.val h⟩

end Cert.Pf
end
-- ==== Proof.Butterfly.lean ====
/-
# 01_k — `Butterfly`: the exchange of the largest entries

In stage `s` a device sends its largest entry so far to the device whose number differs in bit `s`, and takes the larger of
that device's entry and its own.
-/
module

public import proofs.«01_k».proof.Proof.Gemm

@[expose] public section

set_option maxRecDepth 20000

noncomputable section

namespace Cert.Pf

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F] [Facts]
local notation "𝕄" => MT nD τ sig ℕ (Elt F) ℕ UU ℕ

variable (xs : Dev nD → S128x4096.Idx → Elt F .f32) (A : ℕ → Dev nD → Elt F .f32)
variable (K : GSem nD τ sig → ℕ) (ι : Key → ℕ)
variable (c : Dev nD) {α : Type} {Q : α → sProp (MT nD τ sig ℕ (Elt F) ℕ UU ℕ)}
variable (R : sProp (MT nD τ sig ℕ (Elt F) ℕ UU ℕ))

/-- What stage `s` takes: its tokens, its places at its two semaphores, its slot of the source buffer. -/
def bfTok (s : Fin 5) : sProp 𝕄 :=
  iprop(dutyTok ER (bfsC c s) 0 0 ∗ dutyTok ER (bfrC (partner s c) s) 0 0 ∗ writeTok ES (keyB (partner s c) s) 1
    ∗ atPos ER (bfsC c s) 0 ∅ 0 ∗ atPos ER (bfrC c s) 0 ∅ 0 ∗ cred (tallyAt (bfrC c s) (266 + s.val) NF)
    ∗ slot ((bfs s).view.loc (c : Thread nD τ)) (bfs s).view.set)
/-- What it leaves. -/
def bfEnd (s : Fin 5) : sProp 𝕄 :=
  iprop(atPos ER (bfsC c s) 1 ∅ 0 ∗ atPos ER (bfrC c s) 1 ∅ 0 ∗ slot ((bfs s).view.loc (c : Thread nD τ)) (bfs s).view.set
    ∗ slot ((bfd s).view.loc (c : Thread nD τ)) (bfd s).view.set)
/-- The devices it sends to have offered their slots. -/
def heardB : sProp 𝕄 := bigSep (Finset.univ : Finset (Fin 5)) fun s => heard (F := F) (partner s c)
instance heardB_persistent : BI.Persistent (heardB (F := F) c) := by unfold heardB; infer_instance
def BF (n : ℕ) : sProp 𝕄 :=
  iprop(ow c (266 + n) ∗ (bigSep (Finset.univ.filter fun s : Fin 5 => n ≤ s.val) fun s => bfTok c s)
    ∗ bigSep (Finset.univ.filter fun s : Fin 5 => s.val < n) fun s => bfEnd c s)

theorem owns_slot {s : Shape} {e : EltTy} (m : Memref sig .tc .vmem s e) (V : s.Idx → Elt F e) :
    (owns (c : Thread nD τ) m fullShare V : sProp 𝕄) ⊢ slot (m.view.loc (c : Thread nD τ)) m.view.set := by
  unfold owns slot
  iintro ⟨%f, -, H⟩
  iexists f; iexact H

theorem bfs_set (s : Fin 5) (inb) : (bfsM.access (Rect.unit (s := S5x8x128) ![s.val, 0, 0] S1x8x128.size inb)).set = (bfs s).view.set :=
  (View.set_reshape _ _).symm
theorem bfs_read (s : Fin 5) (inb) (f : bfsM.view.ty.Contents (Elt F)) (a : Elt F .f32) :
    (bfs s).view.read (Elt F) ((bfsM.access (Rect.unit (s := S5x8x128) ![s.val, 0, 0] S1x8x128.size inb)).write (Elt F) f (fun _ => a) Finset.univ)
      = fun _ => a := by
  funext j
  exact congrFun (View.read_write_univ (f := f) (v := bfsM.access (Rect.unit (s := S5x8x128) ![s.val, 0, 0] S1x8x128.size inb)) (fun _ => a)) _
theorem bfd_read_all (s : Fin 5) (inb) (f : bfdM.view.ty.Contents (Elt F)) (a : Elt F .f32) (hf : (bfd s).view.read (Elt F) f = fun _ => a)
    (x) : (bfdM.access (Rect.unit (s := S5x8x128) ![s.val, 0, 0] S1x8x128.size inb)).read (Elt F) f x = a := by
  obtain ⟨j, rfl⟩ := (Shape.reshapeEquiv sq_bf.numel_eq).surjective x
  exact congrFun hf j
theorem bfd_one (s : Fin 5) (inb) (inb') : (Rect.unit (s := S5x8x128) ![s.val, 0, 0] S1x1x1.size inb').set
    ⊆ (Rect.unit (s := S5x8x128) ![s.val, 0, 0] S1x8x128.size inb).set := by
  intro i hi
  rw [Rect.mem_set_unit] at hi ⊢
  intro a
  have h := hi a
  refine ⟨h.1, lt_of_lt_of_le h.2 (Nat.add_le_add_left ?_ _)⟩
  fin_cases a <;> decide

theorem bfd_val (s : Fin 5) (inb') (f : bfdM.view.ty.Contents (Elt F)) (a : Elt F .f32) (hf : (bfd s).view.read (Elt F) f = fun _ => a)
    (j : (Rect.unit (s := S5x8x128) ![s.val, 0, 0] S1x1x1.size inb').shape.Idx) :
    bfdM.view.read (Elt F) f ((Rect.unit (s := S5x8x128) ![s.val, 0, 0] S1x1x1.size inb').emb j) = a := by
  have hm : (Rect.unit (s := S5x8x128) ![s.val, 0, 0] S1x1x1.size inb').emb j ∈ (Rect.unit (s := S5x8x128) ![s.val, 0, 0] S1x8x128.size (bf_inb s)).set := by
    rw [Rect.mem_set_unit]
    intro a
    rw [ValueKit.rect_emb_unit_val]
    refine ⟨Nat.le_add_right _ _, Nat.add_lt_add_left (lt_of_lt_of_le (j a).isLt ?_) _⟩
    exact (by decide : ∀ a : Fin 3, S1x1x1.size a ≤ S1x8x128.size a) a
  generalize (Rect.unit (s := S5x8x128) ![s.val, 0, 0] S1x1x1.size inb').emb j = i at hm
  obtain ⟨x, rfl⟩ := (Rect.unit (s := S5x8x128) ![s.val, 0, 0] S1x8x128.size (bf_inb s)).exists_idx_of_mem hm
  exact bfd_read_all s (bf_inb s) f a hf x

theorem due_bf (s : Fin 5) : due c (266 + s.val) = tallyAt (bfrC (partner s c) s) (266 + s.val) NF := by
  have e : stg (266 + s.val) = s := Fin.ext (by show (266 + s.val - 266) % 5 = s.val; omega)
  unfold due
  rw [if_neg (by omega), if_neg (by omega), if_neg (by omega), if_neg (by omega), e]

theorem landedB (c' : Dev nD) (m : Memref sig .tc .vmem S8x128 .f32) (fd : Buf (Elt F) (m.view.loc (c' : Thread nD τ)))
    (V : S8x128.Idx → Elt F .f32) :
    (m.view.loc (c' : Thread nD τ) ↦[m.view.set]{fullShare} m.view.write (Elt F) fd V Finset.univ : sProp 𝕄)
      ⊢ owns (c' : Thread nD τ) m fullShare V := by
  unfold owns
  iintro H
  iexists _
  isplitr [H]
  · ipureintro; exact View.read_write_univ (f := fd) V
  · iexact H

/-- The copy of stage `s`. -/
theorem wp_bfSend (s : Fin 5) (fs : Buf (Elt F) ((bfs s).view.loc (c : Thread nD τ))) (hfs : (bfs s).view.read (Elt F) fs = fun _ => A s.val c)
    {n : Dev nD} (hn : n.val = (partner s c).val) {sS sR : DmaSem sig} (hsS : sS = bfsS s) (hsR : sR = bfrS s)
    {src : Memref sig .tc .vmem S8x128 .f32} (hsrc : src = bfs s)
    {dst : Memref sig (Dev.tc n : Thread nD τ).2.kind .vmem S8x128 .f32} (hdst : dst = bfd s)
    {hsc : dst.view.ref.isScScratch = false} {h1 : src.view.WordExact} {h2 : dst.view.WordExact}
    {hsem : DmaTarget.Typed .vmem (.dma sR) (.remote (Dev.tc n : Thread nD τ) dst (.dma sS) hsc)}
    {k : PUnit → PG F α} :
    iprop(Recs xs A K ι ∗ heard (partner s c) ∗ dutyTok ER (bfsC c s) 0 0 ∗ dutyTok ER (bfrC (partner s c) s) 0 0 ∗ writeTok ES (keyB (partner s c) s) 1
        ∗ ow c (266 + s.val) ∗ ((bfs s).view.loc (c : Thread nD τ) ↦[(bfs s).view.set]{fullShare} fs))
      ⊢ iprop(((ow c (266 + (s.val + 1)) ∗ cred (tallyAt (bfsC c s) 0 NF)) -∗ WP c (k ⟨⟩) Q)
          -∗ WP c (Prog.op (.enqueueDma src (.remote (Dev.tc n : Thread nD τ) dst (.dma sS) hsc) (.dma sR) h1 h2 hsem) k) Q) := by
  obtain rfl : n = partner s c := Fin.ext hn
  subst hsrc
  subst hdst
  unfold ow
  iintro ⟨#HR, #Hh, HtS, HtR, Hw, ⟨%W, HO⟩, Hs⟩ Hk
  ihave #HIS := (Recs_inv xs A K ι (bfs_mem c s)) $$ HR
  ihave #HIR := (Recs_inv xs A K ι (bfr_mem (partner s c) s)) $$ HR
  ihave #HrS := (Recs_reached xs A K ι (bfs_mem c s)) $$ HR
  ihave #HrR := (Recs_reached xs A K ι (bfr_mem (partner s c) s)) $$ HR
  ihave #HSl := (Recs_slotB xs A K ι (partner s c) s) $$ HR
  unfold heard
  ihave #Hrel := (pick (Φ := fun s' : Fin 5 => (released ES (keyB (partner s c) s') 1 : sProp 𝕄)) (Finset.mem_univ s)) $$ Hh
  ihave Hsl := (slot_take ES (Set.mem_univ (ι (keyB (partner s c) s))) 1) $$ [Hw]
  · isplitr; · iexact HSl
    isplitr; · iexact Hrel
    iexact Hw
  imod Hsl
  unfold slotB slot
  icases Hsl with ⟨%fd, Hd⟩
  have ht : 266 + s.val < 271 := by omega
  rw [owed_step c ht, due_bf]
  have eS : bfsC c s = ((c : Thread nD τ), SemLoc.dma sS) := by rw [hsS]
  have eR : bfrC (partner s c) s = ((partner s c : Thread nD τ), SemLoc.dma sR) := by rw [hsR]
  iapply (Rounds.wp_send_pointsTo_with 𝒱₀ ER (sched xs A) (c : Thread nD τ) none (c' := (partner s c : Thread nD τ)) (sS := .dma sS) (sem := .dma sR)
    (κ₁ := K (bfsC c s)) (κ₂ := K (bfrC (partner s c) s))
    (src := bfs s) (dst := bfd s) (F := iprop(emp))
    (r₁ := 0) (r₂ := 0) (d₁ := 0) (d₂ := 0) (fs := fs) (fd := fd) (q := fullShare)
    (by rw [← eS, duties_bfs, if_pos rfl]; exact Finset.mem_singleton_self _)
    (by rw [← eR, duties_bfr, if_pos rfl]; exact Finset.mem_singleton_self _)
    (266 + s.val) 0 NF rfl (by rw [← eS, amount_bfs]) (by rw [← eR, amount_bfr]) (owed c (266 + s.val + 1)) (by rw [← eR]) (W := W)
    (by rw [← eS, payload_bfs]; unfold owns; iintro H; iexists _; iexists fs; isplitr [H]; · ipureintro; exact hfs
        iexact H)
    (by rw [← eR, payload_bfr]; iintro ⟨H, -⟩
        rw [hfs, partner_partner]; iapply (landedB (partner s c) (bfd s) fd) $$ H)) $$ [HtS HtR Hd Hs HO]
  · rw [← eS, ← eR]
    isplitr; · iexact HIS
    isplitr; · iexact HIR
    isplitl [Hs]; · iexact Hs
    isplitl [Hd]
    · isplitl [Hd]; · iexact Hd
      iempintro
    isplitl [HO]; · iexact HO
    isplitl [HtS]; · iexact HtS
    isplitr; · iexact HrS
    isplitl [HtR]; · iexact HtR
    iexact HrR
  rw [← eS]
  iintro ⟨Hc, HO⟩
  iapply Hk
  isplitl [HO]
  · iexists W; iexact HO
  · iexact Hc

/-- A stage, as the body takes it. -/
theorem go_bf (s : Fin 5) {off : Fin 3 → ℕ} {inb} (hoff : off = ![s.val, 0, 0]) {off' : Fin 3 → ℕ} {inb'} (hoff' : off' = ![s.val, 0, 0])
    {off₀ : Fin 3 → ℕ} {inb₀} (hoff₀ : off₀ = ![s.val, 0, 0]) {hl : bfsM.view.LoadsAt (Rect.unit (s := S5x8x128) off₀ S1x8x128.size inb₀)} {hsh : S8x128.ShapeCasts S1x8x128}
    {hx : (bfsM.access (Rect.unit (s := S5x8x128) off S1x8x128.size inb)).Stores Finset.univ}
    {hm : Finset.univ = Finset.univ ∨ ∀ a, (Rect.unit (s := S5x8x128) off S1x8x128.size inb).stride a = 1}
    {n : Dev nD} (hn : n.val = (partner s c).val) {sS sR sS' sR' : DmaSem sig} (hsS : sS = bfsS s) (hsR : sR = bfrS s) (hsS' : sS' = bfsS s) (hsR' : sR' = bfrS s)
    {src : Memref sig .tc .vmem S8x128 .f32} (hsrc : src = bfs s)
    {dst : Memref sig (Dev.tc n : Thread nD τ).2.kind .vmem S8x128 .f32} (hdst : dst = bfd s)
    {hsc : dst.view.ref.isScScratch = false} {h1 : src.view.WordExact} {h2 : dst.view.WordExact}
    {hsem : DmaTarget.Typed .vmem (.dma sR) (.remote (Dev.tc n : Thread nD τ) dst (.dma sS) hsc)}
    {sp sp' : Space} {s1 s1' : Shape} {e1 e1' : EltTy}
    {src₁ : Memref sig .tc sp s1 e1} {dst₁ : Memref sig .tc .vmem S8x128 .f32} {a₁ : src₁.view.WordExact} {b₁ : dst₁.view.WordExact} (hN₁ : dst₁.view.dmaCredit = NF)
    {src₂ : Memref sig .tc sp' s1' e1'} {dst₂ : Memref sig .tc .vmem S8x128 .f32} {a₂ : src₂.view.WordExact} {b₂ : dst₂.view.WordExact} (hN₂ : dst₂.view.dmaCredit = NF)
    {hl' : bfdM.view.LoadsAt (Rect.unit (s := S5x8x128) off' S1x1x1.size inb')}
    {k : (S1x1x1.Idx → Elt F .f32) → PG F α}
    (hk : iprop(Recs xs A K ι ∗ heardB c ∗ BF c (s.val + 1) ∗ R) ⊢ WP c (k fun _ => A s.val (partner s c)) Q) :
    iprop(Recs xs A K ι ∗ heardB c ∗ BF c s.val ∗ R)
      ⊢ WP c (Prog.op (.load bfsM (Rect.unit (s := S5x8x128) off₀ S1x8x128.size inb₀) hl) fun _ =>
          Prog.op (.store bfsM (Rect.unit (s := S5x8x128) off S1x8x128.size inb) (shapeCast S1x8x128 (broadcast S8x128 (A s.val c)) hsh) Finset.univ hx hm) fun _ =>
          Prog.op (.enqueueDma src (.remote (Dev.tc n : Thread nD τ) dst (.dma sS) hsc) (.dma sR) h1 h2 hsem) fun _ =>
          Prog.op (.waitDma2 sS' src₁ dst₁ a₁ b₁) fun _ => Prog.op (.waitDma2 sR' src₂ dst₂ a₂ b₂) fun _ =>
          Prog.op (.load bfdM (Rect.unit (s := S5x8x128) off' S1x1x1.size inb') hl') k) Q := by
  subst hoff
  subst hoff₀
  subst hoff'
  have hsp : iprop(Recs xs A K ι ∗ heardB c ∗ BF c s.val ∗ R) ⊢ iprop(Recs xs A K ι ∗ heardB c ∗ (ow c (266 + s.val) ∗ bfTok c s
      ∗ (iprop(ow c (266 + (s.val + 1)) ∗ bfEnd c s) -∗ BF c (s.val + 1))) ∗ R) := by
    have e1 : (Finset.univ.filter fun s' : Fin 5 => s.val ≤ s'.val) = insert s (Finset.univ.filter fun s' : Fin 5 => s.val + 1 ≤ s'.val) := by
      ext x; simp only [Finset.mem_filter, Finset.mem_univ, true_and, Finset.mem_insert, Fin.ext_iff]; omega
    have e2 : (Finset.univ.filter fun s' : Fin 5 => s'.val < s.val + 1) = insert s (Finset.univ.filter fun s' : Fin 5 => s'.val < s.val) := by
      ext x; simp only [Finset.mem_filter, Finset.mem_univ, true_and, Finset.mem_insert, Fin.ext_iff]; omega
    unfold BF
    have b1 : bigSep (insert s (Finset.univ.filter fun s' : Fin 5 => s.val + 1 ≤ s'.val)) (fun s => bfTok (F := F) c s)
        = iprop(bfTok c s ∗ bigSep (Finset.univ.filter fun s' : Fin 5 => s.val + 1 ≤ s'.val) fun s => bfTok c s) := bigSep_insert (by simp)
    have b2 : bigSep (insert s (Finset.univ.filter fun s' : Fin 5 => s'.val < s.val)) (fun s => bfEnd (F := F) c s)
        = iprop(bfEnd c s ∗ bigSep (Finset.univ.filter fun s' : Fin 5 => s'.val < s.val) fun s => bfEnd c s) := bigSep_insert (by simp)
    rw [e1, b1, e2, b2]
    iintro ⟨HR, HH, ⟨HO, ⟨HT, HTs⟩, HE⟩, HRR⟩
    isplitl [HR]; · iexact HR
    isplitl [HH]; · iexact HH
    isplitr [HRR]
    · isplitl [HO]; · iexact HO
      isplitl [HT]; · iexact HT
      iintro ⟨HO, HN⟩
      isplitl [HO]; · iexact HO
      isplitl [HTs]; · iexact HTs
      isplitl [HN] <;> iassumption
    · iexact HRR
  refine hsp.trans ?_
  unfold bfTok slot
  iintro ⟨#HR, #HH, ⟨HO, ⟨HtS, HtR, Hw, HaS, HaR, HcR, ⟨%f, Hf⟩⟩, Hback⟩, HRR⟩
  have hh : heardB (F := F) c ⊢ heard (partner s c) := by
    unfold heardB; exact pick (Φ := fun s => heard (F := F) (partner s c)) (Finset.mem_univ s)
  ihave #Hh := hh $$ HH
  iapply (wp_load_rect (defs := defs₀ (F := F)) 𝒱₀ (c : Thread nD τ) none (Γ := .empty) Set.univ (Q := Q) (m := bfsM) (hl := hl)
    (S := (bfs s).view.set) (q := fullShare) (f := f) (subset_of_eq (bfs_set s inb₀))) $$ [Hf]
  · iexact Hf
  iintro Hf
  iapply (wp_store (defs := defs₀ (F := F)) 𝒱₀ (c : Thread nD τ) none (Γ := .empty) Set.univ (Q := Q) (m := bfsM) (Mk := Finset.univ) (hx := hx) (hm := hm)
    (S := (bfs s).view.set) (f := f) (by rw [View.setOn_univ]; exact subset_of_eq (bfs_set s inb))) $$ [Hf]
  · iexact Hf
  iintro Hf
  iapply (wp_bfSend xs A K ι c s _ (bfs_read s inb f (A s.val c)) hn hsS hsR hsrc hdst (h1 := h1) (h2 := h2) (hsc := hsc) (hsem := hsem)) $$ [HO HtS HtR Hw Hf]
  · isplitr; · iexact HR
    isplitr; · iexact Hh
    isplitl [HtS]; · iexact HtS
    isplitl [HtR]; · iexact HtR
    isplitl [Hw]; · iexact Hw
    isplitl [HO]; · iexact HO
    iexact Hf
  iintro ⟨HO, HcS⟩
  iapply (wp_single xs A K ι c (congrArg SemLoc.dma hsS') 0 (266 + (s.val + 1)) 0 NF (bfs_mem c s) (by omega) (by omega)
    (by rw [duties_bfs, if_pos rfl]) (by rw [amount_bfs]) hN₁) $$ [HO HcS HaS]
  · isplitr; · iexact HR
    isplitl [HcS]; · iexact HcS
    isplitl [HO] <;> iassumption
  iintro ⟨HO, HaS, -, Hpay⟩
  ihave Hpay := (Entails.of_eq (payload_bfs xs A c s 0 0 : (sched xs A).payload (bfsC c s) 0 0 = iprop(∃ Z, owns (c : Thread nD τ) (bfs s) fullShare Z))) $$ Hpay
  icases Hpay with ⟨%Z, Hpay⟩
  ihave Hpay := (owns_slot c (bfs s) Z) $$ Hpay
  iapply (wp_single xs A K ι c (congrArg SemLoc.dma hsR') (266 + s.val) (266 + (s.val + 1)) 0 NF (bfr_mem c s) (by omega) (by omega)
    (by rw [duties_bfr, if_pos rfl]) (by rw [amount_bfr]) hN₂) $$ [HO HcR HaR]
  · isplitr; · iexact HR
    isplitl [HcR]; · iexact HcR
    isplitl [HO] <;> iassumption
  iintro ⟨HO, HaR, -, Hgot⟩
  ihave Hgot := (Entails.of_eq (payload_bfr xs A c s 0 0 : (sched xs A).payload (bfrC c s) 0 0 = owns (c : Thread nD τ) (bfd s) fullShare (fun _ => A s.val (partner s c)))) $$ Hgot
  unfold owns
  icases Hgot with ⟨%g, %hg, Hg⟩
  have hsub : (bfdM.access (Rect.unit (s := S5x8x128) ![s.val, 0, 0] S1x1x1.size inb')).set ⊆ (bfd s).view.set := by
    have e : (bfd s).view.set = (bfdM.view.slice (Rect.unit (s := S5x8x128) ![s.val, 0, 0] S1x8x128.size (bf_inb s))).set := View.set_reshape _ _
    rw [e]
    show (bfdM.view.slice _).set ⊆ _
    rw [View.set_slice, View.set_slice]
    exact Finset.map_subset_map.mpr (bfd_one s (bf_inb s) inb')
  have hload := wp_load_rect (defs := defs₀ (F := F)) 𝒱₀ (c : Thread nD τ) none (Γ := .empty) Set.univ (Q := Q) (m := bfdM) (hl := hl')
    (S := (bfd s).view.set) (q := fullShare) (f := g) (k := k) hsub
  have hval : (bfdM.access (Rect.unit (s := S5x8x128) ![s.val, 0, 0] S1x1x1.size inb')).read (Elt F) g = fun _ => A s.val (partner s c) := by
    funext j
    exact bfd_val s inb' g _ hg j
  rw [hval] at hload
  iapply hload $$ [Hg]
  · iexact Hg
  iintro Hg
  iapply hk
  isplitr; · iexact HR
  isplitr; · iexact HH
  isplitr [HRR]
  · iapply Hback
    isplitl [HO]; · iexact HO
    unfold bfEnd
    isplitl [HaS]; · iexact HaS
    isplitl [HaR]; · iexact HaR
    isplitl [Hpay]; · iexact Hpay
    · unfold slot; iexists g; iexact Hg
  · iexact HRR

end Cert.Pf
end
-- ==== Proof.Start.lean ====
/-
# 01_k — `Start`: the barrier, the first loads, and the first copies

Before the exchange a device releases its landing pieces and butterfly slots, announces the pieces by the barrier signals,
loads its weights and its rows, and sends its rows into the eight lanes.
-/
module

public import proofs.«01_k».proof.Proof.Butterfly

@[expose] public section

set_option maxRecDepth 20000

noncomputable section

namespace Cert.Pf

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F] [Facts]
local notation "𝕄" => MT nD τ sig ℕ (Elt F) ℕ UU ℕ

variable (xs : Dev nD → S128x4096.Idx → Elt F .f32) (A : ℕ → Dev nD → Elt F .f32)
variable (K : GSem nD τ sig → ℕ) (ι : Key → ℕ)
variable (c : Dev nD) {α : Type} {Q : α → sProp (MT nD τ sig ℕ (Elt F) ℕ UU ℕ)}
variable (R : sProp (MT nD τ sig ℕ (Elt F) ℕ UU ℕ))

/-! ## Families under what everybody knows -/

theorem mono {I : Type} {s : Finset I} {Φ Ψ : I → sProp 𝕄} (h : ∀ i ∈ s, Φ i ⊢ Ψ i) : (bigSep s Φ : sProp 𝕄) ⊢ bigSep s Ψ :=
  bigSep_mono h
theorem each {I : Type} [DecidableEq I] (s : Finset I) {P : sProp 𝕄} [BI.Persistent P] {Φ Ψ : I → sProp 𝕄} (h : ∀ i ∈ s, iprop(P ∗ Φ i) ⊢ Ψ i) :
    iprop(P ∗ bigSep s Φ) ⊢ (bigSep s Ψ : sProp 𝕄) := by
  induction s using Finset.induction_on with
  | empty =>
    iintro ⟨-, -⟩
    rw [bigSep_empty]; iempintro
  | insert i s hi ih =>
    have e1 : bigSep (insert i s) Φ = iprop(Φ i ∗ bigSep s Φ) := bigSep_insert hi
    have e2 : bigSep (insert i s) Ψ = iprop(Ψ i ∗ bigSep s Ψ) := bigSep_insert hi
    rw [e1, e2]
    iintro ⟨#HP, HΦ, HΦs⟩
    isplitl [HΦ]
    · iapply (h i (Finset.mem_insert_self i s))
      isplitr; · iexact HP
      iexact HΦ
    · iapply (ih fun j hj => h j (Finset.mem_insert_of_mem hj))
      isplitr; · iexact HP
      iexact HΦs
theorem each_fupd {I : Type} [DecidableEq I] (s : Finset I) {P : sProp 𝕄} [BI.Persistent P] {Φ Ψ : I → sProp 𝕄} {E : Set ℕ}
    (h : ∀ i ∈ s, iprop(P ∗ Φ i) ⊢ (|={E}=> Ψ i : sProp 𝕄)) :
    iprop(P ∗ bigSep s Φ) ⊢ (|={E}=> bigSep s Ψ : sProp 𝕄) :=
  (each (F := F) s h).trans (bigSep_fupd s Ψ)

/-! ## The device's rows by lanes -/

def xR (j : Fin 4) : Rect S128x4096 := Rect.unit (s := S128x4096) ![32 * j.val, 0] S32x4096.size (by revert j; decide)
theorem xR_cover (i : S128x4096.Idx) : ∃ j, i ∈ (xR j).set := by
  have hi0 : (i 0).val < 128 := (i 0).isLt
  have hi1 : (i 1).val < 4096 := (i 1).isLt
  refine ⟨⟨(i 0).val / 32, by omega⟩, ?_⟩
  unfold xR
  rw [Rect.mem_set_unit]
  intro a
  fin_cases a
  · show 32 * ((i 0).val / 32) ≤ (i 0).val ∧ (i 0).val < 32 * ((i 0).val / 32) + 32; omega
  · exact ⟨Nat.zero_le _, by show (i 1).val < 0 + 4096; omega⟩
theorem xR_disjoint (j j' : Fin 4) (h : j ≠ j') : Disjoint (xR j).set (xR j').set := by
  unfold xR
  refine Rect.unit_disjoint 0 ?_
  have h' : j.val ≠ j'.val := fun e => h (Fin.ext e)
  show 32 * j.val + 32 ≤ 32 * j'.val ∨ 32 * j'.val + 32 ≤ 32 * j.val
  omega

abbrev xLoc : Loc nD τ sig := xM.view.loc (c : Thread nD τ)

theorem xpiece_set (l : Bool) (j : Fin 4) : (xpiece (ln l j)).view.set = (xM.view.slice (xR j)).set := by
  have h : ∀ (a b : ℕ) (e : a = b) (ha) (hb), (xM.view.slice (Rect.unit (s := S128x4096) ![32 * a, 0] S32x4096.size ha)).set
      = (xM.view.slice (Rect.unit (s := S128x4096) ![32 * b, 0] S32x4096.size hb)).set := by
    rintro a _ rfl ha hb; rfl
  exact h _ _ (ln_mod l j) _ _
theorem xpiece_pts (l : Bool) (j : Fin 4) (q : PosShare TreeShare) :
    (owns (c : Thread nD τ) (xpiece (ln l j)) q (X xs (ln l j) c) : sProp 𝕄) = (xLoc c ↦[(xM.view.slice (xR j)).set]{q} (xs c : Buf (Elt F) (xLoc c))) := by
  rw [← xpiece_set l j]
  exact owns_read_eq (c : Thread nD τ) (xpiece (ln l j)) q (xs c)
theorem x_view_cover : (Finset.univ : Finset (Idx (xLoc c))) = Finset.univ.biUnion fun j => (xM.view.slice (xR j)).set := by
  ext i
  rw [Finset.mem_biUnion]
  obtain ⟨j, hj⟩ := xR_cover i
  exact ⟨fun _ => ⟨j, Finset.mem_univ _, by rw [View.set_slice_whole]; exact hj⟩, fun _ => Finset.mem_univ _⟩
theorem x_dir (l : Bool) (q : PosShare TreeShare) :
    (bigSep Finset.univ fun j => owns (c : Thread nD τ) (xpiece (ln l j)) q (X xs (ln l j) c) : sProp 𝕄)
      = (xLoc c ↦{q} (xs c : Buf (Elt F) (xLoc c)) : sProp 𝕄) := by
  refine (bigSep_congr fun j _ => xpiece_pts xs c l j q).trans ?_
  rw [x_view_cover c]
  refine (pointsTo_biUnion Finset.univ _ fun j _ j' _ h => ?_).symm
  rw [View.set_slice_whole, View.set_slice_whole]
  exact xR_disjoint j j' h

/-- The lanes, by direction and sub-block. -/
def lnE : Bool × Fin 4 ≃ Fin 8 where
  toFun q := ln q.1 q.2
  invFun u := (goesL u, ⟨u.val % 4, by omega⟩)
  left_inv := by decide
  right_inv := by decide

theorem bigSep_bool (Φ : Bool → sProp 𝕄) : bigSep Finset.univ Φ = iprop(Φ false ∗ Φ true) := by
  have hu : (Finset.univ : Finset Bool) = insert false {true} := by decide
  rw [hu]
  exact (bigSep_insert (by decide)).trans (congrArg (fun t => iprop(Φ false ∗ t)) bigSep_singleton)
theorem hX_ln (l : Bool) (j : Fin 4) : hX (ln l j) = bif l then hR else hL := by unfold hX; rw [goesL_ln]
theorem bigSep_lanes (Φ : Fin 8 → sProp 𝕄) :
    bigSep Finset.univ Φ = iprop((bigSep Finset.univ fun j => Φ (ln false j)) ∗ bigSep Finset.univ fun j => Φ (ln true j)) :=
  ((bigSep_univ_equiv lnE Φ).trans (bigSep_univ_prod _)).trans (bigSep_bool _)
theorem x_lane_dir (l : Bool) : (bigSep Finset.univ fun j => owns (c : Thread nD τ) (xpiece (ln l j)) (hX (ln l j)) (X xs (ln l j) c) : sProp 𝕄)
    = (xLoc c ↦{bif l then hR else hL} (xs c : Buf (Elt F) (xLoc c)) : sProp 𝕄) := by
  refine Eq.trans (bigSep_congr fun j _ => ?_) (x_dir xs c l (bif l then hR else hL))
  rw [hX_ln]
theorem x_lanes : (xLoc c ↦{fullShare} (xs c : Buf (Elt F) (xLoc c)) : sProp 𝕄)
    = bigSep Finset.univ fun u => owns (c : Thread nD τ) (xpiece u) (hX u) (X xs u c) := by
  rw [bigSep_lanes, x_lane_dir, x_lane_dir]
  exact BI.equiv_iff.mp ⟨(pointsTo_share (PosShare.mem_left_op_right fullShare)).1, (pointsTo_share (PosShare.mem_left_op_right fullShare)).2⟩

/-! ## What a device starts with -/

def laneIn (u : Fin 8) : sProp 𝕄 :=
  iprop((atPos ER (recvC c u 0) 0 ∅ 0 ∗ atPos ER (sendC c u 0) 0 ∅ 0) ∗ (atPos ER (recvC c u 1) 0 ∅ 0 ∗ atPos ER (sendC c u 1) 0 ∅ 0) ∗ sendTok c u 0)
def pieceIn (q : Fin 8 × Fin 2) : sProp 𝕄 := iprop(readerAt ES (keyL c q.1 q.2) 0 ∗ slotL c q.1 q.2)
def bfIn (s : Fin 5) : sProp 𝕄 := iprop(readerAt ES (keyB c s) 0 ∗ slotB c s)
/-- What the exchange takes. -/
def roundsIn : sProp 𝕄 :=
  iprop((bigSep (Finset.range 128) fun k => stepRes c (laneN k) (k / 8)) ∗ (bigSep Finset.univ fun l : Bool => atPos ER (crC c l) 0 ∅ 0)
    ∗ bigSep Finset.univ fun s => bfTok c s)
def barIn : sProp 𝕄 :=
  iprop(dutyTok ER (barC (rot 31 c)) 0 0 ∗ dutyTok ER (barC (rot 1 c)) 0 1 ∗ atPos ER (barC c) 0 ∅ 0 ∗ cred (tallyAt (barC c) 1 2))

/-- The pieces released. -/
theorem release_pieces : iprop(Recs xs A K ι ∗ bigSep Finset.univ fun q => pieceIn (F := F) c q)
    ⊢ (|={Set.univ}=> bigSep Finset.univ fun q : Fin 8 × Fin 2 => iprop(readerAt ES (keyL c q.1 q.2) 1 ∗ released ES (keyL c q.1 q.2) 1) : sProp 𝕄) :=
  each_fupd Finset.univ fun q _ => by
    unfold pieceIn
    iintro ⟨#HR, Hr, Hs⟩
    ihave #HI := (Recs_slotL xs A K ι c q.1 q.2) $$ HR
    iapply (slot_release ES (Set.mem_univ (ι (keyL c q.1 q.2))) (slotL_excl c q.1 q.2) 0)
    isplitr; · iexact HI
    isplitl [Hr] <;> iassumption
theorem release_slots : iprop(Recs xs A K ι ∗ bigSep Finset.univ fun s => bfIn (F := F) c s)
    ⊢ (|={Set.univ}=> bigSep Finset.univ fun s : Fin 5 => released ES (keyB c s) 1 : sProp 𝕄) :=
  each_fupd Finset.univ fun s _ => by
    unfold bfIn
    iintro ⟨#HR, Hr, Hs⟩
    ihave #HI := (Recs_slotB xs A K ι c s) $$ HR
    imod (slot_release ES (Set.mem_univ (ι (keyB c s))) (slotB_excl c s) 0) $$ [Hr Hs] with ⟨-, H⟩
    · isplitr; · iexact HI
      isplitl [Hr] <;> iassumption
    imodintro
    iexact H

theorem released_bar (d : ℕ) (e : Dev nD) (he : ∀ u, goesL u = decide (d = 1) → dn u e = c) :
    (bigSep Finset.univ fun q : Fin 8 × Fin 2 => released ES (keyL c q.1 q.2) 1 : sProp 𝕄) ⊢ barPay e d := by
  unfold barPay
  have e1 : (bigSep (Finset.univ.filter fun q : Fin 8 × Fin 2 => goesL q.1 = decide (d = 1)) fun q => (released ES (keyL (dn q.1 e) q.1 q.2) 1 : sProp 𝕄))
      = bigSep (Finset.univ.filter fun q : Fin 8 × Fin 2 => goesL q.1 = decide (d = 1)) fun q => released ES (keyL c q.1 q.2) 1 :=
    bigSep_congr fun q hq => by rw [he q.1 (Finset.mem_filter.mp hq).2]
  rw [e1]
  exact bigSep_subset (Finset.filter_subset _ _)

/-- One signal of the barrier. -/
theorem wp_bar (t d : ℕ) (ht : t < 2) (e : Dev nD) (hdue : due c t = tallyAt (barC e) 1 1) (hd : d ∈ ({0, 1} : Finset ℕ))
    {n : Dev nD} (hn : n.val = e.val) {sem : Sem sig} (hs : sem = barS) {k : PUnit → PG F α} :
    iprop(Recs xs A K ι ∗ ow c t ∗ dutyTok ER (barC e) 0 d ∗ barPay e d)
      ⊢ iprop((ow c (t + 1) -∗ WP c (k ⟨⟩) Q) -∗ WP c (Prog.op (.semSignal (Dev.tc n : Thread nD τ) sem 1) k) Q) := by
  obtain rfl : n = e := Fin.ext hn
  subst hs
  unfold ow
  iintro ⟨#HR, ⟨%W, HO⟩, Ht, Hp⟩ Hk
  ihave #HI := (Recs_inv xs A K ι (bar_mem n)) $$ HR
  ihave #Hr := (Recs_reached xs A K ι (bar_mem n)) $$ HR
  rw [owed_step c (by omega : t < 271), hdue]
  iapply (Rounds.wp_signal 𝒱₀ ER (sched xs A) (c : Thread nD τ) none (dst := (n : Thread nD τ)) (κ := K (barC n))
      (r := 0) (d := d) (by rw [duties_bar, if_pos rfl]; exact hd) (amount_bar xs A n 0 d) 1 (owed c (t + 1)) rfl (W := W))
    $$ [HO Ht Hp]
  · isplitr; · iexact HI
    isplitl [HO]; · iexact HO
    isplitl [Ht]; · iexact Ht
    isplitl [Hp]
    · rw [payload_bar]; iexact Hp
    · iexact Hr
  iintro HO
  iapply Hk
  iexists W; iexact HO

/-- The wait for both. -/
theorem wp_barWait {sem : Sem sig} (hs : sem = barS) {k : PUnit → PG F α} :
    iprop(Recs xs A K ι ∗ ow c 2 ∗ cred (tallyAt (barC c) 1 2) ∗ atPos ER (barC c) 0 ∅ 0)
      ⊢ iprop(((ow c 2 ∗ atPos ER (barC c) 1 ∅ 0 ∗ barKnow c) -∗ WP c (k ⟨⟩) Q) -∗ WP c (Prog.op (.semWait sem 2) k) Q) := by
  subst hs
  unfold ow
  iintro ⟨#HR, ⟨%W, HO⟩, Hc, Hat⟩ Hk
  ihave #HI := (Recs_inv xs A K ι (bar_mem c)) $$ HR
  ihave #Hlev := (Recs_lev xs A K ι) $$ HR
  iapply (Rounds.wp_wait_rest_token 𝒱₀ ER (sched xs A) (c : Thread nD τ) none (κ := K (barC c))
      (wpE_semWait_eq 𝒱₀ (c : Thread nD τ) none Set.univ) (Set.mem_univ _) 1 (O := owed c 2) (W := W) (R := 0) (m := 0) (T := ∅)
      (by unfold Schedule.expect Schedule.amountOf
          rw [duties_bar, if_pos rfl, Finset.sum_congr rfl fun d _ => amount_bar xs A c 0 d]; rfl)) $$ [Hc HO Hat]
  · isplitr; · iexact HI
    isplitl [Hc]; · iexact Hc
    isplitl [HO]; · iexact HO
    isplitr; · iapply (may c (SemLoc.reg barS) 1 2 (by omega) (by omega)); iexact Hlev
    iexact Hat
  iintro ⟨HO, Hat, -, Hpay⟩
  have e2 : bigSep ((sched xs A).duties (barC c) 0 \ ∅) (fun d => (sched xs A).payload (barC c) 0 d) = barKnow (F := F) c := by
    rw [Finset.sdiff_empty, duties_bar, if_pos rfl, bigSep_congr fun d _ => payload_bar xs A c 0 d]
    exact (bigSep_insert (by decide)).trans (congrArg (fun t => iprop(barPay c 0 ∗ t)) bigSep_singleton)
  ihave Hpay := (Entails.of_eq e2) $$ Hpay
  iapply Hk
  isplitl [HO]; · iexists _; iexact HO
  isplitl [Hat] <;> iassumption

/-! ## The first copies -/

theorem Ctx_recs : Ctx xs A K ι c ⊢ Recs xs A K ι := by
  unfold Ctx; iintro ⟨H, -⟩; iexact H
theorem Ctx_bar : Ctx xs A K ι c ⊢ barKnow c := by
  unfold Ctx; iintro ⟨-, H⟩; iexact H

/-- Before the first copy of index `t`: the lanes whose copy is under way. -/
def FS (t : ℕ) : sProp 𝕄 :=
  iprop(ow c t ∗ heard c ∗ bigSep Finset.univ fun u => if ridx u 0 < t then lane xs c u 0 else lane0 xs c u)
theorem ridx0_inj : ∀ u u' : Fin 8, ridx u 0 = ridx u' 0 → u = u' := by decide

theorem go_send (u : Fin 8) {nD' : Dev nD} (hd : nD'.val = (dn u c).val)
    {sS sR : DmaSem sig} (hsS : sS = sendS u (par 0)) (hsR : sR = recvS u (par 0))
    {src : Memref sig .tc .vmem S32x4096 .f32} (hsrc : src = xpiece u)
    {dst : Memref sig (Dev.tc nD' : Thread nD τ).2.kind .vmem S32x4096 .f32} (hdst : dst = piece u (par 0))
    {hsc : dst.view.ref.isScScratch = false} {h1 : src.view.WordExact} {h2 : dst.view.WordExact}
    {hsem : DmaTarget.Typed .vmem (.dma sR) (.remote (Dev.tc nD' : Thread nD τ) dst (.dma sS) hsc)} {k : PUnit → PG F α}
    (hk : iprop(Ctx xs A K ι c ∗ FS xs c (ridx u 0 + 1) ∗ R) ⊢ WP c (k ⟨⟩) Q) :
    iprop(Ctx xs A K ι c ∗ FS xs c (ridx u 0) ∗ R)
      ⊢ WP c (Prog.op (.enqueueDma src (.remote (Dev.tc nD' : Thread nD τ) dst (.dma sS) hsc) (.dma sR) h1 h2 hsem) k) Q := by
  have hw := wp_first (Q := Q) xs A K ι c u (Fin.ext hd) hsS hsR hsrc hdst (hsc := hsc) (h1 := h1) (h2 := h2) (hsem := hsem) (ridx u 0) rfl (k := k)
  unfold FS at hk ⊢
  iintro ⟨#HC, ⟨HO, #Hh, HL⟩, HR⟩
  ihave HL := (bigSep_univ_update (Φ := fun u' => if ridx u' 0 < ridx u 0 then lane xs c u' 0 else lane0 xs c u')
    (Ψ := fun u' => if ridx u' 0 < ridx u 0 + 1 then lane xs c u' 0 else lane0 xs c u') u
    (fun u' hu => by
      have : ridx u' 0 ≠ ridx u 0 := fun e => hu (ridx0_inj _ _ e)
      by_cases h : ridx u' 0 < ridx u 0
      · rw [if_pos h, if_pos (by omega)]
      · rw [if_neg h, if_neg (by omega)])) $$ HL
  rw [if_neg (Nat.lt_irrefl _), if_pos (Nat.lt_succ_self _)]
  icases HL with ⟨HL, Hback⟩
  ihave #HRec := (Ctx_recs xs A K ι c) $$ HC
  ihave #HB := (Ctx_bar xs A K ι c) $$ HC
  iapply hw $$ [HO HL]
  · isplitr; · iexact HRec
    isplitr; · iexact HB
    isplitr; · iexact Hh
    isplitl [HO] <;> iassumption
  iintro ⟨HO, HL⟩
  iapply hk
  isplitr; · iexact HC
  isplitr [HR]
  · isplitl [HO]; · iexact HO
    isplitr; · iexact Hh
    iapply Hback $$ HL
  · iexact HR

theorem emps {I : Type} [DecidableEq I] (s : Finset I) {Φ : I → sProp 𝕄} (h : ∀ i ∈ s, Φ i = iprop(emp)) : (iprop(emp) : sProp 𝕄) ⊢ bigSep s Φ := by
  induction s using Finset.induction_on with
  | empty => exact Entails.of_eq bigSep_empty.symm
  | insert i s hi ih =>
    have e1 : bigSep (insert i s) Φ = iprop(Φ i ∗ bigSep s Φ) := bigSep_insert hi
    rw [e1, h i (Finset.mem_insert_self i s)]
    iintro -
    isplitl []; · iempintro
    iapply (ih fun j hj => h j (Finset.mem_insert_of_mem hj))
    iempintro

theorem crs_zero (l : Bool) : atPos ER (crC c l) 0 ∅ 0 ⊢ (crs c l (dB l 0) : sProp 𝕄) := by
  have hd : dB l 0 = 0 := by revert l; decide
  have hK : crK l 0 = 0 := by revert l; decide
  have hm : (crD l).filter (· < 0) = ∅ := by simp
  unfold crs crSt mines
  rw [hd, hK, hm, bigSep_empty]
  iintro H
  isplitl; swap; · iempintro
  iexists (∅ : Finset ℕ)
  isplitr
  · ipureintro
    exact ⟨Finset.empty_subset _, by rw [Finset.sdiff_empty, crD_card]⟩
  isplitl; · iexact H
  rw [bigSep_empty]
  iempintro

/-- After the first copies the exchange starts. -/
theorem FS_end : iprop(FS xs c 10 ∗ (bigSep (Finset.range 128) fun k => stepRes c (laneN k) (k / 8)) ∗ bigSep Finset.univ fun l : Bool => atPos ER (crC c l) 0 ∅ 0)
    ⊢ (St xs c 0 : sProp 𝕄) := by
  have hlt : ∀ u : Fin 8, ridx u 0 < 10 := by decide
  have hp : ∀ u : Fin 8, prog 0 u = 0 := by decide
  have e1 : (bigSep Finset.univ fun u => if ridx u 0 < 10 then lane xs c u 0 else lane0 xs c u : sProp 𝕄) = bigSep Finset.univ fun u => lane xs c u (prog 0 u) :=
    bigSep_congr fun u _ => by rw [if_pos (hlt u), hp u]
  have e4 : Finset.Ico 0 128 = Finset.range 128 := by rw [Finset.range_eq_Ico]
  unfold FS St
  rw [e1, e4]
  iintro ⟨⟨HO, -, HL⟩, Hr, Hc⟩
  isplitl [HO]; · iexact HO
  isplitl [Hr]; · iexact Hr
  isplitl [HL]; · iexact HL
  isplitr
  · iapply (emps (F := F) Finset.univ (fun u _ => by rw [hp u]; rfl)); iempintro
  · iapply (mono (F := F) fun l _ => crs_zero (F := F) c l) $$ Hc

end Cert.Pf
end
-- ==== Proof.Begin.lean ====
/-
# 01_k — `Begin`: from the entry of the body to the exchange, and the quantisation at its end

The barrier's two signals and its wait, the loads of the weights and of the device's rows with the store of its own block, and
the last loads and store.
-/
module

public import proofs.«01_k».proof.Proof.Start

@[expose] public section

set_option maxRecDepth 20000

noncomputable section

namespace Cert.Pf

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F] [Facts]
local notation "𝕄" => MT nD τ sig ℕ (Elt F) ℕ UU ℕ

variable (xs : Dev nD → S128x4096.Idx → Elt F .f32) (A : ℕ → Dev nD → Elt F .f32)
variable (K : GSem nD τ sig → ℕ) (ι : Key → ℕ)
variable (c : Dev nD) {α : Type} {Q : α → sProp (MT nD τ sig ℕ (Elt F) ℕ UU ℕ)}
variable (R : sProp (MT nD τ sig ℕ (Elt F) ℕ UU ℕ))

/-! ## The barrier -/

/-- A lane once its pieces are released, the rows apart. -/
def laneReady (u : Fin 8) : sProp 𝕄 := iprop(lanePos c u 0 ∗ laneRd c u 0 ∗ sendTok c u 0)
/-- What the barrier takes, and what it leaves. -/
def Entry : sProp 𝕄 :=
  iprop(ow c 0 ∗ barIn c ∗ (bigSep Finset.univ fun q => pieceIn c q) ∗ (bigSep Finset.univ fun s => bfIn c s) ∗ bigSep Finset.univ fun u => laneIn c u)
def Mid : sProp 𝕄 := iprop(ow c 2 ∗ heard c ∗ bigSep Finset.univ fun u => laneReady c u)

theorem lane_ready (u : Fin 8) :
    iprop(Recs xs A K ι ∗ (laneIn c u ∗ bigSep Finset.univ fun p : Fin 2 => readerAt ES (keyL c u p) 1)) ⊢ (laneReady c u : sProp 𝕄) := by
  have e2 : (bigSep Finset.univ fun p : Fin 2 => readerAt ES (keyL c u p) 1 : sProp 𝕄) = iprop(readerAt ES (keyL c u 0) 1 ∗ readerAt ES (keyL c u 1) 1) :=
    bigSep_fin_two _
  rw [e2]
  unfold laneIn laneReady lanePos laneRd posR posS
  iintro ⟨#HR, ⟨⟨Hr0, Hs0⟩, ⟨Hr1, Hs1⟩, Ht⟩, Hp0, Hp1⟩
  ihave #Q0 := (Recs_reached xs A K ι (recv_mem c u 0)) $$ HR
  ihave #Q1 := (Recs_reached xs A K ι (send_mem c u 0)) $$ HR
  ihave #Q2 := (Recs_reached xs A K ι (recv_mem c u 1)) $$ HR
  ihave #Q3 := (Recs_reached xs A K ι (send_mem c u 1)) $$ HR
  isplitl [Hr0 Hs0 Hr1 Hs1]
  · isplitl [Hr0 Hs0]
    · isplitl [Hr0]
      · isplitl [Hr0]; · iexact Hr0
        iexact Q0
      · isplitl [Hs0]; · iexact Hs0
        iexact Q1
    · isplitl [Hr1]
      · isplitl [Hr1]; · iexact Hr1
        iexact Q2
      · isplitl [Hs1]; · iexact Hs1
        iexact Q3
  isplitl [Hp0 Hp1]
  · isplitl [Hp0]; · iexact Hp0
    iexact Hp1
  iexact Ht

theorem dn_left (u : Fin 8) (h : goesL u = decide (0 = 1)) : dn u (rot 31 c) = c := by
  have e : dnK u = 1 := by revert u; decide
  unfold dn; rw [e, rot_rot]; exact rot_zero c
theorem dn_right (u : Fin 8) (h : goesL u = decide (1 = 1)) : dn u (rot 1 c) = c := by
  have e : dnK u = 31 := by revert u; decide
  unfold dn; rw [e, rot_rot]; exact rot_zero c

theorem go_barrier {n₁ n₂ : Dev nD} (h₁ : n₁.val = (rot 31 c).val) (h₂ : n₂.val = (rot 1 c).val)
    {s₁ s₂ s₃ : Sem sig} (hs₁ : s₁ = barS) (hs₂ : s₂ = barS) (hs₃ : s₃ = barS) {k : PUnit → PG F α}
    (hk : iprop(Ctx xs A K ι c ∗ Mid c ∗ atPos ER (barC c) 1 ∅ 0 ∗ R) ⊢ WP c (k ⟨⟩) Q) :
    iprop(Recs xs A K ι ∗ Entry c ∗ R)
      ⊢ WP c (Prog.op (.semSignal (Dev.tc n₁ : Thread nD τ) s₁ 1) fun _ => Prog.op (.semSignal (Dev.tc n₂ : Thread nD τ) s₂ 1) fun _ => Prog.op (.semWait s₃ 2) k) Q := by
  have hw₁ := fun k' => wp_bar (Q := Q) xs A K ι c 0 0 (by omega) (rot 31 c) rfl (by decide) h₁ hs₁ (k := k')
  have hw₂ := fun k' => wp_bar (Q := Q) xs A K ι c 1 1 (by omega) (rot 1 c) rfl (by decide) h₂ hs₂ (k := k')
  have hw₃ := wp_barWait (Q := Q) xs A K ι c hs₃ (k := k)
  have hb₁ := released_bar (F := F) c 0 (rot 31 c) (dn_left c)
  have hb₂ := released_bar (F := F) c 1 (rot 1 c) (dn_right c)
  have esep : (bigSep Finset.univ fun q : Fin 8 × Fin 2 => iprop(readerAt ES (keyL c q.1 q.2) 1 ∗ released ES (keyL c q.1 q.2) 1) : sProp 𝕄)
      = iprop((bigSep Finset.univ fun q : Fin 8 × Fin 2 => readerAt ES (keyL c q.1 q.2) 1) ∗ bigSep Finset.univ fun q : Fin 8 × Fin 2 => released ES (keyL c q.1 q.2) 1) :=
    bigSep_sep _ _ _
  have eprod : (bigSep Finset.univ fun q : Fin 8 × Fin 2 => readerAt ES (keyL c q.1 q.2) 1 : sProp 𝕄)
      = bigSep Finset.univ fun u : Fin 8 => bigSep Finset.univ fun p : Fin 2 => readerAt ES (keyL c u p) 1 := bigSep_univ_prod _
  have ejoin : (bigSep Finset.univ fun u : Fin 8 => iprop(laneIn c u ∗ bigSep Finset.univ fun p : Fin 2 => readerAt ES (keyL c u p) 1) : sProp 𝕄)
      = iprop((bigSep Finset.univ fun u => laneIn c u) ∗ bigSep Finset.univ fun u : Fin 8 => bigSep Finset.univ fun p : Fin 2 => readerAt ES (keyL c u p) 1) :=
    bigSep_sep _ _ _
  have hlanes := each (F := F) (P := Recs xs A K ι) Finset.univ fun u _ => lane_ready xs A K ι c u
  rw [ejoin] at hlanes
  have hp := release_pieces xs A K ι c
  rw [esep, eprod] at hp
  have hsl := release_slots xs A K ι c
  unfold Entry barIn
  iintro ⟨#HRec, ⟨HO, ⟨Ht0, Ht1, Hat, Hcr⟩, Hp, Hb, Hl⟩, HR⟩
  imod hp $$ [Hp] with ⟨Hrd, #Hrel⟩
  · isplitr; · iexact HRec
    iexact Hp
  imod hsl $$ [Hb] with #Hh
  · isplitr; · iexact HRec
    iexact Hb
  ihave #Hb1 := hb₁ $$ Hrel
  ihave #Hb2 := hb₂ $$ Hrel
  iapply (hw₁ _) $$ [HO Ht0]
  · isplitr; · iexact HRec
    isplitl [HO]; · iexact HO
    isplitl [Ht0]; · iexact Ht0
    iexact Hb1
  iintro HO
  iapply (hw₂ _) $$ [HO Ht1]
  · isplitr; · iexact HRec
    isplitl [HO]; · iexact HO
    isplitl [Ht1]; · iexact Ht1
    iexact Hb2
  iintro HO
  iapply hw₃ $$ [HO Hcr Hat]
  · isplitr; · iexact HRec
    isplitl [HO]; · iexact HO
    isplitl [Hcr]; · iexact Hcr
    iexact Hat
  iintro ⟨HO, Hat, #HB⟩
  iapply hk
  isplitr
  · unfold Ctx
    isplitr; · iexact HRec
    iexact HB
  isplitr [Hat HR]
  · unfold Mid
    isplitl [HO]; · iexact HO
    isplitr; · unfold heard; iexact Hh
    iapply hlanes
    isplitr; · iexact HRec
    isplitl [Hl]; · iexact Hl
    iexact Hrd
  isplitl [Hat] <;> iassumption

theorem assoc4 (A B C D : sProp 𝕄) : (iprop(A ∗ B ∗ C ∗ D) : sProp 𝕄) = iprop((A ∗ B ∗ C) ∗ D) := by
  have h₁ : (iprop(A ∗ B ∗ C ∗ D) : sProp 𝕄) ⊢ iprop((A ∗ B ∗ C) ∗ D) := by
    iintro ⟨H1, H2, H3, H4⟩
    isplitr [H4]
    · isplitl [H1]; · iexact H1
      isplitl [H2] <;> iassumption
    · iexact H4
  have h₂ : (iprop((A ∗ B ∗ C) ∗ D) : sProp 𝕄) ⊢ iprop(A ∗ B ∗ C ∗ D) := by
    iintro ⟨⟨H1, H2, H3⟩, H4⟩
    isplitl [H1]; · iexact H1
    isplitl [H2]; · iexact H2
    isplitl [H3] <;> iassumption
  exact BI.equiv_iff.mp ⟨h₁, h₂⟩

/-- With the device's rows the copies can start. -/
theorem Mid_FS : iprop(Mid c ∗ (xLoc c ↦{fullShare} (xs c : Buf (Elt F) (xLoc c)))) ⊢ (FS xs c 2 : sProp 𝕄) := by
  have hge : ∀ u : Fin 8, ¬ ridx u 0 < 2 := by decide
  have e1 : (bigSep Finset.univ fun u => if ridx u 0 < 2 then lane xs c u 0 else lane0 xs c u : sProp 𝕄)
      = bigSep Finset.univ fun u => iprop(laneReady c u ∗ owns (c : Thread nD τ) (xpiece u) (hX u) (X xs u c)) := by
    refine bigSep_congr fun u _ => ?_
    rw [if_neg (hge u)]
    unfold lane0 laneReady
    exact assoc4 _ _ _ _
  have e2 : (bigSep Finset.univ fun u => iprop(laneReady c u ∗ owns (c : Thread nD τ) (xpiece u) (hX u) (X xs u c)) : sProp 𝕄)
      = iprop((bigSep Finset.univ fun u => laneReady c u) ∗ bigSep Finset.univ fun u => owns (c : Thread nD τ) (xpiece u) (hX u) (X xs u c)) := bigSep_sep _ _ _
  rw [x_lanes xs c]
  unfold Mid FS
  rw [e1, e2]
  iintro ⟨⟨HO, Hh, HL⟩, HX⟩
  isplitl [HO]; · iexact HO
  isplitl [Hh]; · iexact Hh
  isplitl [HL] <;> iassumption

/-! ## Whole loads -/

theorem emb_zero {s : Shape} (off : Fin s.rank → ℕ) (h0 : ∀ a, off a = 0) (inb) (i : s.Idx) : (Rect.unit (s := s) off s.size inb).emb i = i := by
  funext a
  apply Fin.ext
  refine (ValueKit.rect_emb_unit_val _ _ _ i a).trans ?_
  rw [h0, Nat.zero_add]
theorem zero_two : ∀ a : Fin 2, (![0, 0] : Fin 2 → ℕ) a = 0 := by decide

abbrev wLoc : Loc nD τ sig := wM.view.loc (c : Thread nD τ)
theorem x_read (f : S128x4096.Idx → Elt F .f32) (inb) : (xM.access (Rect.unit (s := S128x4096) ![0, 0] S128x4096.size inb)).read (Elt F) f = f := by
  funext i
  show f ((Rect.unit (s := S128x4096) ![0, 0] S128x4096.size inb).emb i) = f i
  rw [emb_zero (s := S128x4096) ![0, 0] zero_two]
theorem w_read (f : S4096x64.Idx → Elt F .f32) (inb) : (wM.access (Rect.unit (s := S4096x64) ![0, 0] S4096x64.size inb)).read (Elt F) f = f := by
  funext i
  show f ((Rect.unit (s := S4096x64) ![0, 0] S4096x64.size inb).emb i) = f i
  rw [emb_zero (s := S4096x64) ![0, 0] zero_two]
theorem o_read (f : S4096x64.Idx → Elt F .f32) (inb) : (oM.access (Rect.unit (s := S4096x64) ![0, 0] S4096x64.size inb)).read (Elt F) f = f := by
  funext i
  show f ((Rect.unit (s := S4096x64) ![0, 0] S4096x64.size inb).emb i) = f i
  rw [emb_zero (s := S4096x64) ![0, 0] zero_two]

/-- The weights loaded. -/
theorem go_w (w : S4096x64.Idx → Elt F .f32) {inb} {hl : wM.view.LoadsAt (Rect.unit (s := S4096x64) ![0, 0] S4096x64.size inb)}
    {k : (S4096x64.Idx → Elt F .f32) → PG F α} {P : sProp (MT nD τ sig ℕ (Elt F) ℕ UU ℕ)}
    (hk : iprop(P ∗ (wLoc c ↦{fullShare} (w : Buf (Elt F) (wLoc c))) ∗ R) ⊢ WP c (k w) Q) :
    iprop(P ∗ (wLoc c ↦{fullShare} (w : Buf (Elt F) (wLoc c))) ∗ R) ⊢ WP c (Prog.op (.load wM (Rect.unit (s := S4096x64) ![0, 0] S4096x64.size inb) hl) k) Q := by
  have hw := wp_load_rect (defs := defs₀ (F := F)) 𝒱₀ (c : Thread nD τ) none (Γ := .empty) Set.univ (Q := Q) (m := wM)
    (r := Rect.unit (s := S4096x64) ![0, 0] S4096x64.size inb) (hl := hl) (k := k) (S := Finset.univ) (q := fullShare) (f := w) (Finset.subset_univ _)
  rw [w_read w inb] at hw
  iintro ⟨HP, Hw, HR⟩
  iapply hw $$ Hw
  iintro Hw
  iapply hk
  isplitl [HP]; · iexact HP
  isplitl [Hw] <;> iassumption

/-- The device's rows loaded. -/
theorem go_x {inb} {hl : xM.view.LoadsAt (Rect.unit (s := S128x4096) ![0, 0] S128x4096.size inb)}
    {k : (S128x4096.Idx → Elt F .f32) → PG F α} {P : sProp (MT nD τ sig ℕ (Elt F) ℕ UU ℕ)}
    (hk : iprop(P ∗ (xLoc c ↦{fullShare} (xs c : Buf (Elt F) (xLoc c))) ∗ R) ⊢ WP c (k (xs c)) Q) :
    iprop(P ∗ (xLoc c ↦{fullShare} (xs c : Buf (Elt F) (xLoc c))) ∗ R) ⊢ WP c (Prog.op (.load xM (Rect.unit (s := S128x4096) ![0, 0] S128x4096.size inb) hl) k) Q := by
  have hw := wp_load_rect (defs := defs₀ (F := F)) 𝒱₀ (c : Thread nD τ) none (Γ := .empty) Set.univ (Q := Q) (m := xM)
    (r := Rect.unit (s := S128x4096) ![0, 0] S128x4096.size inb) (hl := hl) (k := k) (S := Finset.univ) (q := fullShare) (f := xs c) (Finset.subset_univ _)
  rw [x_read (xs c) inb] at hw
  iintro ⟨HP, Hw, HR⟩
  iapply hw $$ Hw
  iintro Hw
  iapply hk
  isplitl [HP]; · iexact HP
  isplitl [Hw] <;> iassumption

/-- The device's own block stored. -/
theorem go_own (W : FVec F S4096x64 .f32) {off : Fin 2 → ℕ} {inb} (hoff : off = ![128 * c.val, 0]) {r' : Rect S4096x64} {hl : oM.view.LoadsAt r'} {hc}
    {hx : (oM.access (Rect.unit (s := S4096x64) off S128x64.size inb)).Stores Finset.univ}
    {hm : Finset.univ = Finset.univ ∨ ∀ a, (Rect.unit (s := S4096x64) off S128x64.size inb).stride a = 1}
    {k : PUnit → PG F α} {P : sProp (MT nD τ sig ℕ (Elt F) ℕ UU ℕ)}
    (hk : iprop(P ∗ Outs c (Y xs c W) (rowsD c (0 + 1)) ∗ R) ⊢ WP c (k ⟨⟩) Q) :
    iprop(P ∗ Outs c (Y xs c W) (rowsD c 0) ∗ R)
      ⊢ WP c (Prog.op (.load oM r' hl) fun _ => Prog.op (.store oM (Rect.unit (s := S4096x64) off S128x64.size inb)
          (mm (shapeCast S128x4096 (xs c) hc) W) Finset.univ hx hm) k) Q := by
  refine go_out c R 0 (Y xs c W) (rowsD c 0) (rowsD c (0 + 1)) (fun j => ?_) (fun i hi => Or.inr ?_) hk
  · rw [shapeCast_self]
    exact Y_block xs c W 0 (by omega) off inb hoff j
  · subst hoff
    obtain ⟨j, hj, e⟩ := hi
    obtain rfl : j = 0 := by omega
    have e' : (i 0).val / 128 = c.val := e
    have hi1 : (i 1).val < 64 := (i 1).isLt
    rw [Rect.mem_set_unit]
    intro a
    fin_cases a
    · show 128 * c.val ≤ (i 0).val ∧ (i 0).val < 128 * c.val + 128; omega
    · exact ⟨Nat.zero_le _, by show (i 1).val < 0 + 64; omega⟩

/-! ## The end -/

/-- The block loaded, and stored as the quantisation makes it. -/
theorem go_finish (W : FVec F S4096x64 .f32) (G : (S4096x64.Idx → Elt F .f32) → S4096x64.Idx → Elt F .f32) {inb inb'}
    {hl : oM.view.LoadsAt (Rect.unit (s := S4096x64) ![0, 0] S4096x64.size inb)} {r' : Rect S4096x64} {hl' : oM.view.LoadsAt r'}
    {hx : (oM.access (Rect.unit (s := S4096x64) ![0, 0] S4096x64.size inb')).Stores Finset.univ}
    {hm : Finset.univ = Finset.univ ∨ ∀ a, (Rect.unit (s := S4096x64) ![0, 0] S4096x64.size inb').stride a = 1}
    {k : PUnit → PG F α} {P : sProp (MT nD τ sig ℕ (Elt F) ℕ UU ℕ)}
    (hk : iprop(P ∗ (oLoc c ↦{fullShare} (G (Y xs c W) : Buf (Elt F) (oLoc c))) ∗ R) ⊢ WP c (k ⟨⟩) Q) :
    iprop(P ∗ Outs c (Y xs c W) (rowsH c true) ∗ R)
      ⊢ WP c (Prog.op (.load oM (Rect.unit (s := S4096x64) ![0, 0] S4096x64.size inb) hl) fun v => Prog.op (.load oM r' hl') fun _ =>
          Prog.op (.store oM (Rect.unit (s := S4096x64) ![0, 0] S4096x64.size inb') (G v) Finset.univ hx hm) k) Q := by
  unfold Outs
  iintro ⟨HP, ⟨%f, %hf, H⟩, HR⟩
  obtain rfl : f = Y xs c W := funext fun i => hf i (rows_all c _ (i 0).isLt)
  have hw := fun k' => wp_load_rect (defs := defs₀ (F := F)) 𝒱₀ (c : Thread nD τ) none (Γ := .empty) Set.univ (Q := Q) (m := oM)
    (r := Rect.unit (s := S4096x64) ![0, 0] S4096x64.size inb) (hl := hl) (k := k') (S := Finset.univ) (q := fullShare) (f := Y xs c W) (Finset.subset_univ _)
  rw [o_read (Y xs c W) inb] at hw
  iapply (hw _) $$ H
  iintro H
  iapply (wp_load_rect (defs := defs₀ (F := F)) 𝒱₀ (c : Thread nD τ) none (Γ := .empty) Set.univ (Q := Q) (m := oM) (r := r') (hl := hl')
    (S := Finset.univ) (q := fullShare) (f := Y xs c W) (Finset.subset_univ _)) $$ H
  iintro H
  have hs := wp_store (defs := defs₀ (F := F)) 𝒱₀ (c : Thread nD τ) none (Γ := .empty) Set.univ (Q := Q) (m := oM)
    (r := Rect.unit (s := S4096x64) ![0, 0] S4096x64.size inb') (w := G (Y xs c W)) (Mk := Finset.univ) (hx := hx) (hm := hm)
    (k := k) (S := Finset.univ) (f := Y xs c W) (Finset.subset_univ _)
  have eW : (oM.access (Rect.unit (s := S4096x64) ![0, 0] S4096x64.size inb')).write (Elt F) (Y xs c W) (G (Y xs c W)) Finset.univ = G (Y xs c W) := by
    have e := View.read_write_univ (f := Y xs c W) (v := oM.access (Rect.unit (s := S4096x64) ![0, 0] S4096x64.size inb')) (G (Y xs c W))
    rwa [o_read] at e
  rw [eW] at hs
  iapply hs $$ H
  iintro H
  iapply hk
  isplitl [HP]; · iexact HP
  isplitl [H] <;> iassumption

end Cert.Pf
end
-- ==== Proof.Parts.lean ====
/-
# 01_k — `Parts`: what the body's statement is about

The largest entries as the body folds them, what the exchange leaves for the butterfly and for the end, and the changes of
grouping between the parts of the body.
-/
module

public import proofs.«01_k».proof.Proof.Begin

@[expose] public section

set_option maxRecDepth 20000

noncomputable section

namespace Cert.Pf

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F] [Facts]
local notation "𝕄" => MT nD τ sig ℕ (Elt F) ℕ UU ℕ

variable (xs : Dev nD → S128x4096.Idx → Elt F .f32) (A : ℕ → Dev nD → Elt F .f32)
variable (K : GSem nD τ sig → ℕ) (ι : Key → ℕ)
variable (c : Dev nD) {α : Type} {Q : α → sProp (MT nD τ sig ℕ (Elt F) ℕ UU ℕ)}
variable (R : sProp (MT nD τ sig ℕ (Elt F) ℕ UU ℕ))

variable (ws : Dev nD → S4096x64.Idx → Elt F .f32)

/-- The device's weights as the products read them. -/
def Wc : FVec F S4096x64 .f32 := shapeCast S4096x64 (ws c) Facts₀.shapeCasts_S4096x64_S4096x64

/-- The largest entry of the device's blocks up to hop `h`, and of all of them. -/
def amH : ℕ → F .f32
  | 0 => amx (mm (shapeCast S128x4096 (xs c) Facts₀.shapeCasts_S128x4096_S128x4096) (Wc c ws))
  | h + 1 => Scalar.maximumf (Scalar.maximumf (amH h) (amx (mm3 (one3 (xs (orig 0 h c))) (Wc c ws)))) (amx (mm3 (one3 (xs (orig 4 h c))) (Wc c ws)))
def amOwn : F .f32 :=
  Scalar.maximumf (Scalar.maximumf (amH xs c ws 15) (amxH (mmH3 (half3 false (xs (opp c))) (Wc c ws)))) (amxH (mmH3 (half3 true (xs (opp c))) (Wc c ws)))
/-- The largest entry known to a device after `s` stages of the butterfly. -/
def amT : ℕ → Dev nD → F .f32
  | 0, c => amOwn xs c ws
  | s + 1, c => Scalar.maximumf (amT s c) (amT s (partner ⟨s % 5, Nat.mod_lt _ (by decide)⟩ c))

/-- The block quantised by the scale `s`. -/
def quant (s : F .f32) (v : FVec F S4096x64 .f32) : FVec F S4096x64 .f32 :=
  mulf (extf .f32 (truncf .fp8e4m3 (divf (shapeCast S4096x64 v Facts₀.shapeCasts_S4096x64_S4096x64) (broadcast S4096x64 s)) Facts₀.bitsLt_fp8e4m3_f32) Facts₀.bitsLt_fp8e4m3_f32)
    (broadcast S4096x64 s)
def scaleT (c : Dev nD) : F .f32 := Scalar.divf (amT xs ws 5 c) (Scalar.ofBits .f32 0x43E00000#32)

theorem at_dev {f g : Dev nD → ℕ} (h : ∀ c, f c = g c) (c : Dev nD) : f c = g c := h c
theorem at_off {k : ℕ} {f g : Dev nD → Fin k → ℕ} (h : ∀ c, f c = g c) (c : Dev nD) : f c = g c := h c

/-! ## From the exchange to the butterfly -/

/-- What the exchange leaves of a lane. -/
def laneLeft (u : Fin 8) : sProp 𝕄 :=
  iprop(lanePos c u (last u + 1) ∗ xback xs c u 1
    ∗ owns (c : Thread nD τ) (piece u (par (last u))) hR (X xs u (orig u (last u) c))
    ∗ owns (c : Thread nD τ) (piece u (par (last u - 1))) fullShare (X xs u (orig u (last u - 1) c)))
def Left : sProp 𝕄 :=
  iprop((bigSep Finset.univ fun u => laneLeft xs c u) ∗ (bigSep Finset.univ fun u => kept xs c u (last u + 1)) ∗ bigSep Finset.univ fun l => crs c l (dB l 128))

theorem prog_end : ∀ u, prog 128 u = last u + 1 := by decide
theorem lane_left (u : Fin 8) : lane xs c u (prog 128 u) ⊢ iprop(hrd c u (last u + 1) ∗ laneLeft xs c u) := by
  rw [prog_end, lane_end xs c u _ (by omega)]
  unfold laneE laneLeft
  iintro ⟨H1, H2, H3, H4, H5⟩
  isplitl [H2]; · iexact H2
  isplitl [H1]; · iexact H1
  isplitl [H3]; · iexact H3
  isplitl [H4] <;> iassumption

theorem partner_heard : ∀ (c : Dev nD) (s : Fin 5), (∃ a : Fin 16, orig 0 a.val c = partner s c) ∨ ∃ a : Fin 16, orig 7 a.val c = partner s c := by decide +kernel
theorem hrd_pick (u : Fin 8) (n a : ℕ) (ha : a < n) : hrd (F := F) c u n ⊢ heard (orig u a c) := by
  unfold hrd
  exact pick (Φ := fun a => heard (F := F) (orig u a c)) (Finset.mem_range.mpr ha)

instance hrd_persistent (u : Fin 8) (n : ℕ) : BI.Persistent (hrd (F := F) c u n) := by unfold hrd; infer_instance

theorem hrd_all : (bigSep Finset.univ fun u : Fin 8 => hrd (F := F) c u (last u + 1)) ⊢ (heardB c : sProp 𝕄) := by
  have h0 : (bigSep Finset.univ fun u : Fin 8 => hrd (F := F) c u (last u + 1)) ⊢ hrd c 0 16 :=
    pick (Φ := fun u : Fin 8 => hrd (F := F) c u (last u + 1)) (Finset.mem_univ 0)
  have h7 : (bigSep Finset.univ fun u : Fin 8 => hrd (F := F) c u (last u + 1)) ⊢ hrd c 7 16 :=
    pick (Φ := fun u : Fin 8 => hrd (F := F) c u (last u + 1)) (Finset.mem_univ 7)
  have hs : ∀ s : Fin 5, (bigSep Finset.univ fun u : Fin 8 => hrd (F := F) c u (last u + 1)) ⊢ heard (partner s c) := fun s => by
    rcases partner_heard c s with ⟨a, e⟩ | ⟨a, e⟩
    · rw [← e]; exact h0.trans (hrd_pick c 0 16 a.val a.isLt)
    · rw [← e]; exact h7.trans (hrd_pick c 7 16 a.val a.isLt)
  have key : iprop((bigSep Finset.univ fun u : Fin 8 => hrd (F := F) c u (last u + 1)) ∗ bigSep Finset.univ fun _ : Fin 5 => iprop(emp)) ⊢ (heardB c : sProp 𝕄) := by
    unfold heardB
    refine each (F := F) Finset.univ fun s _ => ?_
    iintro ⟨H, -⟩
    iapply (hs s) $$ H
  iintro H
  iapply key
  isplitl; · iexact H
  iapply (emps (F := F) Finset.univ fun _ _ => rfl)
  iempintro

theorem St_BF : iprop(St xs c 128 ∗ bigSep Finset.univ fun s => bfTok c s) ⊢ (iprop(heardB c ∗ BF c 0 ∗ Left xs c) : sProp 𝕄) := by
  have e1 : (Finset.univ.filter fun s : Fin 5 => 0 ≤ s.val) = Finset.univ := by decide
  have e2 : (Finset.univ.filter fun s : Fin 5 => s.val < 0) = ∅ := by decide
  have e3 : (bigSep Finset.univ fun u => iprop(hrd c u (last u + 1) ∗ laneLeft xs c u) : sProp 𝕄)
      = iprop((bigSep Finset.univ fun u => hrd c u (last u + 1)) ∗ bigSep Finset.univ fun u => laneLeft xs c u) := bigSep_sep _ _ _
  have e4 : (bigSep Finset.univ fun u => kept xs c u (prog 128 u) : sProp 𝕄) = bigSep Finset.univ fun u => kept xs c u (last u + 1) :=
    bigSep_congr fun u _ => by rw [prog_end]
  have hl : (bigSep Finset.univ fun u => lane xs c u (prog 128 u) : sProp 𝕄) ⊢ bigSep Finset.univ fun u => iprop(hrd c u (last u + 1) ∗ laneLeft xs c u) :=
    mono (F := F) fun u _ => lane_left xs c u
  rw [e3] at hl
  unfold St BF Left
  rw [e1, e2, bigSep_empty, e4]
  iintro ⟨⟨HO, -, HL, HK, HC⟩, HT⟩
  ihave HL := hl $$ HL
  icases HL with ⟨HH, HL⟩
  ihave #HH := (hrd_all c) $$ HH
  isplitr; · iexact HH
  isplitl [HO HT]
  · isplitl [HO]; · iexact HO
    isplitl [HT]; · iexact HT
    iempintro
  isplitl [HL]; · iexact HL
  isplitl [HK] <;> iassumption

/-- A stage of the butterfly, the value it shares given otherwise. -/
theorem go_stage (s : Fin 5) {v : F .f32} (hv : v = A s.val c) {off : Fin 3 → ℕ} {inb} (hoff : off = ![s.val, 0, 0]) {off' : Fin 3 → ℕ} {inb'} (hoff' : off' = ![s.val, 0, 0])
    {off₀ : Fin 3 → ℕ} {inb₀} (hoff₀ : off₀ = ![s.val, 0, 0]) {hl : bfsM.view.LoadsAt (Rect.unit (s := S5x8x128) off₀ S1x8x128.size inb₀)} {hsh : S8x128.ShapeCasts S1x8x128}
    {hx : (bfsM.access (Rect.unit (s := S5x8x128) off S1x8x128.size inb)).Stores Finset.univ}
    {hm : Finset.univ = Finset.univ ∨ ∀ a, (Rect.unit (s := S5x8x128) off S1x8x128.size inb).stride a = 1}
    {n : Dev nD} (hn : n.val = (partner s c).val) {sS sR sS' sR' : DmaSem sig} (hsS : sS = bfsS s) (hsR : sR = bfrS s) (hsS' : sS' = bfsS s) (hsR' : sR' = bfrS s)
    {src : Memref sig .tc .vmem S8x128 .f32} (hsrc : src = bfs s)
    {dst : Memref sig (Dev.tc n : Thread nD τ).2.kind .vmem S8x128 .f32} (hdst : dst = bfd s)
    {hsc : dst.view.ref.isScScratch = false} {h1 : src.view.WordExact} {h2 : dst.view.WordExact}
    {hsem : DmaTarget.Typed .vmem (.dma sR) (.remote (Dev.tc n : Thread nD τ) dst (.dma sS) hsc)}
    {sp sp' : Space} {s1 s1' : Shape} {e1 e1' : EltTy}
    {src₁ : Memref sig .tc sp s1 e1} {dst₁ : Memref sig .tc .vmem S8x128 .f32} {a₁ : src₁.view.WordExact} {b₁ : dst₁.view.WordExact} (hN₁ : dst₁.view.dmaCredit = NF)
    {src₂ : Memref sig .tc sp' s1' e1'} {dst₂ : Memref sig .tc .vmem S8x128 .f32} {a₂ : src₂.view.WordExact} {b₂ : dst₂.view.WordExact} (hN₂ : dst₂.view.dmaCredit = NF)
    {hl' : bfdM.view.LoadsAt (Rect.unit (s := S5x8x128) off' S1x1x1.size inb')}
    {k : (S1x1x1.Idx → Elt F .f32) → PG F α}
    (hk : iprop(Recs xs A K ι ∗ heardB c ∗ BF c (s.val + 1) ∗ R) ⊢ WP c (k fun _ => A s.val (partner s c)) Q) :
    iprop(Recs xs A K ι ∗ heardB c ∗ BF c s.val ∗ R)
      ⊢ WP c (Prog.op (.load bfsM (Rect.unit (s := S5x8x128) off₀ S1x8x128.size inb₀) hl) fun _ =>
          Prog.op (.store bfsM (Rect.unit (s := S5x8x128) off S1x8x128.size inb) (shapeCast S1x8x128 (broadcast S8x128 v) hsh) Finset.univ hx hm) fun _ =>
          Prog.op (.enqueueDma src (.remote (Dev.tc n : Thread nD τ) dst (.dma sS) hsc) (.dma sR) h1 h2 hsem) fun _ =>
          Prog.op (.waitDma2 sS' src₁ dst₁ a₁ b₁) fun _ => Prog.op (.waitDma2 sR' src₂ dst₂ a₂ b₂) fun _ =>
          Prog.op (.load bfdM (Rect.unit (s := S5x8x128) off' S1x1x1.size inb') hl') k) Q := by
  subst hv
  exact go_bf xs A K ι c R s hoff hoff' hoff₀ hn hsS hsR hsS' hsR' hsrc hdst hN₁ hN₂ hk

/-- The program the theorem below is about. -/
def body : PG F PUnit :=
  cc0_body (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) cc0_scratch2 cc0_scratch3 cc0_scratch4 cc0_scratch5 cc0_scratch6 cc0_scratch7
    (Memref.whole cc0_scratch8) (Memref.isWhole_whole _) (Memref.whole cc0_scratch9) (Memref.isWhole_whole _) cc0_scratch10 cc0_scratch11

/-- What the body leaves. -/
def After : sProp 𝕄 :=
  iprop(atPos ER (barC c) 1 ∅ 0 ∗ BF c 5 ∗ Left xs c ∗ (wLoc c ↦{fullShare} (ws c : Buf (Elt F) (wLoc c)))
    ∗ (oLoc c ↦{fullShare} (quant (scaleT xs ws c) (Y xs c (Wc c ws)) : Buf (Elt F) (oLoc c))))

theorem go_id {P : sProp (MT nD τ sig ℕ (Elt F) ℕ UU ℕ)} {k : Dev nD → PG F α} (hk : P ⊢ WP c (k c) Q) : P ⊢ WP c (Prog.op .deviceId k) Q := by
  exact hk.trans (Entails.of_eq (wp_deviceId (defs := defs₀ (F := F)) (𝒱 := 𝒱₀) (c := (c : Thread nD τ)) (bd := none) (Γ := .empty) Set.univ (Q := Q) (k := k)).symm)

theorem go_ret {P : sProp (MT nD τ sig ℕ (Elt F) ℕ UU ℕ)} {a : α} (hk : P ⊢ (|={Set.univ}=> Q a)) : P ⊢ WP c (Prog.ret a) Q := hk

/-! ## The semaphore an operation names -/

theorem sem_two {base : ℕ} {n : ℕ} {h : base + S2x4.numel ≤ n} {off : Fin 2 → ℕ} {inb : ∀ a, off a + S1x1.size a ≤ S2x4.size a} {hq : S1x1.Squeezes S_} {t : Fin n}
    (e : t.val = base + (off 0 * 4 + off 1)) :
    ((SemArray.slice (SemArray.consecutive base S2x4 h) (Rect.unit (s := S2x4) off S1x1.size inb)).squeeze S_ hq).sem = t := by
  refine Fin.ext (Eq.trans ?_ e.symm)
  show base + (S2x4.rowMajor ((Rect.unit (s := S2x4) off S1x1.size inb).emb (Shape.reshapeEquiv hq.numel_eq fun i => i.elim0))).val = _
  rw [Shape.rowMajor_val_two, ValueKit.rect_emb_unit_val, ValueKit.rect_emb_unit_val]
  generalize Shape.reshapeEquiv hq.numel_eq (fun i => i.elim0) = j
  have h0 : (j 0).val < 1 := (j 0).isLt
  have h1 : (j 1).val < 1 := (j 1).isLt
  show base + ((off 0 + (j 0).val) * 4 + (off 1 + (j 1).val)) = _
  omega

theorem sem_one {base : ℕ} {n : ℕ} {h : base + S5.numel ≤ n} {off : Fin 1 → ℕ} {inb : ∀ a, off a + S1.size a ≤ S5.size a} {hq : S1.Squeezes S_} {t : Fin n}
    (e : t.val = base + off 0) :
    ((SemArray.slice (SemArray.consecutive base S5 h) (Rect.unit (s := S5) off S1.size inb)).squeeze S_ hq).sem = t := by
  refine Fin.ext (Eq.trans ?_ e.symm)
  show base + (S5.rowMajor ((Rect.unit (s := S5) off S1.size inb).emb (Shape.reshapeEquiv hq.numel_eq fun i => i.elim0))).val = _
  rw [Shape.rowMajor_val_one, ValueKit.rect_emb_unit_val]
  generalize Shape.reshapeEquiv hq.numel_eq (fun i => i.elim0) = j
  have h0 : (j 0).val < 1 := (j 0).isLt
  omega

theorem sem_only {base : ℕ} {n : ℕ} {h : base + S_.numel ≤ n} {t : Fin n} (e : t.val = base) : (SemArray.consecutive base S_ h).sem = t := by
  refine Fin.ext (Eq.trans ?_ e.symm)
  have := (S_.rowMajor fun i => i.elim0).isLt
  have hn : S_.numel = 1 := rfl
  show base + (S_.rowMajor fun i => i.elim0).val = base
  omega

theorem to_w (P M B x w o r : sProp 𝕄) : iprop(P ∗ M ∗ B ∗ x ∗ w ∗ o ∗ r) ⊢ iprop((P ∗ M ∗ B) ∗ w ∗ (x ∗ o ∗ r)) := by
  iintro ⟨H1, H2, H3, H4, H5, H6, H7⟩
  isplitl [H1 H2 H3]
  · isplitl [H1]; · iexact H1
    isplitl [H2] <;> iassumption
  isplitl [H5]; · iexact H5
  isplitl [H4]; · iexact H4
  isplitl [H6] <;> iassumption
theorem to_x (P w x o r : sProp 𝕄) : iprop(P ∗ w ∗ (x ∗ o ∗ r)) ⊢ iprop(P ∗ x ∗ (w ∗ o ∗ r)) := by
  iintro ⟨H1, H2, H3, H4⟩
  isplitl [H1]; · iexact H1
  isplitl [H3]; · iexact H3
  isplitl [H2] <;> iassumption
theorem to_o (P w x o r : sProp 𝕄) : iprop(P ∗ x ∗ (w ∗ o ∗ r)) ⊢ iprop(P ∗ o ∗ (x ∗ w ∗ r)) := by
  iintro ⟨H1, H2, H3, H4, H5⟩
  isplitl [H1]; · iexact H1
  isplitl [H4]; · iexact H4
  isplitl [H2]; · iexact H2
  isplitl [H3] <;> iassumption
theorem to_FS (P B o w r : sProp 𝕄) : iprop((P ∗ Mid c ∗ B) ∗ o ∗ ((xLoc c ↦{fullShare} (xs c : Buf (Elt F) (xLoc c))) ∗ w ∗ r)) ⊢ iprop(P ∗ FS xs c 2 ∗ (o ∗ r ∗ B ∗ w)) := by
  iintro ⟨⟨H1, H2, H3⟩, H4, H5, H6, H7⟩
  isplitl [H1]; · iexact H1
  isplitl [H2 H5]
  · iapply (Mid_FS xs c)
    isplitl [H2] <;> iassumption
  isplitl [H4]; · iexact H4
  isplitl [H7]; · iexact H7
  isplitl [H3] <;> iassumption
theorem to_St (P o R' : sProp 𝕄) : iprop(P ∗ FS xs c 10 ∗ (o ∗ roundsIn c ∗ R')) ⊢ iprop(P ∗ St xs c 0 ∗ (o ∗ (bigSep Finset.univ fun s => bfTok c s) ∗ R')) := by
  unfold roundsIn
  iintro ⟨H1, H2, H3, ⟨H4, H5, H6⟩, H7⟩
  isplitl [H1]; · iexact H1
  isplitl [H2 H4 H5]
  · iapply (FS_end xs c)
    isplitl [H2]; · iexact H2
    isplitl [H4] <;> iassumption
  isplitl [H3]; · iexact H3
  isplitl [H6] <;> iassumption
theorem to_skip (P R' : sProp 𝕄) (n : ℕ) (hn : n < 128) (hl : live n = false) : iprop(P ∗ St xs c n ∗ R') ⊢ iprop(P ∗ St xs c (n + 1) ∗ R') := by
  iintro ⟨H1, H2, H3⟩
  isplitl [H1]; · iexact H1
  isplitl [H2]
  · iapply (St_skip xs c n hn hl) $$ H2
  iexact H3
theorem to_BF (o R' : sProp 𝕄) : iprop(Ctx xs A K ι c ∗ St xs c 128 ∗ (o ∗ (bigSep Finset.univ fun s => bfTok c s) ∗ R')) ⊢ iprop(Recs xs A K ι ∗ heardB c ∗ BF c 0 ∗ (o ∗ Left xs c ∗ R')) := by
  iintro ⟨H1, H2, H3, H4, H5⟩
  ihave H1 := (Ctx_recs xs A K ι c) $$ H1
  ihave H2 := (St_BF xs c) $$ [H2 H4]
  · isplitl [H2] <;> iassumption
  icases H2 with ⟨H6, H7, H8⟩
  isplitl [H1]; · iexact H1
  isplitl [H6]; · iexact H6
  isplitl [H7]; · iexact H7
  isplitl [H3]; · iexact H3
  isplitl [H8] <;> iassumption
theorem to_end (P H B' L' B w o : sProp 𝕄) : iprop(P ∗ H ∗ B' ∗ (o ∗ L' ∗ B ∗ w)) ⊢ iprop((P ∗ B ∗ B' ∗ L' ∗ w) ∗ o ∗ H) := by
  iintro ⟨H1, H2, H3, H4, H5, H6, H7⟩
  isplitl [H1 H3 H5 H6 H7]
  · isplitl [H1]; · iexact H1
    isplitl [H6]; · iexact H6
    isplitl [H3]; · iexact H3
    isplitl [H5] <;> iassumption
  isplitl [H4] <;> iassumption
theorem to_after (P H o B B' L' w : sProp 𝕄) : iprop((P ∗ B ∗ B' ∗ L' ∗ w) ∗ o ∗ H) ⊢ iprop(P ∗ B ∗ B' ∗ L' ∗ w ∗ o) := by
  iintro ⟨⟨H1, H2, H3, H4, H5⟩, H6, -⟩
  isplitl [H1]; · iexact H1
  isplitl [H2]; · iexact H2
  isplitl [H3]; · iexact H3
  isplitl [H4]; · iexact H4
  isplitl [H5] <;> iassumption

end Cert.Pf
end
-- ==== Proof.Deal.lean ====
/-
# 01_k — `Deal`: what the launch hands out

Every semaphore of the exchange opens its invariant and every landing piece its release record. The right to pay a duty and the
right to write a piece go to the device that pays or writes; the credit for what others owe a device goes to that device.
-/
module

public import proofs.«01_k».proof.Proof.Parts

@[expose] public section

set_option maxRecDepth 20000

noncomputable section

namespace Cert.Pf

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F] [Facts]
local notation "𝕄" => MT nD τ sig ℕ (Elt F) ℕ UU ℕ

variable (xs : Dev nD → S128x4096.Idx → Elt F .f32) (A : ℕ → Dev nD → Elt F .f32)
variable (K : GSem nD τ sig → ℕ) (ι : Key → ℕ)
variable (c : Dev nD) {α : Type} {Q : α → sProp (MT nD τ sig ℕ (Elt F) ℕ UU ℕ)}
variable (R : sProp (MT nD τ sig ℕ (Elt F) ℕ UU ℕ))

/-! ## Families -/

theorem take {I J : Type} [Fintype I] [DecidableEq J] {s : Finset J} (f : I → J) (hf : Function.Injective f) (h : ∀ i, f i ∈ s)
    (Φ : J → sProp 𝕄) : (bigSep s Φ : sProp 𝕄) ⊢ bigSep Finset.univ fun i => Φ (f i) := by
  have e : bigSep (Finset.univ.map ⟨f, hf⟩) Φ = bigSep Finset.univ fun i => Φ (f i) := bigSep_map _
  rw [← e]
  exact bigSep_subset (fun j hj => by obtain ⟨i, -, rfl⟩ := Finset.mem_map.mp hj; exact h i)
theorem sum2 {I J : Type} [Fintype I] [Fintype J] (Φ : I ⊕ J → sProp 𝕄) :
    bigSep Finset.univ Φ = iprop((bigSep Finset.univ fun i => Φ (.inl i)) ∗ bigSep Finset.univ fun j => Φ (.inr j)) := bigSep_univ_sum Φ
theorem sep2 {P P' S S' : sProp 𝕄} (h : P = P') (h' : S = S') : iprop(P ∗ S) = iprop(P' ∗ S') := by rw [h, h']
theorem turn {I : Type} [Fintype I] (e : I → Dev nD ≃ Dev nD) (Φ : Dev nD → I → sProp 𝕄) :
    (bigSep Finset.univ fun c => bigSep Finset.univ fun i => Φ c i) = bigSep Finset.univ fun c => bigSep Finset.univ fun i => Φ (e i c) i := by
  rw [BI.bigSep_univ_comm Φ, BI.bigSep_univ_comm (fun c i => Φ (e i c) i)]
  exact bigSep_congr fun i _ => bigSep_univ_equiv (e i) fun c => Φ c i
theorem range_fin (n : ℕ) (Φ : ℕ → sProp 𝕄) : bigSep (Finset.range n) Φ = bigSep Finset.univ fun i : Fin n => Φ i.val := by
  have e : Finset.range n = (Finset.univ : Finset (Fin n)).map ⟨Fin.val, Fin.val_injective⟩ := by
    ext k
    rw [Finset.mem_range, Finset.mem_map]
    exact ⟨fun h => ⟨⟨k, h⟩, Finset.mem_univ _, rfl⟩, fun ⟨i, _, h⟩ => h ▸ i.isLt⟩
  rw [e]; exact bigSep_map _
/-- All of a family at device 0. -/
theorem at_zero (P : sProp 𝕄) : P ⊢ bigSep Finset.univ fun c : Dev nD => if c = 0 then P else iprop(emp) := by
  have e : (bigSep (Finset.univ.erase (0 : Dev nD)) fun _ => (iprop(emp) : sProp 𝕄)) = iprop(emp) := bigSep_emp_const _
  rw [bigSep_univ_at _ (0 : Dev nD), if_pos rfl, bigSep_congr (fun c hc => if_neg (Finset.mem_erase.mp hc).1), e]
  iintro H
  isplitl; · iexact H
  iempintro
theorem at_zero' (P : sProp 𝕄) : (bigSep Finset.univ fun c : Dev nD => if c = 0 then P else iprop(emp)) ⊢ P := by
  refine (pick (Finset.mem_univ (0 : Dev nD))).trans ?_
  rw [if_pos rfl]

def rotE (k : Fin 32) : Dev nD ≃ Dev nD where
  toFun := rot k
  invFun := rot (-k)
  left_inv c := by rw [rot_rot, add_neg_cancel, rot_zero]
  right_inv c := by rw [rot_rot, neg_add_cancel, rot_zero]
def partnerE (s : Fin 5) : Dev nD ≃ Dev nD where
  toFun := partner s
  invFun := partner s
  left_inv := partner_partner s
  right_inv := partner_partner s

/-! ## The duties by payer -/

def sIx (u : Fin 8) (a : ℕ) : Fin 45 := ⟨16 * dirN u + 4 * (a % 2) + u.val % 4, by unfold dirN; cases goesL u <;> (simp only [cond]; omega)⟩
def rIx (u : Fin 8) (a : ℕ) : Fin 45 := ⟨8 + 16 * dirN u + 4 * (a % 2) + u.val % 4, by unfold dirN; cases goesL u <;> (simp only [cond]; omega)⟩
def crIx (l : Bool) : Fin 45 := bif l then 43 else 42
def bsIx (s : Fin 5) : Fin 45 := ⟨32 + s.val, by omega⟩
def brIx (s : Fin 5) : Fin 45 := ⟨37 + s.val, by omega⟩

theorem sIx_cell (u : Fin 8) (p : Fin 2) : kcell (c, sIx u p.val) = sendC c u p := congrArg (Prod.mk (c : Thread nD τ)) (by show csem (sIx u p.val) = _; revert u p; decide)
theorem rIx_cell (u : Fin 8) (p : Fin 2) : kcell (c, rIx u p.val) = recvC c u p := congrArg (Prod.mk (c : Thread nD τ)) (by show csem (rIx u p.val) = _; revert u p; decide)
theorem sIx_par (u : Fin 8) (a : ℕ) : kcell (c, sIx u a) = sendC c u (par a) := by
  rw [← sIx_cell]; congr 2; exact Fin.ext (by show _ + 4 * (a % 2) + _ = _ + 4 * (a % 2 % 2) + _; rw [Nat.mod_mod])
theorem rIx_par (u : Fin 8) (a : ℕ) : kcell (c, rIx u a) = recvC c u (par a) := by
  rw [← rIx_cell]; congr 2; exact Fin.ext (by show _ + 4 * (a % 2) + _ = _ + 4 * (a % 2 % 2) + _; rw [Nat.mod_mod])
theorem crIx_cell (l : Bool) : kcell (c, crIx l) = crC c l := congrArg (Prod.mk (c : Thread nD τ)) (by show csem (crIx l) = _; revert l; decide)
theorem bsIx_cell (s : Fin 5) : kcell (c, bsIx s) = bfsC c s := congrArg (Prod.mk (c : Thread nD τ)) (by show csem (bsIx s) = _; revert s; decide)
theorem brIx_cell (s : Fin 5) : kcell (c, brIx s) = bfrC c s := congrArg (Prod.mk (c : Thread nD τ)) (by show csem (brIx s) = _; revert s; decide)
theorem bar_cell : kcell (c, 44) = barC c := congrArg (Prod.mk (c : Thread nD τ)) (by show csem 44 = _; decide)

abbrev LA := Fin 8 × Fin 17
abbrev Tok := LA ⊕ (LA ⊕ (Fin 128 ⊕ (Fin 2 ⊕ (Fin 5 ⊕ Fin 5))))
/-- The number of the credit duty of step `k / 8`; those of the first steps are never paid. -/
def crNum (k : ℕ) : ℕ := if k / 8 = 0 then 1000 + k else 4 * (k / 8 - 1) + k % 8 % 4
def tokK : Tok → Fin 45 × ℕ × ℕ
  | .inl q => (sIx q.1 q.2.val, q.2.val / 2, 0)
  | .inr (.inl q) => (rIx q.1 q.2.val, q.2.val / 2, 0)
  | .inr (.inr (.inl k)) => (crIx (goesL (laneN k.val)), 0, crNum k.val)
  | .inr (.inr (.inr (.inl b))) => (44, 0, b.val)
  | .inr (.inr (.inr (.inr (.inl s)))) => (bsIx s, 0, 0)
  | .inr (.inr (.inr (.inr (.inr s)))) => (brIx s, 0, 0)
def tokB (x : Fin 45 × ℕ × ℕ) : Tok :=
  if x.1.val = 44 then .inr (.inr (.inr (.inl (Fin.ofNat 2 x.2.2))))
  else if 42 ≤ x.1.val then .inr (.inr (.inl (if 1000 ≤ x.2.2 then Fin.ofNat 128 (x.2.2 - 1000)
    else Fin.ofNat 128 (8 * (x.2.2 / 4 + 1) + 4 * (x.1.val - 42) + x.2.2 % 4))))
  else if 37 ≤ x.1.val then .inr (.inr (.inr (.inr (.inr (Fin.ofNat 5 (x.1.val - 37))))))
  else if 32 ≤ x.1.val then .inr (.inr (.inr (.inr (.inl (Fin.ofNat 5 (x.1.val - 32))))))
  else if x.1.val / 8 % 2 = 0 then .inl (Fin.ofNat 8 (4 * (x.1.val / 16) + x.1.val % 4), Fin.ofNat 17 (2 * x.2.1 + x.1.val / 4 % 2))
  else .inr (.inl (Fin.ofNat 8 (4 * (x.1.val / 16) + x.1.val % 4), Fin.ofNat 17 (2 * x.2.1 + x.1.val / 4 % 2)))
theorem tokB_tokK : ∀ t, tokB (tokK t) = t := by
  rintro (q | q | k | b | s | s)
  · revert q; decide +kernel
  · revert q; decide +kernel
  · revert k; decide +kernel
  · revert b; decide +kernel
  · revert s; decide +kernel
  · revert s; decide +kernel
theorem tokK_inj : Function.Injective tokK := Function.LeftInverse.injective tokB_tokK
def tokOf (q : Dev nD × Tok) : GSem nD τ sig × ℕ × ℕ := (kcell (q.1, (tokK q.2).1), (tokK q.2).2)
theorem tokOf_inj : Function.Injective tokOf := by
  rintro ⟨c, t⟩ ⟨c', t'⟩ h
  have h1 := kcell_inj (congrArg Prod.fst h)
  have h2 : (tokK t).2 = (tokK t').2 := congrArg (fun x : GSem nD τ sig × ℕ × ℕ => x.2) h
  have h3 : c = c' := congrArg Prod.fst h1
  have h4 : t = t' := tokK_inj (Prod.ext (congrArg Prod.snd h1) h2)
  rw [h3, h4]
def toks : Finset (GSem nD τ sig × ℕ × ℕ) := Finset.univ.map ⟨tokOf, tokOf_inj⟩

def barK (b : Fin 2) : Fin 32 := if b = 0 then 31 else 1
/-- The duties device `c` pays. -/
def dealt : sProp 𝕄 :=
  iprop((bigSep Finset.univ fun q : LA => dutyTok ER (sendC c q.1 (par q.2.val)) (q.2.val / 2) 0)
    ∗ (bigSep Finset.univ fun q : LA => dutyTok ER (recvC (dn q.1 c) q.1 (par q.2.val)) (q.2.val / 2) 0)
    ∗ (bigSep Finset.univ fun k : Fin 128 => dutyTok ER (crC (up (laneN k.val) c) (goesL (laneN k.val))) 0 (crNum k.val))
    ∗ (bigSep Finset.univ fun b : Fin 2 => dutyTok ER (barC (rot (barK b) c)) 0 b.val)
    ∗ (bigSep Finset.univ fun s : Fin 5 => dutyTok ER (bfsC c s) 0 0)
    ∗ bigSep Finset.univ fun s : Fin 5 => dutyTok ER (bfrC (partner s c) s) 0 0)

theorem toks_dealt : (bigSep toks fun x => dutyTok ER x.1 x.2.1 x.2.2 : sProp 𝕄) = bigSep Finset.univ fun c => dealt (F := F) c := by
  have e : (bigSep toks fun x => dutyTok ER x.1 x.2.1 x.2.2 : sProp 𝕄)
      = bigSep Finset.univ fun c : Dev nD => bigSep Finset.univ fun t : Tok => dutyTok ER (kcell (c, (tokK t).1)) (tokK t).2.1 (tokK t).2.2 := by
    unfold toks; rw [bigSep_map, bigSep_univ_prod]; rfl
  rw [e]
  unfold dealt
  simp only [sum2, bigSep_sep']
  refine sep2 ?_ (sep2 ?_ (sep2 ?_ (sep2 ?_ (sep2 ?_ ?_))))
  · exact bigSep_congr fun c _ => bigSep_congr fun q _ => by simp only [tokK]; rw [sIx_par]
  · refine Eq.trans ?_ (turn (fun q : LA => rotE (dnK q.1)) (fun c q => (dutyTok ER (recvC c q.1 (par q.2.val)) (q.2.val / 2) 0 : sProp 𝕄)))
    exact bigSep_congr fun c _ => bigSep_congr fun q _ => by simp only [tokK]; rw [rIx_par]
  · refine Eq.trans ?_ (turn (fun k : Fin 128 => rotE (upK (laneN k.val))) (fun c k => (dutyTok ER (crC c (goesL (laneN k.val))) 0 (crNum k.val) : sProp 𝕄)))
    exact bigSep_congr fun c _ => bigSep_congr fun k _ => by simp only [tokK]; rw [crIx_cell]
  · refine Eq.trans ?_ (turn (fun b : Fin 2 => rotE (barK b)) (fun c b => (dutyTok ER (barC c) 0 b.val : sProp 𝕄)))
    exact bigSep_congr fun c _ => bigSep_congr fun k _ => by simp only [tokK]; rw [bar_cell]
  · exact bigSep_congr fun c _ => bigSep_congr fun s _ => by simp only [tokK]; rw [bsIx_cell]
  · refine Eq.trans ?_ (turn (fun s : Fin 5 => partnerE s) (fun c s => (dutyTok ER (bfrC c s) 0 0 : sProp 𝕄)))
    exact bigSep_congr fun c _ => bigSep_congr fun s _ => by simp only [tokK]; rw [brIx_cell]

/-! ## The cells of a device -/

abbrev Own := (Fin 8 × Fin 2) ⊕ ((Fin 8 × Fin 2) ⊕ (Bool ⊕ (Fin 5 ⊕ Fin 5)))
def ownK : Own → Fin 45
  | .inl q => rIx q.1 q.2.val
  | .inr (.inl q) => sIx q.1 q.2.val
  | .inr (.inr (.inl l)) => crIx l
  | .inr (.inr (.inr (.inl s))) => bsIx s
  | .inr (.inr (.inr (.inr s))) => brIx s
def cellK : Fin 1 ⊕ Own → Fin 45
  | .inl _ => 44
  | .inr p => ownK p
def cellE : Fin 1 ⊕ Own ≃ Fin 45 := Equiv.ofBijective cellK ((Fintype.bijective_iff_injective_and_card _).mpr ⟨by decide, by decide⟩)
/-- The kernel's own semaphores. -/
def osem (p : Own) : SemLoc sig := csem (ownK p)

def ownOf (Φ : GSem nD τ sig → sProp (MT nD τ sig ℕ (Elt F) ℕ UU ℕ)) : sProp 𝕄 :=
  iprop((bigSep Finset.univ fun q : Fin 8 × Fin 2 => Φ (recvC c q.1 q.2)) ∗ (bigSep Finset.univ fun q : Fin 8 × Fin 2 => Φ (sendC c q.1 q.2))
    ∗ (bigSep Finset.univ fun l : Bool => Φ (crC c l)) ∗ (bigSep Finset.univ fun s : Fin 5 => Φ (bfsC c s)) ∗ bigSep Finset.univ fun s : Fin 5 => Φ (bfrC c s))
theorem own_groups (Φ : GSem nD τ sig → sProp (MT nD τ sig ℕ (Elt F) ℕ UU ℕ)) :
    (bigSep Finset.univ fun p : Own => Φ (kcell (c, ownK p))) = ownOf c Φ := by
  unfold ownOf
  simp only [sum2]
  refine sep2 ?_ (sep2 ?_ (sep2 ?_ (sep2 ?_ ?_)))
  · exact bigSep_congr fun q _ => by simp only [ownK]; rw [rIx_cell]
  · exact bigSep_congr fun q _ => by simp only [ownK]; rw [sIx_cell]
  · exact bigSep_congr fun q _ => by simp only [ownK]; rw [crIx_cell]
  · exact bigSep_congr fun q _ => by simp only [ownK]; rw [bsIx_cell]
  · exact bigSep_congr fun q _ => by simp only [ownK]; rw [brIx_cell]
theorem cells_all (Φ : GSem nD τ sig → sProp (MT nD τ sig ℕ (Elt F) ℕ UU ℕ)) :
    bigSep allC Φ = bigSep Finset.univ fun c : Dev nD => iprop(Φ (barC c) ∗ ownOf c Φ) := by
  have e : bigSep allC Φ = bigSep Finset.univ fun c : Dev nD => bigSep Finset.univ fun k : Fin 45 => Φ (kcell (c, k)) := by
    unfold allC; rw [bigSep_map, bigSep_univ_prod]; rfl
  rw [e]
  refine bigSep_congr fun c _ => ?_
  rw [bigSep_univ_equiv cellE, sum2]
  refine sep2 ?_ (own_groups c Φ)
  rw [Finset.univ_unique, bigSep_singleton]
  exact congrArg Φ (bar_cell c)
theorem ownSems_eq : (Pipeline.ownSems0 (Ix := ℕ) (Name := ℕ) (U := UU) (Lvl := ℕ) (Val := Elt F) (τ := τ) osem c : sProp 𝕄)
    = ownOf c fun g => semVal g 0 := own_groups c fun g => semVal g 0
theorem unscopedSems_eq : (unscopedSems0 c : sProp 𝕄) = semVal (barC c) 0 := by
  unfold unscopedSems0; rw [bigSep_eq_bigSepL_of_eq [SemLoc.reg barS] (by decide) (by decide)]; rfl

/-! ## The pieces -/

/-- The rights to write device `c` has. -/
def wrs : sProp 𝕄 :=
  iprop((bigSep Finset.univ fun q : LA => writeTok ES (keyL (dn q.1 c) q.1 (par q.2.val)) (q.2.val / 2 + 1))
    ∗ bigSep Finset.univ fun s : Fin 5 => writeTok ES (keyB (partner s c) s) 1)
def rds : sProp 𝕄 :=
  iprop((bigSep Finset.univ fun q : Fin 8 × Fin 2 => readerAt ES (keyL c q.1 q.2) 0) ∗ bigSep Finset.univ fun s : Fin 5 => readerAt ES (keyB c s) 0)

def wrK : LA ⊕ Fin 5 → ℕ × ℕ
  | .inl q => (2 * q.1.val + q.2.val % 2, q.2.val / 2)
  | .inr s => (16 + s.val, 0)
def wrB (x : ℕ × ℕ) : LA ⊕ Fin 5 :=
  if x.1 < 16 then .inl (Fin.ofNat 8 (x.1 / 2), Fin.ofNat 17 (2 * x.2 + x.1 % 2)) else .inr (Fin.ofNat 5 (x.1 - 16))
theorem wrB_wrK : ∀ t, wrB (wrK t) = t := by decide +kernel
theorem wrK_inj : Function.Injective wrK := Function.LeftInverse.injective wrB_wrK
theorem wrK_lt : ∀ i, (wrK i).1 < 21 ∧ (wrK i).2 < 9 := by decide +kernel
theorem wr_all : (bigSep (allK ×ˢ Finset.range 9) fun x => writeTok ES x.1 (x.2 + 1) : sProp 𝕄) ⊢ bigSep Finset.univ fun c => wrs (F := F) c := by
  refine (take (fun q : Dev nD × (LA ⊕ Fin 5) => (((q.1, (wrK q.2).1), (wrK q.2).2) : Key × ℕ)) ?_ ?_ _).trans ?_
  · rintro ⟨c, t⟩ ⟨c', t'⟩ h
    have h1 : c = c' := congrArg (fun x : Key × ℕ => x.1.1) h
    have h2 : t = t' := wrK_inj (Prod.ext (congrArg (fun x : Key × ℕ => x.1.2) h) (congrArg (fun x : Key × ℕ => x.2) h))
    rw [h1, h2]
  · rintro ⟨c, t⟩
    exact Finset.mem_product.mpr ⟨Finset.mem_product.mpr ⟨Finset.mem_univ _, Finset.mem_range.mpr (wrK_lt t).1⟩, Finset.mem_range.mpr (wrK_lt t).2⟩
  · refine Entails.of_eq ?_
    rw [bigSep_univ_prod]
    unfold wrs
    simp only [sum2, bigSep_sep']
    refine sep2 ?_ ?_
    · refine Eq.trans ?_ (turn (fun q : LA => rotE (dnK q.1)) (fun c q => (writeTok ES (keyL c q.1 (par q.2.val)) (q.2.val / 2 + 1) : sProp 𝕄)))
      rfl
    · refine Eq.trans ?_ (turn (fun s : Fin 5 => partnerE s) (fun c s => (writeTok ES (keyB c s) 1 : sProp 𝕄)))
      rfl
def rdK : (Fin 8 × Fin 2) ⊕ Fin 5 → ℕ
  | .inl q => 2 * q.1.val + q.2.val
  | .inr s => 16 + s.val
theorem rdK_inj : Function.Injective rdK := by decide
theorem rdK_lt : ∀ i, rdK i < 21 := by decide
theorem rd_all : (bigSep allK fun k => readerAt ES k 0 : sProp 𝕄) ⊢ bigSep Finset.univ fun c => rds (F := F) c := by
  refine (take (fun q : Dev nD × ((Fin 8 × Fin 2) ⊕ Fin 5) => ((q.1, rdK q.2) : Key)) ?_ ?_ _).trans ?_
  · rintro ⟨c, t⟩ ⟨c', t'⟩ h
    have h1 : c = c' := congrArg (fun x : Key => x.1) h
    have h2 : t = t' := rdK_inj (congrArg (fun x : Key => x.2) h)
    rw [h1, h2]
  · rintro ⟨c, t⟩
    exact Finset.mem_product.mpr ⟨Finset.mem_univ _, Finset.mem_range.mpr (rdK_lt t)⟩
  · refine Entails.of_eq ?_
    rw [bigSep_univ_prod]
    unfold rds
    simp only [sum2, bigSep_sep']
    rfl

/-! ## The launch's shared step -/

/-- What the launch mints. -/
def minted : sProp 𝕄 :=
  iprop((bigSep allC fun g => roundState ER (sched xs A) g 0) ∗ (bigSep allC fun g => reached ER g 0) ∗ (bigSep allC fun g => atPos ER g 0 ∅ 0)
    ∗ (bigSep toks fun x => dutyTok ER x.1 x.2.1 x.2.2) ∗ BI.own (ES (initSlots allK 9)))
def G : sProp 𝕄 := if c = 0 then minted xs A else iprop(emp)
theorem fund_all : BI.own ((embR : Emb (UB × USlots Key) 𝕄) (initOf allC toks, initSlots allK 9)) ⊢ (|==> bigSep Finset.univ (G xs A) : sProp 𝕄) := by
  have h : BI.own ((embR : Emb (UB × USlots Key) 𝕄) (initOf allC toks, initSlots allK 9))
      ⊢ (iprop(BI.own (ER (initOf allC toks)) ∗ BI.own (ES (initSlots allK 9))) : sProp 𝕄) :=
    BI.own_op_elim ((embR : Emb (UB × USlots Key) 𝕄).op_of_mem
      (Prod.mk_mem_op (URA.mem_op_one (initOf allC toks)) (URA.mem_one_op (initSlots allK 9))))
  iintro H
  ihave H := h $$ H
  icases H with ⟨HX, HS⟩
  imod (Rounds.fund ER (sched xs A) allC toks) $$ HX with ⟨Hst, Hr, Hat, Htok⟩
  imodintro
  iapply (at_zero (minted xs A))
  unfold minted
  isplitl [Hst]; · iexact Hst
  isplitl [Hr]; · iexact Hr
  isplitl [Hat]; · iexact Hat
  isplitl [Htok]; · iexact Htok
  iexact HS

def recs : sProp 𝕄 :=
  iprop((bigSep allC fun g => iprop(cellInv ER (sched xs A) (K g) g ∗ reached ER g 0)) ∗ bigSep allK fun k => slotInv ES (ι k) k (Sl k))
instance recs_persistent : BI.Persistent (recs xs A K ι) := by unfold recs; infer_instance
def places : sProp 𝕄 := iprop(atPos ER (barC c) 0 ∅ 0 ∗ ownOf c fun g => atPos ER g 0 ∅ 0)
def G' : sProp 𝕄 := iprop(∃ K ι, recs xs A K ι ∗ places c ∗ dealt c ∗ wrs c ∗ rds c)

theorem glob : (bigSep Finset.univ fun c => iprop(Pipeline.ownSems0 (Ix := ℕ) (Name := ℕ) (U := UU) (Lvl := ℕ) (Val := Elt F) (τ := τ) osem c ∗ unscopedSems0 c ∗ G xs A c) : sProp 𝕄)
    ⊢ |={Set.univ}=> bigSep Finset.univ (G' xs A) := by
  rw [bigSep_sep', bigSep_sep']
  iintro ⟨Ho, Hu, HG⟩
  ihave HG := (at_zero' (minted xs A)) $$ [HG]
  · unfold G; iexact HG
  unfold minted
  icases HG with ⟨Hst, #Hr, Hat, Htok, HS⟩
  have ev : iprop((bigSep Finset.univ fun c : Dev nD => (Pipeline.ownSems0 (Ix := ℕ) (Name := ℕ) (U := UU) (Lvl := ℕ) (Val := Elt F) (τ := τ) osem c : sProp 𝕄))
      ∗ bigSep Finset.univ fun c : Dev nD => (unscopedSems0 c : sProp 𝕄)) ⊢ bigSep allC fun g => (semVal g 0 : sProp 𝕄) := by
    rw [cells_all, bigSep_sep']
    simp only [ownSems_eq, unscopedSems_eq]
    iintro ⟨H1, H2⟩
    isplitl [H2] <;> iassumption
  ihave Hv := ev $$ [Ho Hu]
  · isplitl [Ho] <;> iassumption
  have ei : iprop((bigSep allC fun g => (semVal g 0 : sProp 𝕄)) ∗ bigSep allC fun g => roundState ER (sched xs A) g 0)
      ⊢ (|={Set.univ}=> bigSep allC fun g => iprop(∃ κ : ℕ, cellInv ER (sched xs A) κ g) : sProp 𝕄) := by
    rw [← bigSep_sep']
    exact (mono fun g _ => (Rounds.body_intro ER (sched xs A) g).trans inv_alloc).trans (bigSep_fupd _ _)
  imod ei $$ [Hv Hst] with Hinv
  · isplitl [Hv] <;> iassumption
  ihave HK := (BI.bigSep_exists_pi allC (fun (g : GSem nD τ sig) (κ : ℕ) => (cellInv ER (sched xs A) κ g : sProp 𝕄))) $$ Hinv
  icases HK with ⟨%K, #HI⟩
  imod (slots_init ES allK 9 (Sl (F := F))) $$ HS with ⟨%ι, -, #Hs, Hrd, Hwr⟩
  imodintro
  have eall : iprop(recs xs A K ι ∗ bigSep Finset.univ fun c => iprop(places (F := F) c ∗ dealt c ∗ wrs c ∗ rds c)) ⊢ bigSep Finset.univ (G' xs A) :=
    each Finset.univ fun c _ => by
      unfold G'
      iintro H
      iexists K, ι
      iexact H
  iapply eall
  isplitr
  · unfold recs
    rw [bigSep_sep']
    isplitl
    · isplitl; · iexact HI
      iexact Hr
    · iexact Hs
  rw [bigSep_sep', bigSep_sep', bigSep_sep', ← toks_dealt]
  isplitl [Hat]
  · have ep : (bigSep allC fun g => atPos ER g 0 ∅ 0 : sProp 𝕄) ⊢ bigSep Finset.univ fun c => places (F := F) c :=
      Entails.of_eq (cells_all fun g => atPos ER g 0 ∅ 0)
    iapply ep $$ Hat
  isplitl [Htok]; · iexact Htok
  isplitl [Hwr]; · iapply (wr_all (F := F)) $$ Hwr
  iapply (rd_all (F := F)) $$ Hrd

/-! ## The launch's credit -/

/-- What a device is credited for the `t`-th payment of the device that owes it. -/
def credT (t : ℕ) : sProp 𝕄 :=
  if t = 0 then cred (tallyAt (barC c) 1 1)
  else if t = 1 then cred (tallyAt (barC c) 1 1)
  else if t < 10 then cred (tallyAt (recvC c (laneT t) 0) t NB)
  else if t < 266 then
    if (t - 10) % 2 = 0 then
      if 1 ≤ (t - 10) / 2 / 8 ∧ (t - 10) / 2 / 8 < last (laneN ((t - 10) / 2)) then cred (tallyAt (crC c (goesL (laneN ((t - 10) / 2)))) t 1) else iprop(emp)
    else if (t - 10) / 2 / 8 < last (laneN ((t - 10) / 2)) then
      cred (tallyAt (recvC c (laneN ((t - 10) / 2)) (par ((t - 10) / 2 / 8 + 1))) t NB) else iprop(emp)
  else cred (tallyAt (bfrC c (stg t)) t NF)

theorem cred_rot (k : Fin 32) (sm : SemLoc sig) (i n : ℕ) :
    (Pipeline.launchCred (fun d => tallyAt ((rot k d : Thread nD τ), sm) i n) c : sProp 𝕄) ⊢ cred (tallyAt ((c : Thread nD τ), sm) i n) :=
  Pipeline.launchCred_tallyAt sm (rotE k) (rotE k).symm (rotE k).apply_symm_apply (rotE k).symm_apply_apply i n c
theorem cred_partner (s : Fin 5) (sm : SemLoc sig) (i n : ℕ) :
    (Pipeline.launchCred (fun d => tallyAt ((partner s d : Thread nD τ), sm) i n) c : sProp 𝕄) ⊢ cred (tallyAt ((c : Thread nD τ), sm) i n) :=
  Pipeline.launchCred_tallyAt sm (partner s) (partner s) (partner_partner s) (partner_partner s) i n c
theorem cred_due (t : ℕ) : (Pipeline.launchCred (fun d => due d t) c : sProp 𝕄) ⊢ credT c t := by
  unfold due credT dueCr dueSend
  split_ifs
  · exact cred_rot c 31 _ _ _
  · exact cred_rot c 1 _ _ _
  · exact cred_rot c (dnK (laneT t)) _ _ _
  · exact cred_rot c (upK _) _ _ _
  · exact Entails.of_eq (Pipeline.launchCred_zero c)
  · exact cred_rot c (dnK _) _ _ _
  · exact Entails.of_eq (Pipeline.launchCred_zero c)
  · exact cred_partner c (stg t) _ _ _

def recvCr (k : ℕ) : sProp 𝕄 :=
  if k / 8 ≤ last (laneN k) then cred (tallyAt (recvC c (laneN k) (par (k / 8))) (ridx (laneN k) (k / 8)) NB) else iprop(emp)
def crCr (k : ℕ) : sProp 𝕄 :=
  if 1 ≤ k / 8 ∧ k / 8 < last (laneN k) then cred (tallyAt (crC c (goesL (laneN k))) (10 + 2 * (8 * (k / 8) + (laneN k).val)) 1) else iprop(emp)

def credIx : Fin 2 ⊕ (Fin 128 ⊕ (Fin 128 ⊕ Fin 5)) → ℕ
  | .inl b => b.val
  | .inr (.inl k) => ridx (laneN k.val) (k.val / 8)
  | .inr (.inr (.inl k)) => 10 + 2 * k.val
  | .inr (.inr (.inr s)) => 266 + s.val
def credB (n : ℕ) : Fin 2 ⊕ (Fin 128 ⊕ (Fin 128 ⊕ Fin 5)) :=
  if n < 2 then .inl (Fin.ofNat 2 n)
  else if n < 10 then .inr (.inl (Fin.ofNat 128 (laneT n).val))
  else if n < 266 then if n % 2 = 0 then .inr (.inr (.inl (Fin.ofNat 128 ((n - 10) / 2)))) else .inr (.inl (Fin.ofNat 128 ((n - 11) / 2 + 8)))
  else .inr (.inr (.inr (Fin.ofNat 5 (n - 266))))
theorem credB_credIx : ∀ i, credB (credIx i) = i := by decide +kernel
theorem credIx_inj : Function.Injective credIx := Function.LeftInverse.injective credB_credIx
theorem credIx_lt : ∀ i, credIx i < 271 := by decide +kernel

theorem laneT_first : ∀ u : Fin 8, laneT (ridx u 0) = u ∧ 2 ≤ ridx u 0 ∧ ridx u 0 < 10 := by decide
theorem stg_ix : ∀ s : Fin 5, stg (266 + s.val) = s := by decide
theorem credT_recv (k : Fin 128) : credT (F := F) c (ridx (laneN k.val) (k.val / 8)) ⊢ recvCr c k.val := by
  obtain ⟨k, hk⟩ := k
  show credT (F := F) c (ridx (laneN k) (k / 8)) ⊢ recvCr c k
  unfold recvCr
  rcases Nat.eq_zero_or_pos (k / 8) with h0 | h0
  · rw [h0]
    obtain ⟨h1, h2, h3⟩ := laneT_first (laneN k)
    rw [if_pos (Nat.zero_le _)]
    unfold credT
    rw [if_neg (by omega), if_neg (by omega), if_pos h3, h1]
    exact Entails.refl _
  · obtain ⟨h, hh⟩ : ∃ h, k / 8 = h + 1 := ⟨k / 8 - 1, by omega⟩
    have e : ridx (laneN k) (k / 8) = 11 + 2 * (k - 8) := by
      rw [hh]; show 11 + 2 * (8 * h + k % 8) = _; omega
    have e1 : (11 + 2 * (k - 8) - 10) / 2 = k - 8 := by omega
    have e2 : (k - 8) / 8 = h := by omega
    have e3 : laneN (k - 8) = laneN k := Fin.ext (by show (k - 8) % 8 = k % 8; omega)
    rw [e]
    unfold credT
    rw [if_neg (by omega), if_neg (by omega), if_neg (by omega), if_pos (by omega), if_neg (by omega), e1, e2, e3, hh]
    by_cases hl : h < last (laneN k)
    · rw [if_pos hl, if_pos (by omega)]
    · rw [if_neg hl, if_neg (by omega)]
theorem credT_cr (k : Fin 128) : credT (F := F) c (10 + 2 * k.val) ⊢ crCr c k.val := by
  obtain ⟨k, hk⟩ := k
  show credT (F := F) c (10 + 2 * k) ⊢ crCr c k
  have e1 : (10 + 2 * k - 10) / 2 = k := by omega
  unfold credT crCr
  rw [if_neg (by omega), if_neg (by omega), if_neg (by omega), if_pos (by omega), if_pos (by omega), e1, div_add_lane]
theorem credT_bf (s : Fin 5) : credT (F := F) c (266 + s.val) ⊢ cred (tallyAt (bfrC c s) (266 + s.val) NF) := by
  unfold credT
  rw [if_neg (by omega), if_neg (by omega), if_neg (by omega), if_neg (by omega), stg_ix]

def credsIn : sProp 𝕄 :=
  iprop(cred (tallyAt (barC c) 1 2) ∗ (bigSep Finset.univ fun k : Fin 128 => recvCr c k.val) ∗ (bigSep Finset.univ fun k : Fin 128 => crCr c k.val)
    ∗ bigSep Finset.univ fun s : Fin 5 => cred (tallyAt (bfrC c s) (266 + s.val) NF))
theorem creds : (Pipeline.launchCred (fun d => owed d 0) c : sProp 𝕄) ⊢ credsIn c := by
  have e : (Pipeline.launchCred (fun d => owed d 0) c : sProp 𝕄) = bigSep (Finset.Ico 0 271) fun t => Pipeline.launchCred (fun d => due d t) c :=
    Pipeline.launchCred_sum (Finset.Ico 0 271) (fun t d => due d t) c
  rw [e]
  refine (mono fun t _ => cred_due c t).trans ((take credIx credIx_inj (fun i => Finset.mem_Ico.mpr ⟨Nat.zero_le _, credIx_lt i⟩) _).trans ?_)
  rw [sum2, sum2, sum2, bigSep_fin_two]
  unfold credsIn
  have e2 : iprop(cred (tallyAt (barC c) 1 1) ∗ cred (tallyAt (barC c) 1 1)) ⊢ (cred (tallyAt (barC c) 1 2) : sProp 𝕄) := by
    rw [show (tallyAt (barC c) 1 2 : CellTallies nD τ sig ℕ) = tallyAt (barC c) 1 1 + tallyAt (barC c) 1 1 from (tallyAt_add (barC c) 1 1 1).symm]
    exact (cred_add _ _).2
  have h1 : (bigSep Finset.univ fun k : Fin 128 => credT (F := F) c (credIx (.inr (.inl k)))) ⊢ bigSep Finset.univ fun k : Fin 128 => recvCr c k.val :=
    mono fun k _ => credT_recv c k
  have h2 : (bigSep Finset.univ fun k : Fin 128 => credT (F := F) c (credIx (.inr (.inr (.inl k))))) ⊢ bigSep Finset.univ fun k : Fin 128 => crCr c k.val :=
    mono fun k _ => credT_cr c k
  have h3 : (bigSep Finset.univ fun s : Fin 5 => credT (F := F) c (credIx (.inr (.inr (.inr s)))))
      ⊢ bigSep Finset.univ fun s : Fin 5 => cred (tallyAt (bfrC c s) (266 + s.val) NF) := mono fun s _ => credT_bf c s
  have h0 : iprop(credT (F := F) c (credIx (.inl 0)) ∗ credT c (credIx (.inl 1))) ⊢ cred (tallyAt (barC c) 1 2) := e2
  iintro ⟨Hb, Hr, Hc, Hs⟩
  isplitl [Hb]; · iapply h0 $$ Hb
  isplitl [Hr]; · iapply h1 $$ Hr
  isplitl [Hc]; · iapply h2 $$ Hc
  iapply h3 $$ Hs

end Cert.Pf

end
-- ==== Proof.FactsKernelIdeal.lean ====
/-
# 01_k — `FactsKernelIdeal`: the side conditions of the printed program `KernelIdeal`
-/
module

public import proofs.«01_k».proof.KernelIdeal
public import Idealize.ShloMosaic.Lib.Memref

@[expose] public section

set_option maxRecDepth 20000

namespace Cert.Pf

open Idealize.ShloMosaic

set_option maxHeartbeats 40000000 in
/-- The shapes fit and every computed device exists. -/
instance factsI₀ : Cert.KernelIdeal.Facts₀ := by
  constructor <;> first
    | decide +kernel
    | exact fun | 0 => Memref.isWhole_whole _ | ⟨_ + 1, h⟩ => absurd h (Nat.not_lt.2 (Nat.le_add_left _ _))
instance factsI : Cert.KernelIdeal.Facts := { toFacts₀ := factsI₀ }

end Cert.Pf
-- ==== Proof.Kit.lean ====
/-
# 01_k — `Kit`: the layout facts the launch takes

The staging semaphores are distinct, the windows' arrays and staging buffers whole, the scratch buffers the rest.
-/
module

public import proofs.«01_k».proof.Proof.Deal
public import proofs.«01_k».proof.Proof.FactsKernelIdeal
public import Idealize.ShloMosaic.Lib.Pipeline.Kit
public import Idealize.ShloMosaic.Lib.Pipeline.Regions

@[expose] public section

set_option maxRecDepth 20000

noncomputable section

namespace Cert.Pf

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]
local notation "𝕄" => MT nD τ sig ℕ (Elt F) ℕ UU ℕ

/-! ## The staging cells -/

abbrev semTab : Fin 1 → List (DmaSem sig) :=
  fun | 0 => Pipeline.specSems spec0 | ⟨_ + 1, h⟩ => absurd h (Nat.not_lt.2 (Nat.le_add_left _ _))
theorem semsDistinct : ∀ p : Fin 1, (semTab p).Nodup := by decide
theorem semsDisjoint : ∀ p p' : Fin 1, p ≠ p' → (semTab p).Forall (· ∉ semTab p') := by decide
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## The region -/

theorem winFacts0 : Pipeline.WinFacts spec0 := by decide
theorem arr_whole0 : ∀ w : Fin 3, (spec0 w).arr.IsWhole := fun | 0 => Memref.isWhole_whole _ | 1 => Memref.isWhole_whole _ | 2 => Memref.isWhole_whole _ | ⟨_ + 3, h⟩ => absurd h (Nat.not_lt.2 (Nat.le_add_left _ _))
theorem stage_whole0 : ∀ (w : Fin 3) (s : Fin (spec0 w).nbuf), ((spec0 w).stage s).IsWhole := fun | 0 => fun _ => Memref.isWhole_whole _ | 1 => fun _ => Memref.isWhole_whole _ | 2 => fun _ => Memref.isWhole_whole _ | ⟨_ + 3, h⟩ => absurd h (Nat.not_lt.2 (Nat.le_add_left _ _))

theorem N_0 : grid0.N = 1 := by decide
def t₀ : Fin cfg0.N := ⟨0, by rw [show cfg0.N = 1 from N_0]; decide⟩
theorem fin_N (t : Fin cfg0.N) : t = t₀ := by
  obtain ⟨t, ht⟩ := t
  have h : t < 1 := lt_of_lt_of_eq ht N_0
  exact Fin.ext (by show t = 0; omega)

theorem bigSep_W (Φ : Fin cfg0.W → sProp 𝕄) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ
theorem scopedRest0_eq (c : Dev nD) :
    (Pipeline.scopedRest (Ix := ℕ) (Name := ℕ) (U := UU) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f)) :=
  Pipeline.scopedRest_eq_of_list spec0 c [cc0_scratch0, cc0_scratch1, cc0_scratch8, cc0_scratch9] (by decide) (by decide)

theorem fetch0_0 : ∀ t : Fin cfg0.N, (cfg0.win 0).fetch t = true := (by decide +kernel : ∀ t : Fin grid0.N, win0_0.fetch t = true)
theorem fetch0_1 : ∀ t : Fin cfg0.N, (cfg0.win 1).fetch t = true := (by decide +kernel : ∀ t : Fin grid0.N, win0_1.fetch t = true)
theorem flush0_2 : ∀ t : Fin cfg0.N, (cfg0.win 2).flush t = true := (by decide +kernel : ∀ t : Fin grid0.N, win0_2.flush t = true)

/-! ## The body's own semaphores -/

theorem ownK_inj : Function.Injective ownK := fun a b h => Sum.inr_injective (cellE.injective (a₁ := .inr a) (a₂ := .inr b) h)
theorem ownSemFacts : Pipeline.OwnSemFacts cfg0.spec osem where
  isScoped k := by
    rcases k with q | q | l | s | s
    · revert q; decide
    · revert q; decide
    · revert l; decide
    · revert s; decide
    · revert s; decide
  inj a b h := ownK_inj (csem_inj h)
  disj k := by
    rcases k with q | q | l | s | s
    · revert q; decide
    · revert q; decide
    · revert l; decide
    · revert s; decide
    · revert s; decide

/-! ## A window's one block is its array -/

theorem blk_x (c : Dev nD) (f : Buf (Elt F) ((c : Thread nD τ).loc main_arg0)) : (win0_0.blk t₀).view.read (Elt F) f = f :=
  Memref.read_access_unit_zero (Elt F) main_arg0 (show (fun a => (win0_0.index t₀) a * main_arg0.ty.shape.size a) = fun _ => 0 from funext fun a => by fin_cases a <;> decide)
    (fun a => by fin_cases a <;> decide) f
theorem blk_w (c : Dev nD) (f : Buf (Elt F) ((c : Thread nD τ).loc main_arg1)) : (win0_1.blk t₀).view.read (Elt F) f = f :=
  Memref.read_access_unit_zero (Elt F) main_arg1 (show (fun a => (win0_1.index t₀) a * main_arg1.ty.shape.size a) = fun _ => 0 from funext fun a => by fin_cases a <;> decide)
    (fun a => by fin_cases a <;> decide) f
theorem blk_o (c : Dev nD) (f : Buf (Elt F) ((c : Thread nD τ).loc main_v1)) : (win0_2.blk t₀).view.read (Elt F) f = f :=
  Memref.read_access_unit_zero (Elt F) main_v1 (show (fun a => (win0_2.index t₀) a * main_v1.ty.shape.size a) = fun _ => 0 from funext fun a => by fin_cases a <;> decide)
    (fun a => by fin_cases a <;> decide) f

end Cert.Pf

end
-- ==== Proof.Body.lean ====
/-
# 01_k — `Body`: the kernel's body

The body's operations in order, each by its rule: the barrier, the loads, the first copies, the hops with their products, the
butterfly, and the quantisation.
-/
module

public import proofs.«01_k».proof.Proof.Parts

@[expose] public section

set_option maxRecDepth 20000

noncomputable section

namespace Cert.Pf

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F] [Facts]
local notation "𝕄" => MT nD τ sig ℕ (Elt F) ℕ UU ℕ

variable (xs : Dev nD → S128x4096.Idx → Elt F .f32) (A : ℕ → Dev nD → Elt F .f32)
variable (K : GSem nD τ sig → ℕ) (ι : Key → ℕ)
variable (c : Dev nD) {α : Type} {Q : α → sProp (MT nD τ sig ℕ (Elt F) ℕ UU ℕ)}
variable (R : sProp (MT nD τ sig ℕ (Elt F) ℕ UU ℕ))

variable (ws : Dev nD → S4096x64.Idx → Elt F .f32)

set_option maxRecDepth 100000 in
set_option maxHeartbeats 40000000 in
theorem body_run {Q : PUnit → sProp (MT nD τ sig ℕ (Elt F) ℕ UU ℕ)} (hQ : iprop(Recs xs (amT xs ws) K ι ∗ After xs c ws) ⊢ (|={Set.univ}=> Q ⟨⟩ : sProp 𝕄)) :
    iprop(Recs xs (amT xs ws) K ι ∗ Entry c ∗ (xLoc c ↦{fullShare} (xs c : Buf (Elt F) (xLoc c))) ∗ (wLoc c ↦{fullShare} (ws c : Buf (Elt F) (wLoc c)))
        ∗ Outs c (Y xs c (Wc c ws)) (rowsD c 0) ∗ roundsIn c)
      ⊢ WP c (body (F := F)) Q := by
  unfold body cc0_body
  refine go_id c ?_
  refine go_barrier xs _ K ι c _ (by clear hQ; (try dsimp only [Dev.tc]); revert c; decide +kernel) (by clear hQ; (try dsimp only [Dev.tc]); revert c; decide +kernel) (by rfl) (by rfl) (by rfl) ?_
  refine (to_w _ _ _ _ _ _ _).trans ?_
  refine go_w c _ (ws c) ?_
  refine (to_x _ _ _ _ _).trans ?_
  refine go_x xs c _ ?_
  refine (to_o _ _ _ _ _).trans ?_
  refine go_own xs c _ (Wc c ws) (by clear hQ; (try dsimp only [Dev.tc]); revert c; decide +kernel) ?_
  refine (to_FS xs c _ _ _ _ _).trans ?_
  refine go_send xs _ K ι c _ 0 (by clear hQ; (try dsimp only [Dev.tc]); revert c; decide +kernel) (by exact sem_two rfl) (by exact sem_two rfl) (by rfl) (by rfl) ?_
  refine go_send xs _ K ι c _ 4 (by clear hQ; (try dsimp only [Dev.tc]); revert c; decide +kernel) (by exact sem_two rfl) (by exact sem_two rfl) (by rfl) (by rfl) ?_
  refine go_send xs _ K ι c _ 1 (by clear hQ; (try dsimp only [Dev.tc]); revert c; decide +kernel) (by exact sem_two rfl) (by exact sem_two rfl) (by rfl) (by rfl) ?_
  refine go_send xs _ K ι c _ 5 (by clear hQ; (try dsimp only [Dev.tc]); revert c; decide +kernel) (by exact sem_two rfl) (by exact sem_two rfl) (by rfl) (by rfl) ?_
  refine go_send xs _ K ι c _ 2 (by clear hQ; (try dsimp only [Dev.tc]); revert c; decide +kernel) (by exact sem_two rfl) (by exact sem_two rfl) (by rfl) (by rfl) ?_
  refine go_send xs _ K ι c _ 6 (by clear hQ; (try dsimp only [Dev.tc]); revert c; decide +kernel) (by exact sem_two rfl) (by exact sem_two rfl) (by rfl) (by rfl) ?_
  refine go_send xs _ K ι c _ 3 (by clear hQ; (try dsimp only [Dev.tc]); revert c; decide +kernel) (by exact sem_two rfl) (by exact sem_two rfl) (by rfl) (by rfl) ?_
  refine go_send xs _ K ι c _ 7 (by clear hQ; (try dsimp only [Dev.tc]); revert c; decide +kernel) (by exact sem_two rfl) (by exact sem_two rfl) (by rfl) (by rfl) ?_
  refine (to_St xs c _ _ _).trans ?_
  iterate 8 (refine go_first xs _ K ι c _ _ (by decide) (by exact sem_two rfl) (by exact sem_two rfl) (by rfl) (by rfl) (by clear hQ; (try dsimp only [Dev.tc]); revert c; decide +kernel) (by exact sem_two rfl) (by exact sem_two rfl) (by rfl) (by rfl) ?_)
  refine go_block xs _ K ι c _ (Wc c ws) 0 false (by decide) (by rfl) (by rfl) (by clear hQ; (try dsimp only [Dev.tc]); revert c; decide +kernel) ?_
  refine go_block xs _ K ι c _ (Wc c ws) 0 true (by decide) (by rfl) (by rfl) (by clear hQ; (try dsimp only [Dev.tc]); revert c; decide +kernel) ?_
  iterate 8 (refine go_mid xs _ K ι c _ _ (by decide) (by decide) (by exact sem_two rfl) (by exact sem_two rfl) (by rfl) (by rfl) (by clear hQ; (try dsimp only [Dev.tc]); revert c; decide +kernel) (by exact sem_only rfl) (by exact sem_only rfl) (by clear hQ; (try dsimp only [Dev.tc]); revert c; decide +kernel) (by exact sem_two rfl) (by exact sem_two rfl) (by rfl) (by rfl) ?_)
  refine go_block xs _ K ι c _ (Wc c ws) 1 false (by decide) (by rfl) (by rfl) (by clear hQ; (try dsimp only [Dev.tc]); revert c; decide +kernel) ?_
  refine go_block xs _ K ι c _ (Wc c ws) 1 true (by decide) (by rfl) (by rfl) (by clear hQ; (try dsimp only [Dev.tc]); revert c; decide +kernel) ?_
  iterate 8 (refine go_mid xs _ K ι c _ _ (by decide) (by decide) (by exact sem_two rfl) (by exact sem_two rfl) (by rfl) (by rfl) (by clear hQ; (try dsimp only [Dev.tc]); revert c; decide +kernel) (by exact sem_only rfl) (by exact sem_only rfl) (by clear hQ; (try dsimp only [Dev.tc]); revert c; decide +kernel) (by exact sem_two rfl) (by exact sem_two rfl) (by rfl) (by rfl) ?_)
  refine go_block xs _ K ι c _ (Wc c ws) 2 false (by decide) (by rfl) (by rfl) (by clear hQ; (try dsimp only [Dev.tc]); revert c; decide +kernel) ?_
  refine go_block xs _ K ι c _ (Wc c ws) 2 true (by decide) (by rfl) (by rfl) (by clear hQ; (try dsimp only [Dev.tc]); revert c; decide +kernel) ?_
  iterate 8 (refine go_mid xs _ K ι c _ _ (by decide) (by decide) (by exact sem_two rfl) (by exact sem_two rfl) (by rfl) (by rfl) (by clear hQ; (try dsimp only [Dev.tc]); revert c; decide +kernel) (by exact sem_only rfl) (by exact sem_only rfl) (by clear hQ; (try dsimp only [Dev.tc]); revert c; decide +kernel) (by exact sem_two rfl) (by exact sem_two rfl) (by rfl) (by rfl) ?_)
  refine go_block xs _ K ι c _ (Wc c ws) 3 false (by decide) (by rfl) (by rfl) (by clear hQ; (try dsimp only [Dev.tc]); revert c; decide +kernel) ?_
  refine go_block xs _ K ι c _ (Wc c ws) 3 true (by decide) (by rfl) (by rfl) (by clear hQ; (try dsimp only [Dev.tc]); revert c; decide +kernel) ?_
  iterate 8 (refine go_mid xs _ K ι c _ _ (by decide) (by decide) (by exact sem_two rfl) (by exact sem_two rfl) (by rfl) (by rfl) (by clear hQ; (try dsimp only [Dev.tc]); revert c; decide +kernel) (by exact sem_only rfl) (by exact sem_only rfl) (by clear hQ; (try dsimp only [Dev.tc]); revert c; decide +kernel) (by exact sem_two rfl) (by exact sem_two rfl) (by rfl) (by rfl) ?_)
  refine go_block xs _ K ι c _ (Wc c ws) 4 false (by decide) (by rfl) (by rfl) (by clear hQ; (try dsimp only [Dev.tc]); revert c; decide +kernel) ?_
  refine go_block xs _ K ι c _ (Wc c ws) 4 true (by decide) (by rfl) (by rfl) (by clear hQ; (try dsimp only [Dev.tc]); revert c; decide +kernel) ?_
  iterate 8 (refine go_mid xs _ K ι c _ _ (by decide) (by decide) (by exact sem_two rfl) (by exact sem_two rfl) (by rfl) (by rfl) (by clear hQ; (try dsimp only [Dev.tc]); revert c; decide +kernel) (by exact sem_only rfl) (by exact sem_only rfl) (by clear hQ; (try dsimp only [Dev.tc]); revert c; decide +kernel) (by exact sem_two rfl) (by exact sem_two rfl) (by rfl) (by rfl) ?_)
  refine go_block xs _ K ι c _ (Wc c ws) 5 false (by decide) (by rfl) (by rfl) (by clear hQ; (try dsimp only [Dev.tc]); revert c; decide +kernel) ?_
  refine go_block xs _ K ι c _ (Wc c ws) 5 true (by decide) (by rfl) (by rfl) (by clear hQ; (try dsimp only [Dev.tc]); revert c; decide +kernel) ?_
  iterate 8 (refine go_mid xs _ K ι c _ _ (by decide) (by decide) (by exact sem_two rfl) (by exact sem_two rfl) (by rfl) (by rfl) (by clear hQ; (try dsimp only [Dev.tc]); revert c; decide +kernel) (by exact sem_only rfl) (by exact sem_only rfl) (by clear hQ; (try dsimp only [Dev.tc]); revert c; decide +kernel) (by exact sem_two rfl) (by exact sem_two rfl) (by rfl) (by rfl) ?_)
  refine go_block xs _ K ι c _ (Wc c ws) 6 false (by decide) (by rfl) (by rfl) (by clear hQ; (try dsimp only [Dev.tc]); revert c; decide +kernel) ?_
  refine go_block xs _ K ι c _ (Wc c ws) 6 true (by decide) (by rfl) (by rfl) (by clear hQ; (try dsimp only [Dev.tc]); revert c; decide +kernel) ?_
  iterate 8 (refine go_mid xs _ K ι c _ _ (by decide) (by decide) (by exact sem_two rfl) (by exact sem_two rfl) (by rfl) (by rfl) (by clear hQ; (try dsimp only [Dev.tc]); revert c; decide +kernel) (by exact sem_only rfl) (by exact sem_only rfl) (by clear hQ; (try dsimp only [Dev.tc]); revert c; decide +kernel) (by exact sem_two rfl) (by exact sem_two rfl) (by rfl) (by rfl) ?_)
  refine go_block xs _ K ι c _ (Wc c ws) 7 false (by decide) (by rfl) (by rfl) (by clear hQ; (try dsimp only [Dev.tc]); revert c; decide +kernel) ?_
  refine go_block xs _ K ι c _ (Wc c ws) 7 true (by decide) (by rfl) (by rfl) (by clear hQ; (try dsimp only [Dev.tc]); revert c; decide +kernel) ?_
  iterate 8 (refine go_mid xs _ K ι c _ _ (by decide) (by decide) (by exact sem_two rfl) (by exact sem_two rfl) (by rfl) (by rfl) (by clear hQ; (try dsimp only [Dev.tc]); revert c; decide +kernel) (by exact sem_only rfl) (by exact sem_only rfl) (by clear hQ; (try dsimp only [Dev.tc]); revert c; decide +kernel) (by exact sem_two rfl) (by exact sem_two rfl) (by rfl) (by rfl) ?_)
  refine go_block xs _ K ι c _ (Wc c ws) 8 false (by decide) (by rfl) (by rfl) (by clear hQ; (try dsimp only [Dev.tc]); revert c; decide +kernel) ?_
  refine go_block xs _ K ι c _ (Wc c ws) 8 true (by decide) (by rfl) (by rfl) (by clear hQ; (try dsimp only [Dev.tc]); revert c; decide +kernel) ?_
  iterate 8 (refine go_mid xs _ K ι c _ _ (by decide) (by decide) (by exact sem_two rfl) (by exact sem_two rfl) (by rfl) (by rfl) (by clear hQ; (try dsimp only [Dev.tc]); revert c; decide +kernel) (by exact sem_only rfl) (by exact sem_only rfl) (by clear hQ; (try dsimp only [Dev.tc]); revert c; decide +kernel) (by exact sem_two rfl) (by exact sem_two rfl) (by rfl) (by rfl) ?_)
  refine go_block xs _ K ι c _ (Wc c ws) 9 false (by decide) (by rfl) (by rfl) (by clear hQ; (try dsimp only [Dev.tc]); revert c; decide +kernel) ?_
  refine go_block xs _ K ι c _ (Wc c ws) 9 true (by decide) (by rfl) (by rfl) (by clear hQ; (try dsimp only [Dev.tc]); revert c; decide +kernel) ?_
  iterate 8 (refine go_mid xs _ K ι c _ _ (by decide) (by decide) (by exact sem_two rfl) (by exact sem_two rfl) (by rfl) (by rfl) (by clear hQ; (try dsimp only [Dev.tc]); revert c; decide +kernel) (by exact sem_only rfl) (by exact sem_only rfl) (by clear hQ; (try dsimp only [Dev.tc]); revert c; decide +kernel) (by exact sem_two rfl) (by exact sem_two rfl) (by rfl) (by rfl) ?_)
  refine go_block xs _ K ι c _ (Wc c ws) 10 false (by decide) (by rfl) (by rfl) (by clear hQ; (try dsimp only [Dev.tc]); revert c; decide +kernel) ?_
  refine go_block xs _ K ι c _ (Wc c ws) 10 true (by decide) (by rfl) (by rfl) (by clear hQ; (try dsimp only [Dev.tc]); revert c; decide +kernel) ?_
  iterate 8 (refine go_mid xs _ K ι c _ _ (by decide) (by decide) (by exact sem_two rfl) (by exact sem_two rfl) (by rfl) (by rfl) (by clear hQ; (try dsimp only [Dev.tc]); revert c; decide +kernel) (by exact sem_only rfl) (by exact sem_only rfl) (by clear hQ; (try dsimp only [Dev.tc]); revert c; decide +kernel) (by exact sem_two rfl) (by exact sem_two rfl) (by rfl) (by rfl) ?_)
  refine go_block xs _ K ι c _ (Wc c ws) 11 false (by decide) (by rfl) (by rfl) (by clear hQ; (try dsimp only [Dev.tc]); revert c; decide +kernel) ?_
  refine go_block xs _ K ι c _ (Wc c ws) 11 true (by decide) (by rfl) (by rfl) (by clear hQ; (try dsimp only [Dev.tc]); revert c; decide +kernel) ?_
  iterate 8 (refine go_mid xs _ K ι c _ _ (by decide) (by decide) (by exact sem_two rfl) (by exact sem_two rfl) (by rfl) (by rfl) (by clear hQ; (try dsimp only [Dev.tc]); revert c; decide +kernel) (by exact sem_only rfl) (by exact sem_only rfl) (by clear hQ; (try dsimp only [Dev.tc]); revert c; decide +kernel) (by exact sem_two rfl) (by exact sem_two rfl) (by rfl) (by rfl) ?_)
  refine go_block xs _ K ι c _ (Wc c ws) 12 false (by decide) (by rfl) (by rfl) (by clear hQ; (try dsimp only [Dev.tc]); revert c; decide +kernel) ?_
  refine go_block xs _ K ι c _ (Wc c ws) 12 true (by decide) (by rfl) (by rfl) (by clear hQ; (try dsimp only [Dev.tc]); revert c; decide +kernel) ?_
  iterate 8 (refine go_mid xs _ K ι c _ _ (by decide) (by decide) (by exact sem_two rfl) (by exact sem_two rfl) (by rfl) (by rfl) (by clear hQ; (try dsimp only [Dev.tc]); revert c; decide +kernel) (by exact sem_only rfl) (by exact sem_only rfl) (by clear hQ; (try dsimp only [Dev.tc]); revert c; decide +kernel) (by exact sem_two rfl) (by exact sem_two rfl) (by rfl) (by rfl) ?_)
  refine go_block xs _ K ι c _ (Wc c ws) 13 false (by decide) (by rfl) (by rfl) (by clear hQ; (try dsimp only [Dev.tc]); revert c; decide +kernel) ?_
  refine go_block xs _ K ι c _ (Wc c ws) 13 true (by decide) (by rfl) (by rfl) (by clear hQ; (try dsimp only [Dev.tc]); revert c; decide +kernel) ?_
  iterate 2 (refine go_mid xs _ K ι c _ _ (by decide) (by decide) (by exact sem_two rfl) (by exact sem_two rfl) (by rfl) (by rfl) (by clear hQ; (try dsimp only [Dev.tc]); revert c; decide +kernel) (by exact sem_only rfl) (by exact sem_only rfl) (by clear hQ; (try dsimp only [Dev.tc]); revert c; decide +kernel) (by exact sem_two rfl) (by exact sem_two rfl) (by rfl) (by rfl) ?_)
  iterate 4 (refine go_last xs _ K ι c _ _ (by decide) (by rfl) (by exact sem_two rfl) (by exact sem_two rfl) (by rfl) (by rfl) ?_)
  iterate 2 (refine go_mid xs _ K ι c _ _ (by decide) (by decide) (by exact sem_two rfl) (by exact sem_two rfl) (by rfl) (by rfl) (by clear hQ; (try dsimp only [Dev.tc]); revert c; decide +kernel) (by exact sem_only rfl) (by exact sem_only rfl) (by clear hQ; (try dsimp only [Dev.tc]); revert c; decide +kernel) (by exact sem_two rfl) (by exact sem_two rfl) (by rfl) (by rfl) ?_)
  refine go_block xs _ K ι c _ (Wc c ws) 14 false (by decide) (by rfl) (by rfl) (by clear hQ; (try dsimp only [Dev.tc]); revert c; decide +kernel) ?_
  refine go_block xs _ K ι c _ (Wc c ws) 14 true (by decide) (by rfl) (by rfl) (by clear hQ; (try dsimp only [Dev.tc]); revert c; decide +kernel) ?_
  iterate 2 (refine go_last xs _ K ι c _ _ (by decide) (by rfl) (by exact sem_two rfl) (by exact sem_two rfl) (by rfl) (by rfl) ?_)
  iterate 4 (refine (to_skip xs c _ _ _ (by decide) rfl).trans ?_)
  iterate 2 (refine go_last xs _ K ι c _ _ (by decide) (by rfl) (by exact sem_two rfl) (by exact sem_two rfl) (by rfl) (by rfl) ?_)
  refine go_half xs _ K ι c _ (Wc c ws) false (by rfl) (by rfl) (by clear hQ; (try dsimp only [Dev.tc]); revert c; decide +kernel) ?_
  refine go_half xs _ K ι c _ (Wc c ws) true (by rfl) (by rfl) (by clear hQ; (try dsimp only [Dev.tc]); revert c; decide +kernel) ?_
  refine (to_BF xs _ K ι c _ _).trans ?_
  refine go_stage xs (amT xs ws) K ι c _ 0 (by rfl) (by rfl) (by rfl) (by rfl) (by clear hQ; (try dsimp only [Dev.tc]); revert c; decide +kernel) (by exact sem_one rfl) (by exact sem_one rfl) (by exact sem_one rfl) (by exact sem_one rfl) (by rfl) (by rfl) (by rfl) (by rfl) ?_
  refine go_stage xs (amT xs ws) K ι c _ 1 (by rfl) (by rfl) (by rfl) (by rfl) (by clear hQ; (try dsimp only [Dev.tc]); revert c; decide +kernel) (by exact sem_one rfl) (by exact sem_one rfl) (by exact sem_one rfl) (by exact sem_one rfl) (by rfl) (by rfl) (by rfl) (by rfl) ?_
  refine go_stage xs (amT xs ws) K ι c _ 2 (by rfl) (by rfl) (by rfl) (by rfl) (by clear hQ; (try dsimp only [Dev.tc]); revert c; decide +kernel) (by exact sem_one rfl) (by exact sem_one rfl) (by exact sem_one rfl) (by exact sem_one rfl) (by rfl) (by rfl) (by rfl) (by rfl) ?_
  refine go_stage xs (amT xs ws) K ι c _ 3 (by rfl) (by rfl) (by rfl) (by rfl) (by clear hQ; (try dsimp only [Dev.tc]); revert c; decide +kernel) (by exact sem_one rfl) (by exact sem_one rfl) (by exact sem_one rfl) (by exact sem_one rfl) (by rfl) (by rfl) (by rfl) (by rfl) ?_
  refine go_stage xs (amT xs ws) K ι c _ 4 (by rfl) (by rfl) (by rfl) (by rfl) (by clear hQ; (try dsimp only [Dev.tc]); revert c; decide +kernel) (by exact sem_one rfl) (by exact sem_one rfl) (by exact sem_one rfl) (by exact sem_one rfl) (by rfl) (by rfl) (by rfl) (by rfl) ?_
  refine (to_end _ _ _ _ _ _ _).trans ?_
  refine go_finish xs c _ (Wc c ws) (quant (scaleT xs ws c)) ?_
  refine go_ret c ?_
  exact (to_after _ _ _ _ _ _ _).trans hQ

end Cert.Pf
end
-- ==== Proof.Enter.lean ====
/-
# 01_k — `Enter`: from what the launch hands a device to what its body starts with

The landing buffers are cut into their pieces, and the tokens and credits are sorted by the step that takes them.
-/
module

public import proofs.«01_k».proof.Proof.Deal

@[expose] public section

set_option maxRecDepth 20000

noncomputable section

namespace Cert.Pf

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F] [Facts]
local notation "𝕄" => MT nD τ sig ℕ (Elt F) ℕ UU ℕ

variable (xs : Dev nD → S128x4096.Idx → Elt F .f32) (A : ℕ → Dev nD → Elt F .f32)
variable (K : GSem nD τ sig → ℕ) (ι : Key → ℕ)
variable (c : Dev nD) {α : Type} {Q : α → sProp (MT nD τ sig ℕ (Elt F) ℕ UU ℕ)}
variable (R : sProp (MT nD τ sig ℕ (Elt F) ℕ UU ℕ))

/-! ## Buffers and their slots -/

theorem slots_of {ℓ : Loc nD τ sig} {I : Type} [Fintype I] [DecidableEq I] (S : I → Finset (Idx ℓ))
    (hd : ∀ i j, i ≠ j → Disjoint (S i) (S j)) (hc : Finset.univ = Finset.univ.biUnion S) :
    iprop(∃ f : Buf (Elt F) ℓ, ℓ ↦{fullShare} f) ⊢ (bigSep Finset.univ fun i => slot ℓ (S i) : sProp 𝕄) := by
  iintro ⟨%f, H⟩
  have e : (ℓ ↦{fullShare} f : sProp 𝕄) = bigSep Finset.univ fun i => ℓ ↦[S i]{fullShare} f := by
    rw [hc]; exact pointsTo_biUnion Finset.univ S fun i _ j _ h => hd i j h
  ihave H := (Entails.of_eq e) $$ H
  have h : (bigSep Finset.univ fun i => (ℓ ↦[S i]{fullShare} f : sProp 𝕄)) ⊢ bigSep Finset.univ fun i => slot ℓ (S i) :=
    mono fun i _ => by
      unfold slot
      iintro H
      iexists f; iexact H
  iapply h $$ H
theorem of_slots {ℓ : Loc nD τ sig} {I : Type} [Fintype I] [DecidableEq I] [Nonempty (Buf (Elt F) ℓ)] (S : I → Finset (Idx ℓ))
    (hd : ∀ i j, i ≠ j → Disjoint (S i) (S j)) (hc : Finset.univ = Finset.univ.biUnion S) :
    (bigSep Finset.univ fun i => slot ℓ (S i) : sProp 𝕄) ⊢ iprop(∃ f : Buf (Elt F) ℓ, ℓ ↦{fullShare} f) := by
  unfold slot
  iintro H
  ihave H := (BI.bigSep_exists_pi Finset.univ (fun (i : I) (f : Buf (Elt F) ℓ) => (ℓ ↦[S i]{fullShare} f : sProp 𝕄))) $$ H
  icases H with ⟨%fs, H⟩
  ihave H := (pointsTo_biUnion_join Finset.univ S fs (Classical.arbitrary _) fun i _ j _ h => hd i j h) $$ H
  icases H with ⟨%g, -, H⟩
  iexists g
  have e : (ℓ ↦[Finset.univ.biUnion S]{fullShare} g : sProp 𝕄) ⊢ ℓ ↦{fullShare} g := by rw [← hc]
  iapply e $$ H

abbrev bLoc (l : Bool) : Loc nD τ sig := (bufM l).view.loc (c : Thread nD τ)
def bSet (l : Bool) (q : Fin 4 × Fin 2) : Finset (Idx (bLoc c l)) := ((bufM l).view.slice (pieceR (ln l q.1) q.2)).set

theorem slotL_eq (l : Bool) (q : Fin 4 × Fin 2) : (slotL (F := F) c (ln l q.1) q.2) = slot (bLoc c l) (bSet c l q) := by
  have h : ∀ b, b = l → (slot ((bufM b).view.loc (c : Thread nD τ)) ((bufM b).view.slice (pieceR (ln l q.1) q.2)).set : sProp 𝕄)
      = slot ((bufM l).view.loc (c : Thread nD τ)) ((bufM l).view.slice (pieceR (ln l q.1) q.2)).set := by
    rintro _ rfl; rfl
  refine Eq.trans ?_ (h _ (goesL_ln l q.1))
  show (slot ((bufM (goesL (ln l q.1))).view.loc (c : Thread nD τ)) (piece (ln l q.1) q.2).view.set : sProp 𝕄) = _
  rw [set_piece]

theorem pieceR_disj (l : Bool) (q q' : Fin 4 × Fin 2) (h : q ≠ q') : Disjoint (pieceR (ln l q.1) q.2).set (pieceR (ln l q'.1) q'.2).set := by
  by_cases hp : q.2 = q'.2
  · have hj : q.1 ≠ q'.1 := fun e => h (Prod.ext e hp)
    rw [hp]
    exact pieceR_disjoint l q'.2 q.1 q'.1 hj
  · unfold pieceR
    refine Rect.unit_disjoint 0 ?_
    have : q.2.val ≠ q'.2.val := fun e => hp (Fin.ext e)
    show q.2.val + 1 ≤ q'.2.val ∨ q'.2.val + 1 ≤ q.2.val
    omega
theorem pieceR_cover (l : Bool) (i : S2x128x4096.Idx) : ∃ q : Fin 4 × Fin 2, i ∈ (pieceR (ln l q.1) q.2).set := by
  have hi0 : (i 0).val < 2 := (i 0).isLt
  have hi1 : (i 1).val < 128 := (i 1).isLt
  have hi2 : (i 2).val < 4096 := (i 2).isLt
  refine ⟨(⟨(i 1).val / 32, by omega⟩, ⟨(i 0).val, hi0⟩), ?_⟩
  unfold pieceR
  rw [Rect.mem_set_unit]
  have e := ln_mod l ⟨(i 1).val / 32, by omega⟩
  intro a
  fin_cases a
  · show (i 0).val ≤ (i 0).val ∧ (i 0).val < (i 0).val + 1; omega
  · show 32 * ((ln l ⟨(i 1).val / 32, _⟩).val % 4) ≤ (i 1).val ∧ (i 1).val < 32 * ((ln l ⟨(i 1).val / 32, _⟩).val % 4) + 32
    rw [e]
    show 32 * ((i 1).val / 32) ≤ (i 1).val ∧ (i 1).val < 32 * ((i 1).val / 32) + 32
    omega
  · exact ⟨Nat.zero_le _, by show (i 2).val < 0 + 4096; omega⟩
theorem bSet_disj (l : Bool) (q q' : Fin 4 × Fin 2) (h : q ≠ q') : Disjoint (bSet c l q) (bSet c l q') := by
  have hd := pieceR_disj l q q' h
  cases l
  · exact Finset.disjoint_left.mpr fun i hi hi' => Finset.disjoint_left.mp hd
      ((Finset.ext_iff.mp (View.set_slice_whole cc0_scratch0 (pieceR (ln false q.1) q.2)) i).mp hi)
      ((Finset.ext_iff.mp (View.set_slice_whole cc0_scratch0 (pieceR (ln false q'.1) q'.2)) i).mp hi')
  · exact Finset.disjoint_left.mpr fun i hi hi' => Finset.disjoint_left.mp hd
      ((Finset.ext_iff.mp (View.set_slice_whole cc0_scratch1 (pieceR (ln true q.1) q.2)) i).mp hi)
      ((Finset.ext_iff.mp (View.set_slice_whole cc0_scratch1 (pieceR (ln true q'.1) q'.2)) i).mp hi')
theorem bSet_cover (l : Bool) : Finset.univ = Finset.univ.biUnion (bSet c l) := by
  have h : ∀ i : S2x128x4096.Idx, ∃ q : Fin 4 × Fin 2, i ∈ (pieceR (ln l q.1) q.2).set := pieceR_cover l
  cases l
  all_goals
    ext i
    rw [Finset.mem_biUnion]
    obtain ⟨q, hq⟩ := h i
    exact ⟨fun _ => ⟨q, Finset.mem_univ _, by unfold bSet bufM; simp only [cond]; rw [View.set_slice_whole]; exact hq⟩, fun _ => Finset.mem_univ _⟩

/-- Some contents of a landing buffer. -/
def bAny (l : Bool) : sProp 𝕄 := iprop(∃ f : Buf (Elt F) (bLoc c l), bLoc c l ↦{fullShare} f)
theorem pieces_eq : (bigSep Finset.univ fun q : Fin 8 × Fin 2 => slotL (F := F) c q.1 q.2)
    = iprop((bigSep Finset.univ fun q => slot (bLoc c false) (bSet c false q)) ∗ bigSep Finset.univ fun q => slot (bLoc c true) (bSet c true q)) := by
  rw [bigSep_univ_prod, bigSep_lanes]
  refine sep2 ?_ ?_
  all_goals
    rw [bigSep_univ_prod]
    exact bigSep_congr fun j _ => bigSep_congr fun p _ => slotL_eq c _ (j, p)
theorem pieces_of : iprop(bAny c false ∗ bAny c true) ⊢ (bigSep Finset.univ fun q : Fin 8 × Fin 2 => slotL (F := F) c q.1 q.2) := by
  rw [pieces_eq]
  unfold bAny
  iintro ⟨H0, H1⟩
  isplitl [H0]
  · iapply (slots_of (bSet c false) (bSet_disj c false) (bSet_cover c false)) $$ H0
  · iapply (slots_of (bSet c true) (bSet_disj c true) (bSet_cover c true)) $$ H1
theorem of_pieces [∀ e, Nonempty (Elt F e)] : (bigSep Finset.univ fun q : Fin 8 × Fin 2 => slotL (F := F) c q.1 q.2) ⊢ iprop(bAny c false ∗ bAny c true) := by
  rw [pieces_eq]
  unfold bAny
  iintro ⟨H0, H1⟩
  isplitl [H0]
  · iapply (of_slots (bSet c false) (bSet_disj c false) (bSet_cover c false)) $$ H0
  · iapply (of_slots (bSet c true) (bSet_disj c true) (bSet_cover c true)) $$ H1

def bfR (s : Fin 5) : Rect S5x8x128 := Rect.unit (s := S5x8x128) ![s.val, 0, 0] S1x8x128.size (bf_inb s)
theorem bfR_disj (s s' : Fin 5) (h : s ≠ s') : Disjoint (bfR s).set (bfR s').set := by
  unfold bfR
  refine Rect.unit_disjoint 0 ?_
  have : s.val ≠ s'.val := fun e => h (Fin.ext e)
  show s.val + 1 ≤ s'.val ∨ s'.val + 1 ≤ s.val
  omega
theorem bfR_cover (i : S5x8x128.Idx) : i ∈ (bfR ⟨(i 0).val, (i 0).isLt⟩).set := by
  have hi1 : (i 1).val < 8 := (i 1).isLt
  have hi2 : (i 2).val < 128 := (i 2).isLt
  unfold bfR
  rw [Rect.mem_set_unit]
  intro a
  fin_cases a
  · show (i 0).val ≤ (i 0).val ∧ (i 0).val < (i 0).val + 1; omega
  · exact ⟨Nat.zero_le _, by show (i 1).val < 0 + 8; omega⟩
  · exact ⟨Nat.zero_le _, by show (i 2).val < 0 + 128; omega⟩
theorem bfs_sets (s : Fin 5) : (bfs s).view.set = (bfR s).set := (View.set_reshape _ _).trans (View.set_slice_whole _ _)
theorem bfd_sets (s : Fin 5) : (bfd s).view.set = (bfR s).set := (View.set_reshape _ _).trans (View.set_slice_whole _ _)
abbrev sLoc : Loc nD τ sig := bfsM.view.loc (c : Thread nD τ)
abbrev dLoc : Loc nD τ sig := bfdM.view.loc (c : Thread nD τ)
def sSet (s : Fin 5) : Finset (Idx (sLoc c)) := (bfs s).view.set
def dSet (s : Fin 5) : Finset (Idx (dLoc c)) := (bfd s).view.set
theorem sSet_disj (s s' : Fin 5) (h : s ≠ s') : Disjoint (sSet c s) (sSet c s') := by
  unfold sSet; rw [bfs_sets, bfs_sets]; exact bfR_disj s s' h
theorem dSet_disj (s s' : Fin 5) (h : s ≠ s') : Disjoint (dSet c s) (dSet c s') := by
  unfold dSet; rw [bfd_sets, bfd_sets]; exact bfR_disj s s' h
theorem sSet_cover : Finset.univ = Finset.univ.biUnion (sSet c) := by
  ext i
  rw [Finset.mem_biUnion]
  exact ⟨fun _ => ⟨_, Finset.mem_univ _, (Finset.ext_iff.mp (bfs_sets ⟨(i 0).val, (i 0).isLt⟩) i).mpr (bfR_cover i)⟩, fun _ => Finset.mem_univ _⟩
theorem dSet_cover : Finset.univ = Finset.univ.biUnion (dSet c) := by
  ext i
  rw [Finset.mem_biUnion]
  exact ⟨fun _ => ⟨_, Finset.mem_univ _, (Finset.ext_iff.mp (bfd_sets ⟨(i 0).val, (i 0).isLt⟩) i).mpr (bfR_cover i)⟩, fun _ => Finset.mem_univ _⟩
def sAny : sProp 𝕄 := iprop(∃ f : Buf (Elt F) (sLoc c), sLoc c ↦{fullShare} f)
def dAny : sProp 𝕄 := iprop(∃ f : Buf (Elt F) (dLoc c), dLoc c ↦{fullShare} f)
/-- The scratch buffers. -/
def bufs : sProp 𝕄 := iprop(bAny c false ∗ bAny c true ∗ sAny c ∗ dAny c)
theorem srcs_of : sAny c ⊢ (bigSep Finset.univ fun s : Fin 5 => slot ((bfs s).view.loc (c : Thread nD τ)) (bfs s).view.set : sProp 𝕄) :=
  slots_of (sSet c) (sSet_disj c) (sSet_cover c)
theorem of_srcs [∀ e, Nonempty (Elt F e)] : (bigSep Finset.univ fun s : Fin 5 => slot ((bfs s).view.loc (c : Thread nD τ)) (bfs s).view.set : sProp 𝕄) ⊢ sAny c :=
  of_slots (sSet c) (sSet_disj c) (sSet_cover c)
theorem lands_of : dAny c ⊢ (bigSep Finset.univ fun s : Fin 5 => slotB (F := F) c s) :=
  slots_of (dSet c) (dSet_disj c) (dSet_cover c)
theorem of_lands [∀ e, Nonempty (Elt F e)] : (bigSep Finset.univ fun s : Fin 5 => slot ((bfd s).view.loc (c : Thread nD τ)) (bfd s).view.set : sProp 𝕄) ⊢ dAny c :=
  of_slots (dSet c) (dSet_disj c) (dSet_cover c)

/-! ## Tokens by step -/

def sndK : Fin 8 ⊕ Fin 128 → LA
  | .inl u => (u, 0)
  | .inr k => (laneN k.val, Fin.ofNat 17 (k.val / 8 + 1))
def sndB (q : LA) : Fin 8 ⊕ Fin 128 := if q.2.val = 0 then .inl q.1 else .inr (Fin.ofNat 128 (8 * (q.2.val - 1) + q.1.val))
theorem sndB_sndK : ∀ i, sndB (sndK i) = i := by
  rintro (u | k)
  · revert u; decide +kernel
  · revert k; decide +kernel

/-- The copies' tokens: each lane's first copy, and the copy of each step. -/
theorem sends_in : (bigSep Finset.univ fun q : LA => sendTok (F := F) c q.1 q.2.val)
    ⊢ iprop((bigSep Finset.univ fun u => sendTok c u 0) ∗ bigSep Finset.univ fun k : Fin 128 => sendTok c (laneN k.val) (k.val / 8 + 1)) := by
  refine (take sndK (Function.LeftInverse.injective sndB_sndK) (fun _ => Finset.mem_univ _) _).trans (Entails.of_eq ?_)
  rw [sum2]
  refine sep2 rfl (bigSep_congr fun k _ => ?_)
  show sendTok c (laneN k.val) ((k.val / 8 + 1) % 17) = _
  rw [Nat.mod_eq_of_lt (by omega)]

def crDuty (k : ℕ) : sProp 𝕄 := dutyTok ER (crC (up (laneN k) c) (goesL (laneN k))) 0 (crNum k)
theorem step_in (k : ℕ) : iprop((recvCr c k ∗ crCr c k) ∗ crDuty c k ∗ sendTok c (laneN k) (k / 8 + 1)) ⊢ stepRes (F := F) c (laneN k) (k / 8) := by
  unfold stepRes recvCr crCr
  by_cases h : k / 8 ≤ last (laneN k)
  · rw [if_pos h, if_pos h]
    by_cases h2 : k / 8 < last (laneN k)
    · rw [if_pos h2]
      by_cases h1 : 1 ≤ k / 8
      · rw [if_pos ⟨h1, h2⟩, if_pos ⟨h1, h2⟩]
        unfold crTok crDuty
        have e : crNum k = 4 * (k / 8 - 1) + (laneN k).val % 4 := by unfold crNum; rw [if_neg (by omega)]; rfl
        rw [e]
        iintro ⟨⟨Hr, Hc⟩, Hd, Hs⟩
        isplitl [Hr]; · iexact Hr
        isplitr [Hs]
        · isplitl [Hd] <;> iassumption
        iexact Hs
      · rw [if_neg (fun h => h1 h.1), if_neg (fun h => h1 h.1)]
        iintro ⟨⟨Hr, -⟩, -, Hs⟩
        isplitl [Hr]; · iexact Hr
        isplitr [Hs]; · iempintro
        iexact Hs
    · rw [if_neg h2, if_neg (fun h => h2 h.2), if_neg (fun h => h2 h.2)]
      iintro ⟨⟨Hr, -⟩, -, -⟩
      isplitl [Hr]; · iexact Hr
      isplitl; · iempintro
      iempintro
  · rw [if_neg h, if_neg h]
    iintro -; iempintro

def holds : sProp 𝕄 := iprop(places c ∗ dealt c ∗ wrs c ∗ rds c ∗ credsIn c ∗ bufs c)
theorem enter : holds (F := F) c ⊢ iprop(barIn c ∗ (bigSep Finset.univ fun q => pieceIn c q) ∗ (bigSep Finset.univ fun s => bfIn c s)
    ∗ (bigSep Finset.univ fun u => laneIn c u) ∗ roundsIn c) := by
  have eS : iprop((bigSep Finset.univ fun q : LA => dutyTok ER (sendC c q.1 (par q.2.val)) (q.2.val / 2) 0)
      ∗ (bigSep Finset.univ fun q : LA => dutyTok ER (recvC (dn q.1 c) q.1 (par q.2.val)) (q.2.val / 2) 0)
      ∗ bigSep Finset.univ fun q : LA => writeTok ES (keyL (dn q.1 c) q.1 (par q.2.val)) (q.2.val / 2 + 1))
      ⊢ (bigSep Finset.univ fun q : LA => sendTok (F := F) c q.1 q.2.val) := by
    rw [← bigSep_sep', ← bigSep_sep']; exact Entails.of_eq rfl
  have eB : (bigSep Finset.univ fun b : Fin 2 => (dutyTok ER (barC (rot (barK b) c)) 0 b.val : sProp 𝕄))
      ⊢ iprop(dutyTok ER (barC (rot 31 c)) 0 0 ∗ dutyTok ER (barC (rot 1 c)) 0 1) := by
    rw [bigSep_fin_two]; exact Entails.of_eq rfl
  have eP : iprop((bigSep Finset.univ fun q : Fin 8 × Fin 2 => readerAt ES (keyL c q.1 q.2) 0) ∗ bigSep Finset.univ fun q : Fin 8 × Fin 2 => slotL (F := F) c q.1 q.2)
      ⊢ bigSep Finset.univ fun q => pieceIn (F := F) c q := by
    rw [← bigSep_sep']; exact Entails.of_eq rfl
  have eF : iprop((bigSep Finset.univ fun s : Fin 5 => readerAt ES (keyB c s) 0) ∗ bigSep Finset.univ fun s : Fin 5 => slotB (F := F) c s)
      ⊢ bigSep Finset.univ fun s => bfIn (F := F) c s := by
    rw [← bigSep_sep']; exact Entails.of_eq rfl
  have eL : iprop((bigSep Finset.univ fun q : Fin 8 × Fin 2 => atPos ER (recvC c q.1 q.2) 0 ∅ 0) ∗ (bigSep Finset.univ fun q : Fin 8 × Fin 2 => atPos ER (sendC c q.1 q.2) 0 ∅ 0)
      ∗ bigSep Finset.univ fun u => sendTok (F := F) c u 0) ⊢ bigSep Finset.univ fun u => laneIn (F := F) c u := by
    unfold laneIn
    have e2 (Φ : Fin 8 × Fin 2 → sProp 𝕄) : bigSep Finset.univ Φ = iprop((bigSep Finset.univ fun u => Φ (u, 0)) ∗ bigSep Finset.univ fun u => Φ (u, 1)) := by
      rw [bigSep_univ_prod, ← bigSep_sep']
      exact bigSep_congr fun u _ => bigSep_fin_two _
    rw [e2, e2, bigSep_sep', bigSep_sep', bigSep_sep', bigSep_sep']
    iintro ⟨⟨H1, H2⟩, ⟨H3, H4⟩, H5⟩
    isplitl [H1 H3]
    · isplitl [H1] <;> iassumption
    isplitl [H2 H4]
    · isplitl [H2] <;> iassumption
    iexact H5
  have eT : iprop((bigSep Finset.univ fun k : Fin 128 => recvCr (F := F) c k.val) ∗ (bigSep Finset.univ fun k : Fin 128 => crCr (F := F) c k.val)
      ∗ (bigSep Finset.univ fun k : Fin 128 => crDuty (F := F) c k.val) ∗ bigSep Finset.univ fun k : Fin 128 => sendTok (F := F) c (laneN k.val) (k.val / 8 + 1))
      ⊢ bigSep (Finset.range 128) fun k => stepRes (F := F) c (laneN k) (k / 8) := by
    rw [range_fin]
    have h := mono (F := F) (s := Finset.univ) fun (k : Fin 128) _ => step_in (F := F) c k.val
    rw [bigSep_sep', bigSep_sep', bigSep_sep'] at h
    iintro ⟨H1, H2, H3, H4⟩
    iapply h
    isplitl [H1 H2]
    · isplitl [H1] <;> iassumption
    isplitl [H3] <;> iassumption
  have eQ : iprop((bigSep Finset.univ fun s : Fin 5 => dutyTok ER (bfsC c s) 0 0) ∗ (bigSep Finset.univ fun s : Fin 5 => dutyTok ER (bfrC (partner s c) s) 0 0)
      ∗ (bigSep Finset.univ fun s : Fin 5 => writeTok ES (keyB (partner s c) s) 1) ∗ (bigSep Finset.univ fun s : Fin 5 => atPos ER (bfsC c s) 0 ∅ 0)
      ∗ (bigSep Finset.univ fun s : Fin 5 => atPos ER (bfrC c s) 0 ∅ 0) ∗ (bigSep Finset.univ fun s : Fin 5 => cred (tallyAt (bfrC c s) (266 + s.val) NF))
      ∗ bigSep Finset.univ fun s : Fin 5 => slot ((bfs s).view.loc (c : Thread nD τ)) (bfs s).view.set)
      ⊢ bigSep Finset.univ fun s => bfTok (F := F) c s := by
    simp only [← bigSep_sep']; exact Entails.of_eq rfl
  unfold holds places ownOf dealt wrs rds credsIn bufs roundsIn barIn
  iintro ⟨⟨HpB, HpR, HpS, HpC, HpF, HpG⟩, ⟨HdS, HdR, HdC, HdB, HdF, HdG⟩, ⟨HwL, HwB⟩, ⟨HrL, HrB⟩, ⟨HcB, HcR, HcC, HcF⟩, Hb0, Hb1, Hs, Hd⟩
  ihave HS := eS $$ [HdS HdR HwL]
  · isplitl [HdS]; · iexact HdS
    isplitl [HdR] <;> iassumption
  ihave HS := (sends_in (F := F) c) $$ HS
  icases HS with ⟨HS0, HS⟩
  isplitl [HdB HpB HcB]
  · ihave HdB := eB $$ HdB
    icases HdB with ⟨H0, H1⟩
    isplitl [H0]; · iexact H0
    isplitl [H1]; · iexact H1
    isplitl [HpB] <;> iassumption
  isplitl [HrL Hb0 Hb1]
  · iapply eP
    isplitl [HrL]; · iexact HrL
    iapply (pieces_of (F := F) c)
    isplitl [Hb0] <;> iassumption
  isplitl [HrB Hd]
  · iapply eF
    isplitl [HrB]; · iexact HrB
    iapply (lands_of (F := F) c) $$ Hd
  isplitl [HpR HpS HS0]
  · iapply eL
    isplitl [HpR]; · iexact HpR
    isplitl [HpS] <;> iassumption
  isplitl [HcR HcC HdC HS]
  · iapply eT
    isplitl [HcR]; · iexact HcR
    isplitl [HcC]; · iexact HcC
    isplitl [HdC]; · unfold crDuty; iexact HdC
    iexact HS
  isplitl [HpC]; · iexact HpC
  iapply eQ
  isplitl [HdF]; · iexact HdF
  isplitl [HdG]; · iexact HdG
  isplitl [HwB]; · iexact HwB
  isplitl [HpF]; · iexact HpF
  isplitl [HpG]; · iexact HpG
  isplitl [HcF]; · iexact HcF
  iapply (srcs_of (F := F) c) $$ Hs

end Cert.Pf

end
-- ==== Proof.Leave.lean ====
/-
# 01_k — `Leave`: what a device hands back after its body

Every semaphore is past its last round, so its invariant can be closed and its counter is zero; the rows, the pieces and the
butterfly's slots come back together to whole buffers.
-/
module

public import proofs.«01_k».proof.Proof.Enter

@[expose] public section

set_option maxRecDepth 20000

noncomputable section

namespace Cert.Pf

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F] [Facts]
local notation "𝕄" => MT nD τ sig ℕ (Elt F) ℕ UU ℕ

variable (xs : Dev nD → S128x4096.Idx → Elt F .f32) (A : ℕ → Dev nD → Elt F .f32)
variable (K : GSem nD τ sig → ℕ) (ι : Key → ℕ)
variable (c : Dev nD) {α : Type} {Q : α → sProp (MT nD τ sig ℕ (Elt F) ℕ UU ℕ)}
variable (R : sProp (MT nD τ sig ℕ (Elt F) ℕ UU ℕ))

/-! ## Closing the cells -/

theorem close {g : GSem nD τ sig} (hg : g ∈ allC) (r₀ : ℕ) (h : ∀ r, r₀ ≤ r → (sched xs A).duties g r = ∅) :
    iprop(Recs xs A K ι ∗ atPos ER g r₀ ∅ 0) ⊢ (|={Set.univ}=> semVal g 0 : sProp 𝕄) := by
  iintro ⟨#HR, Hat⟩
  ihave #HI := (Recs_inv xs A K ι hg) $$ HR
  iapply (Rounds.cell_close ER (sched xs A) (Set.mem_univ (K g)) (fun h => h) (R := r₀) h)
  isplitr; · iexact HI
  iexact Hat

theorem close_recv (u : Fin 8) (a : ℕ) (ha : last u < a) : iprop(Recs xs A K ι ∗ posR c u (par a) (a / 2)) ⊢ (|={Set.univ}=> semVal (recvC c u (par a)) 0 : sProp 𝕄) := by
  unfold posR
  iintro ⟨#HR, Hat, -⟩
  iapply (close xs A K ι (recv_mem c u (par a)) (a / 2) fun r hr => by
    rw [duties_recv, if_neg]
    show ¬ 2 * r + a % 2 ≤ last u
    omega)
  isplitr; · iexact HR
  iexact Hat
theorem close_send (u : Fin 8) (a : ℕ) (ha : last u < a) : iprop(Recs xs A K ι ∗ posS c u (par a) (a / 2)) ⊢ (|={Set.univ}=> semVal (sendC c u (par a)) 0 : sProp 𝕄) := by
  unfold posS
  iintro ⟨#HR, Hat, -⟩
  iapply (close xs A K ι (send_mem c u (par a)) (a / 2) fun r hr => by
    rw [duties_send, if_neg]
    show ¬ 2 * r + a % 2 ≤ last u
    omega)
  isplitr; · iexact HR
  iexact Hat

/-- A family over the two parities, from one over consecutive arrivals. -/
theorem two_par (a : ℕ) (Φ : Fin 2 → sProp 𝕄) : iprop(Φ (par a) ∗ Φ (par (a + 1))) ⊢ bigSep Finset.univ Φ := by
  rw [bigSep_fin_two]
  rcases Nat.mod_two_eq_zero_or_one a with h | h
  · have e0 : par a = 0 := Fin.ext h
    have e1 : par (a + 1) = 1 := Fin.ext (by show (a + 1) % 2 = 1; omega)
    rw [e0, e1]
    exact .rfl
  · have e0 : par a = 1 := Fin.ext h
    have e1 : par (a + 1) = 0 := Fin.ext (by show (a + 1) % 2 = 0; omega)
    rw [e0, e1]
    show iprop(Φ 1 ∗ Φ 0) ⊢ iprop(Φ 0 ∗ Φ 1)
    iintro ⟨H1, H2⟩
    isplitl [H2] <;> iassumption

theorem close_lane (u : Fin 8) : iprop(Recs xs A K ι ∗ lanePos c u (last u + 1))
    ⊢ (|={Set.univ}=> iprop((bigSep Finset.univ fun p => semVal (recvC c u p) 0) ∗ bigSep Finset.univ fun p => semVal (sendC c u p) 0) : sProp 𝕄) := by
  unfold lanePos
  iintro ⟨#HR, ⟨H1, H2⟩, H3, H4⟩
  imod (close_recv xs A K ι c u (last u + 1) (by omega)) $$ [H1] with H1
  · isplitr; · iexact HR
    iexact H1
  imod (close_send xs A K ι c u (last u + 1) (by omega)) $$ [H2] with H2
  · isplitr; · iexact HR
    iexact H2
  imod (close_recv xs A K ι c u (last u + 1 + 1) (by omega)) $$ [H3] with H3
  · isplitr; · iexact HR
    iexact H3
  imod (close_send xs A K ι c u (last u + 1 + 1) (by omega)) $$ [H4] with H4
  · isplitr; · iexact HR
    iexact H4
  imodintro
  isplitl [H1 H3]
  · iapply (two_par (last u + 1) fun p => (semVal (recvC c u p) 0 : sProp 𝕄))
    isplitl [H1] <;> iassumption
  · iapply (two_par (last u + 1) fun p => (semVal (sendC c u p) 0 : sProp 𝕄))
    isplitl [H2] <;> iassumption

theorem crK_end : ∀ l, crK l (dB l 128) = 54 := by decide
theorem close_cr (l : Bool) : iprop(Recs xs A K ι ∗ crs c l (dB l 128)) ⊢ (|={Set.univ}=> semVal (crC c l) 0 : sProp 𝕄) := by
  unfold crs crSt
  iintro ⟨#HR, ⟨%S, %hS, Hat, -⟩, -⟩
  obtain ⟨h1, h2⟩ := hS
  rw [crK_end] at h2
  have hs : S = crD l := by
    refine Finset.Subset.antisymm h1 fun d hd => by_contra fun hn => ?_
    have : 0 < (crD l \ S).card := Finset.card_pos.mpr ⟨d, Finset.mem_sdiff.mpr ⟨hd, hn⟩⟩
    omega
  subst hs
  ihave #HI := (Recs_inv xs A K ι (cr_mem c l)) $$ HR
  imod (Rounds.fupd_skip ER (sched xs A) (κ := K (crC c l)) (g := crC c l) (R := 0) (m := crK l (dB l 128)) (T := crD l)
      (by rw [duties_cr, if_pos rfl]) (by
        rw [crK_end]
        unfold Schedule.expect Schedule.amountOf
        rw [duties_cr, if_pos rfl, Finset.sum_congr rfl fun d _ => amount_cr xs A c l 0 d]
        clear * -
        cases l <;> decide) (Set.mem_univ _)) $$ [Hat] with ⟨Hat, -⟩
  · isplitr; · iexact HI
    iexact Hat
  iapply (close xs A K ι (cr_mem c l) (0 + 1) fun r hr => by rw [duties_cr, if_neg (by omega)])
  isplitr; · iexact HR
  iexact Hat

/-! ## The pieces -/

theorem piece_slot (u : Fin 8) (p : Fin 2) (v : S32x4096.Idx → Elt F .f32) : (owns (c : Thread nD τ) (piece u p) fullShare v : sProp 𝕄) ⊢ slotL c u p := by
  unfold slotL slot owns
  iintro ⟨%f, -, H⟩
  iexists f; iexact H

/-- The last two arrivals' pieces are the lane's two pieces. -/
theorem lane_pieces (u : Fin 8) : iprop(kept xs c u (last u + 1) ∗ owns (c : Thread nD τ) (piece u (par (last u))) hR (X xs u (orig u (last u) c))
      ∗ owns (c : Thread nD τ) (piece u (par (last u - 1))) fullShare (X xs u (orig u (last u - 1) c)))
    ⊢ bigSep Finset.univ fun p => slotL (F := F) c u p := by
  have h := two_par (last u - 1) fun p => slotL (F := F) c u p
  rw [show last u - 1 + 1 = last u by clear h; revert u; decide] at h
  have e : iprop(owns (c : Thread nD τ) (piece u (par (last u))) hL (X xs u (orig u (last u) c)) ∗ owns (c : Thread nD τ) (piece u (par (last u))) hR (X xs u (orig u (last u) c)))
      ⊢ (owns (c : Thread nD τ) (piece u (par (last u))) fullShare (X xs u (orig u (last u) c)) : sProp 𝕄) := (owns_halves ..).2
  rw [show kept xs c u (last u + 1) = owns (c : Thread nD τ) (piece u (par (last u))) hL (X xs u (orig u (last u) c)) from rfl]
  iintro ⟨H1, H2, H3⟩
  iapply h
  isplitl [H3]; · iapply (piece_slot c u _ _) $$ H3
  iapply (piece_slot c u (par (last u)) (X xs u (orig u (last u) c)))
  iapply e
  isplitl [H1]; · iexact H1
  iexact H2

theorem leave_lane (u : Fin 8) : iprop(Recs xs A K ι ∗ kept xs c u (last u + 1) ∗ laneLeft xs c u)
    ⊢ (|={Set.univ}=> iprop((bigSep Finset.univ fun p => semVal (recvC c u p) 0) ∗ (bigSep Finset.univ fun p => semVal (sendC c u p) 0)
      ∗ (bigSep Finset.univ fun p => slotL (F := F) c u p) ∗ owns (c : Thread nD τ) (xpiece u) (hX u) (X xs u c)) : sProp 𝕄) := by
  unfold laneLeft xback
  iintro ⟨#HR, Hk, Hp, Hx, H1, H2⟩
  imod (close_lane xs A K ι c u) $$ [Hp] with ⟨Hr, Hs⟩
  · isplitr; · iexact HR
    iexact Hp
  imodintro
  isplitl [Hr]; · iexact Hr
  isplitl [Hs]; · iexact Hs
  isplitl [Hk H1 H2]
  · iapply (lane_pieces xs c u)
    isplitl [Hk]; · iexact Hk
    isplitl [H1] <;> iassumption
  iexact Hx

theorem leave_bf (s : Fin 5) : iprop(Recs xs A K ι ∗ bfEnd (F := F) c s)
    ⊢ (|={Set.univ}=> iprop(semVal (bfsC c s) 0 ∗ semVal (bfrC c s) 0 ∗ slot ((bfs s).view.loc (c : Thread nD τ)) (bfs s).view.set
      ∗ slot ((bfd s).view.loc (c : Thread nD τ)) (bfd s).view.set) : sProp 𝕄) := by
  unfold bfEnd
  iintro ⟨#HR, H1, H2, H3, H4⟩
  imod (close xs A K ι (bfs_mem c s) 1 fun r hr => by rw [duties_bfs, if_neg (by omega)]) $$ [H1] with H1
  · isplitr; · iexact HR
    iexact H1
  imod (close xs A K ι (bfr_mem c s) 1 fun r hr => by rw [duties_bfr, if_neg (by omega)]) $$ [H2] with H2
  · isplitr; · iexact HR
    iexact H2
  imodintro
  isplitl [H1]; · iexact H1
  isplitl [H2]; · iexact H2
  isplitl [H3] <;> iassumption

/-! ## All of it -/

variable (ws : Dev nD → S4096x64.Idx → Elt F .f32)

/-- What a device has at the end. -/
def Done : sProp 𝕄 :=
  iprop((semVal (barC c) 0 ∗ (ownOf c fun g => semVal g 0) ∗ bufs c) ∗ (∃ W, owes (c : Thread nD τ) 0 W)
    ∗ (xLoc c ↦{fullShare} (xs c : Buf (Elt F) (xLoc c))) ∗ (wLoc c ↦{fullShare} (ws c : Buf (Elt F) (wLoc c)))
    ∗ (oLoc c ↦{fullShare} (quant (scaleT xs ws c) (Y xs c (Wc c ws)) : Buf (Elt F) (oLoc c))))

theorem BF_five : BF (F := F) c 5 ⊢ iprop((∃ W, owes (c : Thread nD τ) 0 W) ∗ bigSep Finset.univ fun s => bfEnd c s) := by
  unfold BF ow
  rw [show 266 + 5 = 271 from rfl, owed_end, show (Finset.univ.filter fun s : Fin 5 => s.val < 5) = Finset.univ by decide]
  iintro ⟨HO, -, H⟩
  isplitl [HO] <;> iassumption

theorem leave [∀ e, Nonempty (Elt F e)] : iprop(Recs xs (amT xs ws) K ι ∗ After xs c ws) ⊢ (|={Set.univ}=> Done xs c ws : sProp 𝕄) := by
  have e1 : iprop(Recs xs (amT xs ws) K ι ∗ (bigSep Finset.univ fun u => kept xs c u (last u + 1)) ∗ bigSep Finset.univ fun u => laneLeft xs c u)
      ⊢ (|={Set.univ}=> iprop((bigSep Finset.univ fun q : Fin 8 × Fin 2 => semVal (recvC c q.1 q.2) 0) ∗ (bigSep Finset.univ fun q : Fin 8 × Fin 2 => semVal (sendC c q.1 q.2) 0)
        ∗ (bigSep Finset.univ fun q : Fin 8 × Fin 2 => slotL (F := F) c q.1 q.2) ∗ bigSep Finset.univ fun u => owns (c : Thread nD τ) (xpiece u) (hX u) (X xs u c)) : sProp 𝕄) := by
    rw [bigSep_univ_prod, bigSep_univ_prod, bigSep_univ_prod, ← bigSep_sep', ← bigSep_sep', ← bigSep_sep', ← bigSep_sep']
    exact each_fupd Finset.univ fun u _ => leave_lane xs (amT xs ws) K ι c u
  have e2 : iprop(Recs xs (amT xs ws) K ι ∗ bigSep Finset.univ fun s => bfEnd (F := F) c s)
      ⊢ (|={Set.univ}=> iprop((bigSep Finset.univ fun s => semVal (bfsC c s) 0) ∗ (bigSep Finset.univ fun s => semVal (bfrC c s) 0)
        ∗ (bigSep Finset.univ fun s : Fin 5 => slot ((bfs s).view.loc (c : Thread nD τ)) (bfs s).view.set)
        ∗ bigSep Finset.univ fun s : Fin 5 => slot ((bfd s).view.loc (c : Thread nD τ)) (bfd s).view.set) : sProp 𝕄) := by
    rw [← bigSep_sep', ← bigSep_sep', ← bigSep_sep']
    exact each_fupd Finset.univ fun s _ => leave_bf xs (amT xs ws) K ι c s
  have e3 : iprop(Recs xs (amT xs ws) K ι ∗ bigSep Finset.univ fun l => crs (F := F) c l (dB l 128))
      ⊢ (|={Set.univ}=> bigSep Finset.univ fun l => semVal (crC c l) 0 : sProp 𝕄) :=
    each_fupd Finset.univ fun l _ => close_cr xs (amT xs ws) K ι c l
  unfold After Left
  iintro ⟨#HR, Hb, HB, ⟨Hl, Hk, Hc⟩, Hw, Ho⟩
  ihave HB := (BF_five (F := F) c) $$ HB
  icases HB with ⟨HO, HB⟩
  imod e1 $$ [Hk Hl] with ⟨HvR, HvS, Hp, Hx⟩
  · isplitr; · iexact HR
    isplitl [Hk] <;> iassumption
  imod e2 $$ [HB] with ⟨HvF, HvG, Hs, Hd⟩
  · isplitr; · iexact HR
    iexact HB
  imod e3 $$ [Hc] with HvC
  · isplitr; · iexact HR
    iexact Hc
  imod (close xs (amT xs ws) K ι (bar_mem c) 1 fun r hr => by rw [duties_bar, if_neg (by omega)]) $$ [Hb] with Hb
  · isplitr; · iexact HR
    iexact Hb
  imodintro
  unfold Done ownOf bufs
  ihave Hp := (of_pieces (F := F) c) $$ Hp
  icases Hp with ⟨Hp0, Hp1⟩
  isplitl [Hb HvR HvS HvF HvG HvC Hp0 Hp1 Hs Hd]
  · isplitl [Hb]; · iexact Hb
    isplitl [HvR HvS HvF HvG HvC]
    · isplitl [HvR]; · iexact HvR
      isplitl [HvS]; · iexact HvS
      isplitl [HvC]; · iexact HvC
      isplitl [HvF] <;> iassumption
    isplitl [Hp0]; · iexact Hp0
    isplitl [Hp1]; · iexact Hp1
    isplitl [Hs]; · iapply (of_srcs (F := F) c) $$ Hs
    iapply (of_lands (F := F) c) $$ Hd
  isplitl [HO]; · iexact HO
  isplitl [Hx]
  · rw [x_lanes]; iexact Hx
  isplitl [Hw] <;> iassumption

end Cert.Pf

end
-- ==== Proof.Launch.lean ====
/-
# 01_k — `Launch`: the run of the whole mesh

Each device starts with its records, its places and its tokens, runs its body and ends with every counter at zero; so
the run ends, the arguments unchanged and each device's result its quantised block.
-/
module

public import proofs.«01_k».proof.Proof.Kit
public import proofs.«01_k».proof.Proof.Body
public import proofs.«01_k».proof.Proof.Leave
public import Idealize.ShloMosaic.Lib.Pipeline.CollectiveSegs

@[expose] public section

set_option maxRecDepth 20000

noncomputable section

namespace Cert.Pf

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]
local notation "𝕄" => MT nD τ sig ℕ (Elt F) ℕ UU ℕ

variable (m : (ℓ : Loc nD τ sig) → Buf (Elt F) ℓ) (ρ : Dev nD → PrngReg)

/-- The devices' rows of `x` and columns of `w_mat`. -/
def xv (c : Dev nD) : S128x4096.Idx → Elt F .f32 := m ((c : Thread nD τ).loc main_arg0)
def wv (c : Dev nD) : S4096x64.Idx → Elt F .f32 := m ((c : Thread nD τ).loc main_arg1)
/-- A device's result. -/
def outv (c : Dev nD) : S4096x64.Idx → Elt F .f32 := quant (scaleT (xv m) (wv m) c) (Y (xv m) c (Wc c (wv m)))

abbrev GA : Dev nD → sProp 𝕄 := G' (xv m) (amT (xv m) (wv m))

/-- What a device starts from. -/
def start (c : Dev nD) : sProp 𝕄 := iprop(GA m c ∗ credsIn c ∗ levAts Lx lv)
def Φ₀ (c : Dev nD) : sProp 𝕄 := iprop(start m c ∗ bufs c)
def Φ₁ (c : Dev nD) : sProp 𝕄 := iprop(semVal (barC c) 0 ∗ (ownOf c fun g => semVal g 0) ∗ bufs c)

def dats (_ : Fin 1) (c : Dev nD) : Pipeline.Dat τ (Elt F) ℕ ℕ UU ℕ cfg0 c where
  A w := m ((cfg0.win w).arr.view.loc (c : Thread nD τ))
  after w _ := match w with
    | ⟨0, _⟩ => xv m c
    | ⟨1, _⟩ => wv m c
    | ⟨2, _⟩ => outv m c
  Φ t := match t with
    | ⟨0, _⟩ => Φ₀ m c
    | ⟨_ + 1, _⟩ => Φ₁ c
  q _ := fullShare
  owed t := match t with
    | ⟨0, _⟩ => owed c 0
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg' (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem before_x (c : Dev nD) (d) : (dats m 0 c).before (0 : Fin 3) t₀ d = xv m c := by
  unfold Pipeline.Dat.before
  rw [if_pos (fetch0_0 t₀)]
  exact blk_x (F := F) c _
theorem before_w (c : Dev nD) (d) : (dats m 0 c).before (1 : Fin 3) t₀ d = wv m c := by
  unfold Pipeline.Dat.before
  rw [if_pos (fetch0_1 t₀)]
  exact blk_w (F := F) c _

def pre (c : Dev nD) : sProp 𝕄 :=
  iprop(Φ₀ m c ∗ (dats m 0 c).owesAt 0 t₀.castSucc
    ∗ (∃ d, stg' c cc0_stg0_0 ((dats m 0 c).before (0 : Fin 3) t₀ d))
    ∗ (∃ d, stg' c cc0_stg1_0 ((dats m 0 c).before (1 : Fin 3) t₀ d))
    ∗ (∃ d, stg' c cc0_stg2_0 ((dats m 0 c).before (2 : Fin 3) t₀ d)))
def post (c : Dev nD) : sProp 𝕄 :=
  iprop(Φ₁ c ∗ (dats m 0 c).owesAt 0 t₀.succ ∗ stg' c cc0_stg0_0 (xv m c) ∗ stg' c cc0_stg1_0 (wv m c) ∗ stg' c cc0_stg2_0 (outv m c))

theorem finish (K : GSem nD τ sig → ℕ) (ι : Key → ℕ) (c : Dev nD) : iprop(Recs (xv m) (amT (xv m) (wv m)) K ι ∗ After (xv m) c (wv m)) ⊢ (|={Set.univ}=> post m c : sProp 𝕄) := by
  iintro H
  imod (leave (xv m) K ι c (wv m)) $$ H with H
  imodintro
  unfold Done post Φ₁ Pipeline.Dat.owesAt Pipeline.owesWithin
  rw [show (dats m 0 c).owed t₀.succ = 0 from rfl]
  icases H with ⟨Hs, ⟨%W, HO⟩, Hx, Hw, Ho⟩
  isplitl [Hs]; · iexact Hs
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

theorem rows_none (c : Dev nD) (r : ℕ) : ¬ rowsD c 0 r := fun ⟨_, h, _⟩ => absurd h (Nat.not_lt_zero _)

theorem body_sound (c : Dev nD) : pre m c ⊢ WP c (body (F := F)) fun _ => post m c := by
  unfold pre Φ₀ start GA G'
  simp only [before_x, before_w]
  iintro ⟨⟨⟨⟨%K, %ι, HR, Hp, Hd, Hwr, Hrd⟩, Hc, Hlev⟩, Hb⟩, HO, ⟨%_, %fx, %hx, Hx⟩, ⟨%_, %fw, %hw, Hw⟩, ⟨%_, %fo, -, Ho⟩⟩
  subst hx
  subst hw
  iapply (body_run (xv m) K ι c (wv m) (Q := fun _ => post m c) (finish m K ι c))
  ihave Hin := (enter (F := F) c) $$ [Hp Hd Hwr Hrd Hc Hb]
  · unfold holds
    isplitl [Hp]; · iexact Hp
    isplitl [Hd]; · iexact Hd
    isplitl [Hwr]; · iexact Hwr
    isplitl [Hrd]; · iexact Hrd
    isplitl [Hc] <;> iassumption
  icases Hin with ⟨H1, H2, H3, H4, H5⟩
  unfold Recs recs
  icases HR with ⟨HR1, HR2⟩
  isplitl [HR1 HR2 Hlev]
  · isplitl [HR1]; · iexact HR1
    isplitl [HR2] <;> iassumption
  isplitl [HO H1 H2 H3 H4]
  · unfold Entry
    isplitl [HO]
    · unfold Pipeline.Dat.owesAt Pipeline.owesWithin ow
      rw [show (dats m 0 c).owed t₀.castSucc = owed c 0 from rfl]
      icases HO with ⟨%W, -, HO⟩
      iexists W; iexact HO
    isplitl [H1]; · iexact H1
    isplitl [H2]; · iexact H2
    isplitl [H3] <;> iassumption
  isplitl [Hx]; · iexact Hx
  isplitl [Hw]; · iexact Hw
  isplitl [Ho]
  · unfold Outs
    iexists fo
    isplitr
    · ipureintro; exact fun i h => absurd h (rows_none c _)
    iexact Ho
  iexact H5

set_option maxRecDepth 100000 in
/-- The pipeline's obligation for the body. -/
theorem body_obligation (c : Dev nD) : Pipeline.BodyObligation (dats m 0 c) (defs₀ (F := F)) 𝒱₀ 0 Set.univ := fun t => by
  rw [fin_N t]
  rw [bigSep_W, bigSep_W]
  simp only [owns_whole_eq]
  exact body_sound m c

/-! ## The launch -/

theorem share_eq (c : Dev nD) (w : Fin cfg0.W) : (dats m 0 c).share w = fullShare := by unfold Pipeline.Dat.share; split <;> rfl

def u₀ : UU := (initOf (Pipeline.cells cfgs cellOf_inj) (Pipeline.launchToks cfgs cellOf_inj), (initOf allC toks, initSlots allK 9))

theorem start_intro (c : Dev nD) :
    iprop(Pipeline.unscopedRestP Pipeline.Prefetch.none cfg0.spec c (fun b => m ((c : Thread nD τ).loc b)) ∗ levAts Lx lv
        ∗ Pipeline.launchCred (fun d => owed d 0) c ∗ prngReg c (ρ c) ∗ GA m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem bufs_rest (c : Dev nD) : (Pipeline.scopedRest (Ix := ℕ) (Name := ℕ) (U := UU) (Lvl := ℕ) (Val := Elt F) cfg0.spec c : sProp 𝕄) = bufs c :=
  scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, bufs_rest]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, bufs_rest, ownSems_eq, unscopedSems_eq]
  exact .rfl

theorem waits (c : Dev nD) : (levAts Lx lv : sProp 𝕄) ⊢ Pipeline.cellsWaits cfgs (dats m) 0 0 c :=
  Pipeline.cellsWaits_intro cfgs (dats m) 0 0 c fun w s t => by
    rcases t with ⟨_ | _, ht⟩
    · exact may c _ 0 0 (by decide) (by decide)
    · show _ ⊢ MayWait (c : Thread nD τ) _ 0 0
      rw [MayWait_zero]
      iintro -
      iempintro

/-! ## The run -/

def finalA (c : Dev nD) (w : Fin cfg0.W) : Buf (Elt F) ((cfg0.win w).arr.view.loc (c : Thread nD τ)) := (dats m 0 c).arrAt w cfg0.N

theorem run_all : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := fun d => owed d 0) (howed₀ := fun _ => rfl) (howedN := fun _ => rfl)
    (L := Lx) (lv := lv) (hL := Lx_of_ne) (hwaits := waits m)
    (G := G (xv m) (amT (xv m) (wv m))) (G' := GA m) (u₀ := u₀)
    (hu₀ := by
      unfold u₀
      iintro Hu
      ihave H := (ownU_pair _ _) $$ Hu
      icases H with ⟨HP, HX⟩
      imod (fund_all (xv m) (amT (xv m) (wv m))) $$ HX with HG
      imodintro
      isplitl [HP] <;> iassumption)
    (hglob := glob (xv m) (amT (xv m) (wv m)))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m c (0 : Fin 3) = m ((c : Thread nD τ).loc main_arg0) := (dats m 0 c).arrAt_in (0 : Fin 3) rfl _
theorem final_w (c : Dev nD) : finalA m c (1 : Fin 3) = m ((c : Thread nD τ).loc main_arg1) := (dats m 0 c).arrAt_in (1 : Fin 3) rfl _
theorem final_o (c : Dev nD) : finalA m c (2 : Fin 3) = outv m c := by
  have hw : ((cfg0.win 2).blk t₀).view.read (Elt F) (finalA m c 2) = (dats m 0 c).flushed 2 t₀ := by
    unfold finalA
    rw [show cfg0.N = t₀.val + 1 from rfl, (dats m 0 c).arrAt_succ (2 : Fin 3) t₀, flush0_2, if_pos rfl]
    exact View.read_write_univ _ _
  exact (blk_o (F := F) c _).symm.trans (hw.trans (funext fun _ => rfl))

/-- The run: it ends, the arguments unchanged, each device's result as computed, every counter at zero. -/
theorem run_main : θ_run defs (onTc (τ := τ) (main (F := F))) ⟨m, fun _ => 0, ρ⟩ (fun r =>
    (∀ c : Dev nD, r.2.mem ((c.tc : Thread nD τ).loc main_v1) = outv m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c 2).trans (final_o m c), (h.1 c 0).trans (final_x m c), (h.1 c 1).trans (final_w m c)⟩, h.2⟩) (run_all m ρ)

end Cert.Pf

end
-- ==== Proof.Frames.lean ====
/-
# 01_k — `Frames`: both printed programs run and leave their arguments as they were
-/
module

public import proofs.«01_k».proof.Defs
public import proofs.«01_k».proof.Proof.FactsKernel
public import proofs.«01_k».proof.Proof.Launch

@[expose] public section

set_option maxRecDepth 100000

noncomputable section

namespace Cert.Pf

open Idealize.ShloMosaic Idealize.SL.Sem

variable {F : FTy → Type} [FloatOps F]

/-! The printed kernel and its ideal reading are one text; only the names of their side conditions differ. -/

theorem same_body : @Cert.Kernel.cc0_body F _ factsK = @Cert.KernelIdeal.cc0_body F _ factsI := rfl

theorem same_bodies : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem same_defs : Cert.Kernel.defs (F := F) = Cert.KernelIdeal.defs (F := F) := by
  unfold Cert.Kernel.defs Cert.KernelIdeal.defs
  exact congrArg (Pipeline.defs Cert.KernelIdeal.pcfgs) same_bodies

/-- The ideal reading runs to the end, leaving its arguments and every counter as they were. -/
theorem frame_kernelIdeal : Cert.quiescent_KernelIdeal := fun m ρ _ =>
  (θ_run Cert.KernelIdeal.defs _ _).mono (fun _ h => ⟨fun c => (h.1 c).2, h.2⟩) (run_main (F := Ideal) m ρ)

/-- A run of the ideal reading's text, at any values, is a run of the kernel's. -/
theorem run_same (m : (ℓ : Loc Cert.Kernel.nD Cert.Kernel.τ Cert.Kernel.sig) → Buf (Elt F) ℓ)
    (ρ : Dev Cert.Kernel.nD → PrngReg) (Q)
    (h : θ_run (Cert.KernelIdeal.defs (F := F)) (onTc (τ := Cert.KernelIdeal.τ) Cert.KernelIdeal.main) ⟨m, fun _ => 0, ρ⟩ Q) :
    θ_run (Cert.Kernel.defs (F := F)) (onTc (τ := Cert.Kernel.τ) Cert.Kernel.main) ⟨m, fun _ => 0, ρ⟩ Q :=
  (congrArg (fun d => θ_run d (onTc (τ := Cert.Kernel.τ) (Cert.Kernel.main (F := F))) ⟨m, fun _ => 0, ρ⟩ Q) same_defs).mpr h

theorem frame_kernel : Cert.quiescent_Kernel := fun m ρ _ =>
  run_same m ρ _ ((θ_run (Cert.KernelIdeal.defs (F := Bits)) _ _).mono (fun _ h => ⟨fun c => (h.1 c).2, h.2⟩) (run_main (F := Bits) m ρ))

end Cert.Pf

end
-- ==== Proof.Values.lean ====
/-
# 01_k — `Values`: what the kernel's output holds, over the extended reals

An entry of a product is a sum of 4096 products or zero, whichever is greater; the largest entry of a block lies below a
bound exactly when every entry does; and the butterfly's maximum lies below a bound exactly when every device's maximum does.
-/
module

public import proofs.«01_k».proof.Proof.Parts
public import proofs.«01_k».proof.Proof.FactsKernelIdeal
public import Idealize.ShloMosaic.Lib.ValueIdx
public import Idealize.ShloMosaic.Lib.MatmulPlain
public import Idealize.ShloMosaic.PureOps.Ideal.Laws

@[expose] public section

set_option maxRecDepth 20000

noncomputable section

namespace Cert.Pf

open Cert.KernelIdeal
open Idealize.ShloMosaic

/-- An entry of a product of a row with a column, or zero. -/
def entry {M N : ℕ} (x : (⟨2, ![M, 4096]⟩ : Shape).Idx → EReal) (w : (⟨2, ![4096, N]⟩ : Shape).Idx → EReal) (r : Fin M) (j : Fin N) : EReal :=
  max (∑ k : Fin 4096, x (ValueIdx.ix2 r k) * w (ValueIdx.ix2 k j)) 0

theorem mm_at (x : FVec Ideal S128x4096 .f32) (w : FVec Ideal S4096x64 .f32) (r : Fin 128) (j : Fin 64) :
    mm x w (ValueIdx.ix2 r j) = entry x w r j := by
  have e := Ideal.matmul_plain_apply (M := 128) (K := 4096) (N := 64) none x w (constant S128x64 .f32 0x00000000#32) r j
  have z : Ideal.ofBits .f32 0x00000000#32 = 0 := Ideal.ofBits_zero_f32
  unfold mm entry
  rw [ValueIdx.maximumf_apply]
  refine congrArg₂ max (e.trans ?_) z
  rw [ValueIdx.constant_apply, z, zero_add]

theorem mmH_at (x : FVec Ideal S64x4096 .f32) (w : FVec Ideal S4096x64 .f32) (r : Fin 64) (j : Fin 64) :
    mmH x w (ValueIdx.ix2 r j) = entry x w r j := by
  have e := Ideal.matmul_plain_apply (M := 64) (K := 4096) (N := 64) none x w (constant S64x64 .f32 0x00000000#32) r j
  have z : Ideal.ofBits .f32 0x00000000#32 = 0 := Ideal.ofBits_zero_f32
  unfold mmH entry
  rw [ValueIdx.maximumf_apply]
  refine congrArg₂ max (e.trans ?_) z
  rw [ValueIdx.constant_apply, z, zero_add]

/-- The product of half of a device's rows is that half of the product. -/
theorem mmH3_at (b : Bool) (x : S128x4096.Idx → EReal) (w : FVec Ideal S4096x64 .f32) (r : Fin 64) (j : Fin 64)
    (h : (bif b then 64 else 0) + r.val < 128) :
    mmH3 (F := Ideal) (half3 (F := Ideal) b x) w (ValueIdx.ix2 r j) = entry x w ⟨(bif b then 64 else 0) + r.val, h⟩ j := by
  unfold mmH3
  rw [mmH_at]
  unfold entry
  congr 1
  refine Finset.sum_congr rfl fun k _ => ?_
  congr 1
  refine (shapeCast_dropUnit_apply ![64, 4096] _ _ (ValueIdx.ix2 r k)).trans ?_
  rfl

/-! ## Largest entries -/

theorem negInf : Ideal.ofBits .f32 0xFF800000#32 = ⊥ := by simp [Ideal.ofBits, Ideal.ieee]

/-- A maximum over everything lies below a bound exactly when every entry does. -/
theorem total_le {s t : Shape} {axes : List (Fin s.rank)} (ht : ∀ b, t.size b = 1) (src : FVec Ideal s .f32)
    (h : s.Reduces axes t) (hφ : FKind.Formats .f32) (hacc : (0xFF800000#32 : BitVec 32) = FKind.maximumf.neutral .f32 hφ) (j : t.Idx) (a : EReal) :
    multiReduction .maximumf axes t src 0xFF800000#32 h hφ hacc j ≤ a ↔ ∀ i, src i ≤ a := by
  rw [multiReduction_maximumf_eq_fold, Finset.filter_true_of_mem fun i _ => funext fun b => Fin.ext (by
    have := (h.drop i b).isLt; have := (j b).isLt; have := ht b; omega)]
  have e := Finset.fold_max_le (s := Finset.univ) (f := src) (b := (⊥ : EReal)) a
  rw [← negInf] at e
  refine e.trans ⟨fun H i => H.2 i (Finset.mem_univ i), fun H => ⟨?_, fun i _ => H i⟩⟩
  rw [negInf]; exact bot_le

theorem cast_le {s t : Shape} (y : s.Idx → EReal) (h : s.ShapeCasts t) (a : EReal) : (∀ i, shapeCast t y h i ≤ a) ↔ ∀ i, y i ≤ a :=
  ⟨fun H i => by
    have := H ((Shape.reshapeEquiv h).symm i)
    unfold shapeCast at this
    rwa [Equiv.apply_symm_apply] at this, fun H i => H _⟩

theorem amx_le (y : FVec Ideal S128x64 .f32) (a : EReal) : amx (F := Ideal) y ≤ a ↔ ∀ i, y i ≤ a := by
  unfold amx extractAt
  unfold shapeCast
  exact (total_le (by decide) _ _ _ _ _ a).trans (cast_le y _ a)

theorem amxH_le (y : FVec Ideal S64x64 .f32) (a : EReal) : amxH (F := Ideal) y ≤ a ↔ ∀ i, y i ≤ a := by
  unfold amxH extractAt
  unfold shapeCast
  exact (total_le (by decide) _ _ _ _ _ a).trans (cast_le y _ a)

/-! ## The devices' maximum -/

variable (xs : Dev nD → S128x4096.Idx → EReal) (ws : Dev nD → S4096x64.Idx → EReal)

theorem Wc_eq (c : Dev nD) : Wc (F := Ideal) c ws = ws c := shapeCast_self _ _

/-- An entry of a device's output block before the quantisation. -/
theorem Y_at (c : Dev nD) (W : FVec Ideal S4096x64 .f32) (i : S4096x64.Idx) (h : (i 0).val / 128 < 32) :
    Y (F := Ideal) xs c W i = entry (xs ⟨(i 0).val / 128, h⟩) W ⟨(i 0).val % 128, Nat.mod_lt _ (by decide)⟩ (i 1) := by
  unfold Y
  split
  · rename_i e
    split
    · rename_i hl
      refine (mmH3_at false _ W _ _ (by show 0 + (i 0).val % 128 % 64 < 128; omega)).trans ?_
      rw [← e]
      congr 1
      exact Fin.ext (by show 0 + (i 0).val % 128 % 64 = (i 0).val % 128; have hl' : (i 0).val % 128 < 64 := hl; omega)
    · rename_i hl
      refine (mmH3_at true _ W _ _ (by show 64 + (i 0).val % 128 % 64 < 128; omega)).trans ?_
      rw [← e]
      congr 1
      exact Fin.ext (by show 64 + (i 0).val % 128 % 64 = (i 0).val % 128; have hm : (i 0).val % 128 < 128 := Nat.mod_lt _ (by decide); generalize (i 0).val % 128 = q at *; have hl' : ¬ q < 64 := hl; omega)
  · exact mm_at _ W _ _

variable (a : EReal)

/-- Every entry of device `d`'s rows by device `c`'s columns lies below `a`. -/
def below (c d : Dev nD) : Prop := ∀ r j, entry (xs d) (ws c) r j ≤ a

theorem mm_le (c d : Dev nD) : amx (F := Ideal) (mm (xs d) (ws c)) ≤ a ↔ below xs ws a c d := by
  rw [amx_le]
  refine ⟨fun H r j => (mm_at (xs d) (ws c) r j).symm.trans_le (H _), fun H i => ?_⟩
  rw [ValueIdx.eq_ix2 (n0 := 128) (n1 := 64) i]
  exact (mm_at (xs d) (ws c) (i 0) (i 1)).trans_le (H _ _)

theorem halves_le (c d : Dev nD) :
    (amxH (F := Ideal) (mmH3 (half3 (F := Ideal) false (xs d)) (ws c)) ≤ a ∧ amxH (F := Ideal) (mmH3 (half3 (F := Ideal) true (xs d)) (ws c)) ≤ a) ↔ below xs ws a c d := by
  rw [amxH_le, amxH_le]
  refine ⟨fun ⟨H, H'⟩ r j => ?_, fun H => ⟨fun i => ?_, fun i => ?_⟩⟩
  · have hr := r.isLt
    by_cases h : r.val < 64
    · have e := H (ValueIdx.ix2 ⟨r.val, h⟩ j)
      rw [mmH3_at false (xs d) (ws c) ⟨r.val, h⟩ j (by show 0 + r.val < 128; omega)] at e
      refine le_trans (le_of_eq ?_) e
      congr 1
      exact Fin.ext (by show r.val = 0 + r.val; omega)
    · have e := H' (ValueIdx.ix2 ⟨r.val - 64, by omega⟩ j)
      rw [mmH3_at true (xs d) (ws c) ⟨r.val - 64, by omega⟩ j (by show 64 + (r.val - 64) < 128; omega)] at e
      refine le_trans (le_of_eq ?_) e
      congr 1
      exact Fin.ext (by show r.val = 64 + (r.val - 64); omega)
  · rw [ValueIdx.eq_ix2 (n0 := 64) (n1 := 64) i]
    have hi : (i 0).val < 64 := (i 0).isLt
    exact (mmH3_at false (xs d) (ws c) (i 0) (i 1) (by show 0 + (i 0).val < 128; omega)).trans_le (H _ _)
  · rw [ValueIdx.eq_ix2 (n0 := 64) (n1 := 64) i]
    have hi : (i 0).val < 64 := (i 0).isLt
    exact (mmH3_at true (xs d) (ws c) (i 0) (i 1) (by show 64 + (i 0).val < 128; omega)).trans_le (H _ _)

theorem amH_le (c : Dev nD) (n : ℕ) : amH (F := Ideal) xs c ws n ≤ a
    ↔ below xs ws a c c ∧ ∀ h < n, below xs ws a c (orig 0 h c) ∧ below xs ws a c (orig 4 h c) := by
  induction n with
  | zero =>
    unfold amH
    rw [shapeCast_self, Wc_eq, mm_le]
    exact ⟨fun H => ⟨H, fun h hh => absurd hh (Nat.not_lt_zero h)⟩, fun H => H.1⟩
  | succ n ih =>
    have e : amH (F := Ideal) xs c ws (n + 1)
        = max (max (amH (F := Ideal) xs c ws n) (amx (F := Ideal) (mm (xs (orig 0 n c)) (ws c)))) (amx (F := Ideal) (mm (xs (orig 4 n c)) (ws c))) := by
      rw [← mm3_one3 (F := Ideal) (xs (orig 0 n c)), ← mm3_one3 (F := Ideal) (xs (orig 4 n c))]
      conv_rhs => rw [← Wc_eq ws c]
      rfl
    rw [e, max_le_iff, max_le_iff, mm_le, mm_le, ih]
    constructor
    · rintro ⟨⟨⟨H, Hh⟩, H0⟩, H4⟩
      refine ⟨H, fun h hh => ?_⟩
      rcases Nat.lt_succ_iff_lt_or_eq.mp hh with h' | rfl
      · exact Hh h h'
      · exact ⟨H0, H4⟩
    · rintro ⟨H, Hh⟩
      exact ⟨⟨⟨H, fun h hh => Hh h (Nat.lt_succ_of_lt hh)⟩, (Hh n (Nat.lt_succ_self n)).1⟩, (Hh n (Nat.lt_succ_self n)).2⟩

theorem rows_cover : ∀ c d : Dev nD, d = c ∨ d = opp c ∨ ∃ h : Fin 15, d = orig 0 h.val c ∨ d = orig 4 h.val c := by decide +kernel

/-- A device's own maximum lies below a bound exactly when all the entries of its columns do. -/
theorem amOwn_le (c : Dev nD) : amOwn (F := Ideal) xs c ws ≤ a ↔ ∀ d, below xs ws a c d := by
  have e : amOwn (F := Ideal) xs c ws = max (max (amH (F := Ideal) xs c ws 15) (amxH (F := Ideal) (mmH3 (half3 (F := Ideal) false (xs (opp c))) (ws c))))
      (amxH (F := Ideal) (mmH3 (half3 (F := Ideal) true (xs (opp c))) (ws c))) := by
    conv_rhs => rw [← Wc_eq ws c]
    rfl
  have eh := halves_le xs ws a c (opp c)
  have en := amH_le xs ws a c 15
  rw [e]
  generalize amH (F := Ideal) xs c ws 15 = A at en ⊢
  generalize amxH (F := Ideal) (mmH3 (half3 (F := Ideal) false (xs (opp c))) (ws c)) = H₁ at eh ⊢
  generalize amxH (F := Ideal) (mmH3 (half3 (F := Ideal) true (xs (opp c))) (ws c)) = H₂ at eh ⊢
  rw [max_le_iff, max_le_iff, and_assoc, eh, en]
  clear eh en e
  refine ⟨fun H d => ?_, fun H => ⟨⟨H c, fun h _ => ⟨H (orig 0 h c), H (orig 4 h c)⟩⟩, H (opp c)⟩⟩
  obtain e | e | ⟨h, e | e⟩ := rows_cover c d
  · rw [e]; exact H.1.1
  · rw [e]; exact H.2
  · rw [e]; exact (H.1.2 h.val h.isLt).1
  · rw [e]; exact (H.1.2 h.val h.isLt).2

/-- The devices whose maxima have reached device `c` after `s` stages of the butterfly. -/
def reachedBy : ℕ → Dev nD → Finset (Dev nD)
  | 0, c => {c}
  | s + 1, c => reachedBy s c ∪ reachedBy s (partner ⟨s % 5, Nat.mod_lt _ (by decide)⟩ c)

theorem reached_all : ∀ c : Dev nD, reachedBy 5 c = Finset.univ := by decide +kernel

theorem amT_le (s : ℕ) : ∀ c : Dev nD, amT (F := Ideal) xs ws s c ≤ a ↔ ∀ c' ∈ reachedBy s c, ∀ d, below xs ws a c' d := by
  induction s with
  | zero => intro c; exact (amOwn_le xs ws a c).trans ⟨fun H c' h' => by rw [Finset.mem_singleton.mp h']; exact H, fun H => H c (Finset.mem_singleton_self c)⟩
  | succ s ih =>
    intro c
    have e : amT (F := Ideal) xs ws (s + 1) c
        = max (amT (F := Ideal) xs ws s c) (amT (F := Ideal) xs ws s (partner ⟨s % 5, Nat.mod_lt _ (by decide)⟩ c)) := rfl
    rw [e, max_le_iff, ih, ih]
    show _ ↔ ∀ c' ∈ reachedBy s c ∪ reachedBy s _, _
    exact ⟨fun H c' h' => (Finset.mem_union.mp h').elim (H.1 c') (H.2 c'),
      fun H => ⟨fun c' h' => H c' (Finset.mem_union_left _ h'), fun c' h' => H c' (Finset.mem_union_right _ h')⟩⟩

/-- After the butterfly every device's maximum lies below a bound exactly when all the entries of all the devices do. -/
theorem amax_le (c : Dev nD) : amT (F := Ideal) xs ws 5 c ≤ a ↔ ∀ c' d, below xs ws a c' d := by
  rw [amT_le, reached_all]
  exact ⟨fun H c' => H c' (Finset.mem_univ c'), fun H c' _ => H c'⟩

end Cert.Pf

end
-- ==== Proof.Quant.lean ====
/-
# 01_k — `Quant`: the clip changes nothing

An entry between zero and the largest entry, divided by the scale the largest entry gives, lies between zero and 448 or is
multiplied by a zero scale: the reference's clip to ±448 changes nothing of the product.
-/
module

public import Idealize.ShloMosaic.Lib.ValueIdx
public import Idealize.ShloMosaic.PureOps.Ideal.Laws

@[expose] public section

noncomputable section

namespace Cert.Pf

open Idealize.ShloMosaic

theorem top448 : Ideal.ofBits .f32 0x43E00000#32 = ((448 : ℝ) : EReal) := by
  simp [Ideal.ofBits, Ideal.ieee, -EReal.coe_mul]; norm_num
theorem low448 : Ideal.ofBits .f32 0xC3E00000#32 = ((-448 : ℝ) : EReal) := by
  simp [Ideal.ofBits, Ideal.ieee, -EReal.coe_mul, -EReal.coe_neg]; norm_num

/-- A quotient clipped to ±448 and multiplied back. -/
def settle (y s : EReal) : EReal :=
  min (Ideal.ofBits .f32 0x43E00000#32) (max (Ideal.ofBits .f32 0xC3E00000#32) (Ideal.div y s)) * s

theorem scale_real (M : EReal) : Ideal.div M (Ideal.ofBits .f32 0x43E00000#32) = M * (((448 : ℝ)⁻¹ : ℝ) : EReal) := by
  unfold Ideal.div
  rw [top448, if_neg (by norm_num), EReal.coe_inv]

/-- The clip does nothing to a quotient that lies within it. -/
theorem settle_mid (y s : EReal) (h0 : 0 ≤ Ideal.div y s) (h1 : Ideal.div y s ≤ ((448 : ℝ) : EReal)) : settle y s = Ideal.div y s * s := by
  unfold settle
  rw [top448, low448, max_eq_right (le_trans (by exact_mod_cast (by norm_num : (-448 : ℝ) ≤ 0)) h0), min_eq_right h1]

/-- The clip changes nothing, at a scale that the largest entry gives. -/
theorem settle_eq (y M : EReal) (h0 : 0 ≤ y) (h1 : y ≤ M) :
    settle y (Ideal.div M (Ideal.ofBits .f32 0x43E00000#32))
      = Ideal.div y (Ideal.div M (Ideal.ofBits .f32 0x43E00000#32)) * Ideal.div M (Ideal.ofBits .f32 0x43E00000#32) := by
  rw [scale_real]
  have hM : 0 ≤ M := h0.trans h1
  have hc : (0 : ℝ) < (448 : ℝ)⁻¹ := by norm_num
  induction M using EReal.rec with
  | bot => exact absurd hM (by simp)
  | top =>
    rw [EReal.top_mul_coe_of_pos hc]
    have e : Ideal.div y ⊤ = 0 := by
      unfold Ideal.div
      rw [if_neg EReal.top_ne_zero, EReal.inv_top, mul_zero]
    exact settle_mid y ⊤ (by rw [e]) (by rw [e]; exact_mod_cast (by norm_num : (0 : ℝ) ≤ 448))
  | coe M =>
    have hy : y ≠ ⊤ := fun e => by rw [e] at h1; exact absurd h1 (by simp)
    have hy' : y ≠ ⊥ := fun e => by rw [e] at h0; exact absurd h0 (by simp)
    lift y to ℝ using ⟨hy, hy'⟩
    have a0 : (0 : ℝ) ≤ y := by exact_mod_cast h0
    have a1 : y ≤ M := by exact_mod_cast h1
    rw [← EReal.coe_mul]
    by_cases hz : M = 0
    · subst hz
      rw [zero_mul]
      unfold settle
      rw [EReal.coe_zero, mul_zero, mul_zero]
    · have hp : 0 < M := lt_of_le_of_ne (a0.trans a1) (Ne.symm hz)
      have hs : M * (448 : ℝ)⁻¹ ≠ 0 := by positivity
      have e : Ideal.div (y : EReal) ((M * (448 : ℝ)⁻¹ : ℝ) : EReal) = ((y * (M * (448 : ℝ)⁻¹)⁻¹ : ℝ) : EReal) := by
        unfold Ideal.div
        rw [if_neg (by exact_mod_cast hs), ← EReal.coe_inv, ← EReal.coe_mul]
      refine settle_mid _ _ ?_ ?_
      · rw [e]; exact_mod_cast (by positivity)
      · rw [e]
        refine EReal.coe_le_coe_iff.2 ?_
        rw [← div_eq_mul_inv, div_le_iff₀ (by positivity)]
        linarith

end Cert.Pf

end
-- ==== Proof.Reference.lean ====
/-
# 01_k — `Reference`: what the reference's result holds, over the extended reals

Each entry of the product or zero, divided by the scale, clipped to ±448 and multiplied back; the scale is the largest
entry over 448.
-/
module

public import proofs.«01_k».proof.Proof.Gen.ReferenceIdeal.Value
public import proofs.«01_k».proof.Proof.Values
public import proofs.«01_k».proof.Proof.Quant
public import Idealize.ShloMosaic.Lib.StackMember
public import Idealize.ShloMosaic.Lib.IdealHost

@[expose] public section

set_option maxRecDepth 20000

noncomputable section

namespace Cert.Pf.Ref

open Cert.ReferenceIdeal Cert.ReferenceIdeal.Gen
open Idealize.ShloMosaic Idealize.ShloMosaic.TcCoe
open Cert.Pf (entry negInf settle)

/-- The products, and zero where they are negative. -/
def act (x : FVec Ideal S4096x4096 .f32) (w : FVec Ideal S4096x2048 .f32) : FVec Ideal S4096x2048 .f32 :=
  maximumf (Host.dotGeneral dot_S4096x4096_S4096x2048_S4096x2048_1_0_0_1_n_n none x w)
    (broadcastInDim S4096x2048 ![] Facts₀.bcast_S_S4096x2048 (constant S_ .f32 0x00000000#32))
/-- The largest of them, as an array of no axes. -/
def big (x : FVec Ideal S4096x4096 .f32) (w : FVec Ideal S4096x2048 .f32) : FVec Ideal S_ .f32 :=
  Host.reduce FloatOps.maximumf (Host.absf (act x w)) (constant S_ .f32 0xFF800000#32) Facts₀.reducesTo_S4096x2048_S_d0_1 Facts₀.h_S_
/-- The scale. -/
def scl (x : FVec Ideal S4096x4096 .f32) (w : FVec Ideal S4096x2048 .f32) : FVec Ideal S_ .f32 :=
  Host.divf (big x w) (constant S_ .f32 0x43E00000#32)

theorem act_at (x : FVec Ideal S4096x4096 .f32) (w : FVec Ideal S4096x2048 .f32) (r : Fin 4096) (j : Fin 2048) :
    act x w (ValueIdx.ix2 r j) = entry x w r j := by
  have z : Ideal.ofBits .f32 0x00000000#32 = 0 := Ideal.ofBits_zero_f32
  unfold act entry
  rw [ValueIdx.maximumf_apply]
  refine congrArg₂ max (StackMember.dotGeneral_plain_apply (m := 4096) (k := 4096) (n := 2048) none x w r j) ?_
  exact (ValueIdx.broadcastInDim_scalar_apply _ _ _).trans z

theorem act_eq (x : FVec Ideal S4096x4096 .f32) (w : FVec Ideal S4096x2048 .f32) (i : S4096x2048.Idx) : act x w i = entry x w (i 0) (i 1) := by
  refine Eq.trans (congrArg (act x w) ?_) (act_at x w (i 0) (i 1))
  funext a
  match a with
  | ⟨0, _⟩ => rfl
  | ⟨1, _⟩ => rfl

theorem entry_nonneg {M N : ℕ} (x : (⟨2, ![M, 4096]⟩ : Shape).Idx → EReal) (w : (⟨2, ![4096, N]⟩ : Shape).Idx → EReal) (r : Fin M) (j : Fin N) :
    0 ≤ entry x w r j := le_max_right _ _

theorem big_le (x : FVec Ideal S4096x4096 .f32) (w : FVec Ideal S4096x2048 .f32) (k : S_.Idx) (a : EReal) :
    big x w k ≤ a ↔ ∀ r j, entry x w r j ≤ a := by
  have abs : ∀ i, Host.absf (act x w) i = entry x w (i 0) (i 1) := fun i => by
    refine Eq.trans (show _ = max (act x w i) (-(act x w i)) from rfl) ?_
    rw [act_eq]
    refine max_eq_left ?_
    have h := entry_nonneg x w (i 0) (i 1)
    exact (EReal.neg_le_zero.2 h).trans h
  unfold big
  rw [Host.reduce_eq_fold, Finset.filter_true_of_mem fun i _ => funext fun b => b.elim0]
  have e := Finset.fold_max_le (s := Finset.univ) (f := Host.absf (act x w)) (b := (⊥ : EReal)) a
  rw [← negInf] at e
  refine e.trans ⟨fun H r j => ?_, fun H => ⟨?_, fun i _ => ?_⟩⟩
  · have h := H.2 (ValueIdx.ix2 r j) (Finset.mem_univ _)
    rwa [abs] at h
  · rw [negInf]; exact bot_le
  · rw [abs]; exact H _ _

variable (m : (ℓ : Loc nD τ sig) → Buf (Elt Ideal) ℓ) (ρ : Dev nD → PrngReg) (c : Dev nD)

theorem V_act : V m c main_v2 = act (m ((c : Thread nD τ).loc main_arg0)) (m ((c : Thread nD τ).loc main_arg1)) := by
  simp only [V, StableHlo.after_cons, StableHlo.after_nil]
  rfl
theorem V_scl : V m c main_v6 = shapeCast S1x1 (scl (m ((c : Thread nD τ).loc main_arg0)) (m ((c : Thread nD τ).loc main_arg1))) Facts₀.shapeCasts_S_S1x1 := by
  unfold scl big act
  unfold_abbrev_sides
  after_results
  rfl

theorem blk_y (f : Buf (Elt Ideal) ((c : Thread nD τ).loc main_v2)) : (win0_0.blk t0_0).view.read (Elt Ideal) f = f :=
  Memref.read_access_unit_zero (Elt Ideal) main_v2 (show (fun a => (win0_0.index t0_0) a * main_v2.ty.shape.size a) = fun _ => 0 from funext fun a => by fin_cases a <;> decide)
    (fun a => by fin_cases a <;> decide) f
theorem blk_s (f : Buf (Elt Ideal) ((c : Thread nD τ).loc main_v6)) : (win0_1.blk t0_0).view.read (Elt Ideal) f = f :=
  Memref.read_access_unit_zero (Elt Ideal) main_v6 (show (fun a => (win0_1.index t0_0) a * main_v6.ty.shape.size a) = fun _ => 0 from funext fun a => by fin_cases a <;> decide)
    (fun a => by fin_cases a <;> decide) f
theorem blk_o (f : Buf (Elt Ideal) ((c : Thread nD τ).loc main_v7)) : (win0_2.blk t0_0).view.read (Elt Ideal) f = f :=
  Memref.read_access_unit_zero (Elt Ideal) main_v7 (show (fun a => (win0_2.index t0_0) a * main_v7.ty.shape.size a) = fun _ => 0 from funext fun a => by fin_cases a <;> decide)
    (fun a => by fin_cases a <;> decide) f

/-- The whole result. -/
def out (x : FVec Ideal S4096x4096 .f32) (w : FVec Ideal S4096x2048 .f32) : S4096x2048.Idx → EReal :=
  fun i => settle (entry x w (i 0) (i 1)) (Ideal.div (big x w (Shape.Idx.first Facts₀.h_S_)) (Ideal.ofBits .f32 0x43E00000#32))

theorem quotient (x : FVec Ideal S4096x4096 .f32) (w : FVec Ideal S4096x2048 .f32) (i : S4096x2048.Idx) :
    Value.E2 (F := Ideal) (act x w) (shapeCast S1x1 (scl x w) Facts₀.shapeCasts_S_S1x1) i = out x w i := by
  have s : ∀ k : S1x1.Idx, shapeCast S1x1 (scl x w) Facts₀.shapeCasts_S_S1x1 k
      = Ideal.div (big x w (Shape.Idx.first Facts₀.h_S_)) (Ideal.ofBits .f32 0x43E00000#32) := fun k =>
    (show shapeCast S1x1 (scl x w) Facts₀.shapeCasts_S_S1x1 k = scl x w (Shape.Idx.first Facts₀.h_S_) from
      congrArg (scl x w) (funext fun a => a.elim0)).trans rfl
  have y : act x w (Value.ix2_0 i) = entry x w (i 0) (i 1) := act_eq x w _
  show min _ (max _ (Ideal.div (act x w (Value.ix2_0 i)) (shapeCast S1x1 (scl x w) Facts₀.shapeCasts_S_S1x1 (Value.ix2_1 i))))
    * shapeCast S1x1 (scl x w) Facts₀.shapeCasts_S_S1x1 (Value.ix2_2 i) = _
  rw [s, y]
  rfl

theorem final : (dats m 0 c).arrAt 2 cfg0.N = out (m ((c : Thread nD τ).loc main_arg0)) (m ((c : Thread nD τ).loc main_arg1)) := by
  have h := Value.blocks2 m c t0_0 (by decide)
  have f := Value.flushed2 m c t0_0
  refine (blk_o c _).symm.trans (h.trans (f.trans ?_))
  funext i
  have e0 : View.ld (iblk m c 0 t0_0) r0_1 = act (m ((c : Thread nD τ).loc main_arg0)) (m ((c : Thread nD τ).loc main_arg1)) := by
    rw [← V_act m c]
    exact (View.ld_unit_zero (funext fun a => by fin_cases a <;> rfl) _ _).trans (blk_y c _)
  have e1 : View.ld (iblk m c 1 t0_0) r0_0 = shapeCast S1x1 (scl (m ((c : Thread nD τ).loc main_arg0)) (m ((c : Thread nD τ).loc main_arg1))) Facts₀.shapeCasts_S_S1x1 := by
    rw [← V_scl m c]
    exact (View.ld_unit_zero (funext fun a => by fin_cases a <;> rfl) _ _).trans (blk_s c _)
  show out0_2 (iblk m c 0 t0_0) (iblk m c 1 t0_0) i = _
  unfold out0_2
  rw [Value.canon2_eq]
  exact (congrArg₂ (fun a b => Value.E2 (F := Ideal) a b i) e0 e1).trans (quotient _ _ i)

end Cert.Pf.Ref

end
-- ==== Proof.Equal.lean ====
/-
# 01_k — `Equal`: the kernel computes the reference's blocks

Each device's rows and columns are blocks of the whole arrays, so its entries are entries of the whole product, its maximum
over all the devices is the whole maximum, and its block of the result is the reference's.
-/
module

public import proofs.«01_k».proof.Defs
public import proofs.«01_k».proof.Proof.Reference
public import proofs.«01_k».proof.Proof.Launch

@[expose] public section

set_option maxRecDepth 20000

noncomputable section

namespace Cert.Pf

open Cert.KernelIdeal
open Idealize.ShloMosaic Idealize.ShloMosaic.TcCoe
open Idealize.SL.Sem

variable (X : (⟨2, ![4096, 4096]⟩ : Shape).Idx → EReal) (W : (⟨2, ![4096, 2048]⟩ : Shape).Idx → EReal)

/-- A device's rows of the left array, and its columns of the right one. -/
abbrev rowsOf (d : Dev nD) : (⟨2, ![128, 4096]⟩ : Shape).Idx → EReal := Layout.block ⟨2, ![128, 4096]⟩ ⟨2, ![4096, 4096]⟩ 0 32 d X
abbrev colsOf (c : Dev nD) : (⟨2, ![4096, 64]⟩ : Shape).Idx → EReal := Layout.block ⟨2, ![4096, 64]⟩ ⟨2, ![4096, 2048]⟩ 1 32 c W

theorem row_lt (d : Dev nD) (r : Fin 128) : d.val * 128 + r.val < 4096 := by
  have := (show d.val < 32 from d.isLt); have := r.isLt; omega
theorem col_lt (c : Dev nD) (j : Fin 64) : c.val * 64 + j.val < 2048 := by
  have := (show c.val < 32 from c.isLt); have := j.isLt; omega

theorem rows_at (d : Dev nD) (r : Fin 128) (k : Fin 4096) : rowsOf X d (ValueIdx.ix2 r k) = X (ValueIdx.ix2 ⟨d.val * 128 + r.val, row_lt d r⟩ k) := by
  unfold rowsOf
  rw [Layout.block_apply]
  refine congrArg X (funext fun a => Fin.ext ?_)
  match a with
  | ⟨0, _⟩ => rfl
  | ⟨1, _⟩ => rfl
theorem cols_at (c : Dev nD) (k : Fin 4096) (j : Fin 64) : colsOf W c (ValueIdx.ix2 k j) = W (ValueIdx.ix2 k ⟨c.val * 64 + j.val, col_lt c j⟩) := by
  unfold colsOf
  rw [Layout.block_apply]
  refine congrArg W (funext fun a => Fin.ext ?_)
  match a with
  | ⟨0, _⟩ => rfl
  | ⟨1, _⟩ => rfl

/-- An entry of two blocks is an entry of the whole product. -/
theorem entry_block (c d : Dev nD) (r : Fin 128) (j : Fin 64) :
    entry (rowsOf X d) (colsOf W c) r j = entry X W ⟨d.val * 128 + r.val, row_lt d r⟩ ⟨c.val * 64 + j.val, col_lt c j⟩ := by
  unfold entry
  refine congrArg (max · 0) (Finset.sum_congr rfl fun k _ => ?_)
  rw [rows_at, cols_at]

/-- The maximum over the devices is the whole maximum. -/
theorem max_eq (c : Dev nD) (k) : amT (F := Ideal) (rowsOf X) (colsOf W) 5 c = Ref.big X W k := by
  refine eq_of_forall_ge_iff fun a => ?_
  rw [amax_le, Ref.big_le]
  refine ⟨fun H r j => ?_, fun H c' d r j => ?_⟩
  · have h := H ⟨j.val / 64, show j.val / 64 < 32 by have := j.isLt; omega⟩ ⟨r.val / 128, show r.val / 128 < 32 by have := r.isLt; omega⟩
      ⟨r.val % 128, Nat.mod_lt _ (by decide)⟩ ⟨j.val % 64, Nat.mod_lt _ (by decide)⟩
    rw [entry_block] at h
    refine le_of_eq_of_le (congrArg₂ (entry X W) (Fin.ext ?_) (Fin.ext ?_)) h
    · show r.val = r.val / 128 * 128 + r.val % 128; omega
    · show j.val = j.val / 64 * 64 + j.val % 64; omega
  · rw [entry_block]; exact H _ _

theorem quant_at (s : EReal) (v : FVec Ideal S4096x64 .f32) (i : S4096x64.Idx) : quant (F := Ideal) s v i = Ideal.div (v i) s * s := by
  unfold quant
  rw [shapeCast_self]
  rfl

theorem tiles_cols : Layout.Tiles (⟨2, ![4096, 64]⟩ : Shape) ⟨2, ![4096, 2048]⟩ 1 32 := by decide

/-- A device's result is its block of the reference's. -/
theorem block_eq (c : Dev nD) :
    quant (F := Ideal) (scaleT (F := Ideal) (rowsOf X) (colsOf W) c) (Y (F := Ideal) (rowsOf X) c (Wc (F := Ideal) c (colsOf W)))
      = Layout.block ⟨2, ![4096, 64]⟩ ⟨2, ![4096, 2048]⟩ 1 32 c (Ref.out X W) := by
  funext i
  have h0 : (i 0).val < 4096 := (i 0).isLt
  have h1 : (i 1).val < 64 := (i 1).isLt
  have hd : (i 0).val / 128 < 32 := by omega
  have hy := (Y_at (rowsOf X) c (colsOf W c) i hd).trans
    (entry_block X W c ⟨(i 0).val / 128, hd⟩ ⟨(i 0).val % 128, Nat.mod_lt _ (by decide)⟩ (i 1))
  rw [quant_at, Wc_eq, hy, Layout.block_apply]
  have s : scaleT (F := Ideal) (rowsOf X) (colsOf W) c
      = Ideal.div (Ref.big X W (Shape.Idx.first Cert.ReferenceIdeal.Facts₀.h_S_)) (Ideal.ofBits .f32 0x43E00000#32) := by
    rw [← max_eq X W c]; rfl
  rw [s]
  have e : ∀ (r : Fin 4096) (j : Fin 2048), entry X W r j ≤ Ref.big X W (Shape.Idx.first Cert.ReferenceIdeal.Facts₀.h_S_) :=
    (Ref.big_le X W _ _).1 le_rfl
  refine (settle_eq _ _ (Ref.entry_nonneg X W _ _) (e _ _)).symm.trans ?_
  have hr : (⟨(i 0).val / 128 * 128 + (i 0).val % 128, row_lt ⟨(i 0).val / 128, hd⟩ ⟨(i 0).val % 128, Nat.mod_lt _ (by decide)⟩⟩ : Fin 4096)
      = ((tiles_cols.idx c i) 0 : Fin 4096) :=
    Fin.ext (show (i 0).val / 128 * 128 + (i 0).val % 128 = (i 0).val by omega)
  have hj : (⟨c.val * 64 + (i 1).val, col_lt c (i 1)⟩ : Fin 2048) = ((tiles_cols.idx c i) 1 : Fin 2048) := Fin.ext (tiles_cols.idx_val c i 1).symm
  have hk : ∀ k : (⟨2, ![4096, 2048]⟩ : Shape).Idx, Ref.out X W k
      = settle (entry X W (k 0) (k 1)) (Ideal.div (Ref.big X W (Shape.Idx.first Cert.ReferenceIdeal.Facts₀.h_S_)) (Ideal.ofBits .f32 0x43E00000#32)) := fun _ => rfl
  rw [hk]
  generalize Ideal.div (Ref.big X W (Shape.Idx.first Cert.ReferenceIdeal.Facts₀.h_S_)) (Ideal.ofBits .f32 0x43E00000#32) = q
  exact congrArg (fun y => settle y q) (congrArg₂ (entry X W) hr hj)

theorem algebraic : Cert.algebraic_KernelIdeal_ReferenceIdeal := by
  intro m g m' g' _ hin
  refine ⟨Ref.out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).1.trans ?_, (h.1 c).2⟩) (run_main (F := Ideal) m g)
    have hx : xv (F := Ideal) m = rowsOf _ := funext fun c => (hin c).1
    have hw : wv (F := Ideal) m = colsOf _ := funext fun c => (hin c).2
    unfold outv
    rw [hx, hw]
    exact block_eq _ _ c
  · exact (θ_run Cert.ReferenceIdeal.defs _ _).mono (fun r h => ⟨(h 0).1.trans (Ref.final m' 0), (h 0).2⟩)
      (Cert.ReferenceIdeal.Value.run_blocks (F := Ideal) m' g')

end Cert.Pf

end
-- ==== Proof.lean ====
/-
# 01_k — the claims assembled
-/
module

public import proofs.«01_k».proof.Defs
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Pf.factsK, Cert.Pf.factsI, Cert.ReferenceIdeal.Gen.facts,
  Cert.Pf.frame_kernel, Cert.Pf.frame_kernelIdeal,
  fun m ρ _ => Cert.ReferenceIdeal.Gen.frame m ρ, trivial, Cert.Pf.algebraic⟩

end Cert.Proof

end
